-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_temperature [hPre_finite_temperature : Cert.Pre_finite_temperature.Facts] (m : (ℓ : Loc Cert.KernelIdeal.nD Cert.KernelIdeal.τ Cert.KernelIdeal.sig) → Buf (Elt Ideal) ℓ) : Prop :=
  ∀ c : Dev Cert.KernelIdeal.nD,
    (Cert.Pre_finite_temperature.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_temperature [hPre_finite_temperature : Cert.Pre_finite_temperature.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_temperature.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_finite_temperature [hKernelIdeal : Cert.KernelIdeal.Facts] [hPre_finite_temperature : Cert.Pre_finite_temperature.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_temperature m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_finite_temperature [hReferenceIdeal : Cert.ReferenceIdeal.Facts] [hPre_finite_temperature : Cert.Pre_finite_temperature.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_temperature m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def algebraic_KernelIdeal_ReferenceIdeal_pre_finite_temperature [hKernelIdeal : Cert.KernelIdeal.Facts] [hReferenceIdeal : Cert.ReferenceIdeal.Facts] [hPre_finite_temperature : Cert.Pre_finite_temperature.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_temperature m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernelIdeal : Cert.KernelIdeal.Facts) (hReferenceIdeal : Cert.ReferenceIdeal.Facts) (hPre_finite_temperature : Cert.Pre_finite_temperature.Facts),
    quiescent_KernelIdeal (hKernelIdeal := hKernelIdeal)
    ∧ quiescent_KernelIdeal_pre_finite_temperature (hKernelIdeal := hKernelIdeal) (hPre_finite_temperature := hPre_finite_temperature)
    ∧ quiescent_ReferenceIdeal (hReferenceIdeal := hReferenceIdeal)
    ∧ quiescent_ReferenceIdeal_pre_finite_temperature (hReferenceIdeal := hReferenceIdeal) (hPre_finite_temperature := hPre_finite_temperature)
    ∧ algebraic_KernelIdeal_ReferenceIdeal_pre_finite_temperature (hKernelIdeal := hKernelIdeal) (hReferenceIdeal := hReferenceIdeal) (hPre_finite_temperature := hPre_finite_temperature)
-- ==== Pre_finite_temperature.lean ====
abbrev S256 : Shape := ⟨1, ![256]⟩
abbrev S1x32 : Shape := ⟨2, ![1, 32]⟩
abbrev S1 : Shape := ⟨1, ![1]⟩
abbrev S8192x256 : Shape := ⟨2, ![8192, 256]⟩
abbrev S_ : Shape := ⟨0, ![]⟩
abbrev S512x288 : Shape := ⟨2, ![512, 288]⟩
abbrev S512 : Shape := ⟨1, ![512]⟩
abbrev S256x512 : Shape := ⟨2, ![256, 512]⟩
abbrev S8192x8x44 : Shape := ⟨3, ![8192, 8, 44]⟩
abbrev S8192x8 : Shape := ⟨2, ![8192, 8]⟩
abbrev S8x3 : Shape := ⟨2, ![8, 3]⟩
abbrev S8 : Shape := ⟨1, ![8]⟩
abbrev S1x8 : Shape := ⟨2, ![1, 8]⟩
abbrev S16x3 : Shape := ⟨2, ![16, 3]⟩
abbrev S16 : Shape := ⟨1, ![16]⟩
abbrev S1x16 : Shape := ⟨2, ![1, 16]⟩
abbrev S32x44 : Shape := ⟨2, ![32, 44]⟩
abbrev S32 : Shape := ⟨1, ![32]⟩
abbrev S12x44 : Shape := ⟨2, ![12, 44]⟩
abbrev S12 : Shape := ⟨1, ![12]⟩

class Facts : Prop where

variable [Facts]

def fn {F : FTy → Type} [FloatOps F] (main_arg0 : FVec F S256 .f32) (main_arg1 : FVec F S1x32 .f32) (main_arg2 : FVec F S1 .f32) (main_arg3 : FVec F S8192x256 .f32) (main_arg4 : FVec F S_ .f32) (main_arg5 : FVec F S512x288 .f32) (main_arg6 : FVec F S512 .f32) (main_arg7 : FVec F S256x512 .f32) (main_arg8 : FVec F S256 .f32) (main_arg9 : FVec F S8192x8x44 .f32) (main_arg10 : FVec F S8192x8 .f32) (main_arg11 : FVec F S8192x8 .f32) (main_arg12 : FVec F S8x3 .f32) (main_arg13 : FVec F S8 .f32) (main_arg14 : FVec F S1x8 .f32) (main_arg15 : FVec F S1 .f32) (main_arg16 : FVec F S16x3 .f32) (main_arg17 : FVec F S16 .f32) (main_arg18 : FVec F S1x16 .f32) (main_arg19 : FVec F S1 .f32) (main_arg20 : FVec F S32x44 .f32) (main_arg21 : FVec F S32 .f32) (main_arg22 : FVec F S12x44 .f32) (main_arg23 : FVec F S12 .f32) : IVec S_ 1 :=
  let main_cst : FVec F S_ .f32 := constant S_ .f32 0x7F800000#32
  let main_v0 : IVec S_ 1 := cmpf .olt main_arg4 main_cst
  main_v0
-- ==== KernelIdeal.lean ====
abbrev S256 : Shape := ⟨1, ![256]⟩
abbrev S1x32 : Shape := ⟨2, ![1, 32]⟩
abbrev S1 : Shape := ⟨1, ![1]⟩
abbrev S8192x256 : Shape := ⟨2, ![8192, 256]⟩
abbrev S_ : Shape := ⟨0, ![]⟩
abbrev S512x288 : Shape := ⟨2, ![512, 288]⟩
abbrev S512 : Shape := ⟨1, ![512]⟩
abbrev S256x512 : Shape := ⟨2, ![256, 512]⟩
abbrev S8192x8x44 : Shape := ⟨3, ![8192, 8, 44]⟩
abbrev S8192x8 : Shape := ⟨2, ![8192, 8]⟩
abbrev S8x3 : Shape := ⟨2, ![8, 3]⟩
abbrev S8 : Shape := ⟨1, ![8]⟩
abbrev S1x8 : Shape := ⟨2, ![1, 8]⟩
abbrev S16x3 : Shape := ⟨2, ![16, 3]⟩
abbrev S16 : Shape := ⟨1, ![16]⟩
abbrev S1x16 : Shape := ⟨2, ![1, 16]⟩
abbrev S32x44 : Shape := ⟨2, ![32, 44]⟩
abbrev S32 : Shape := ⟨1, ![32]⟩
abbrev S12x44 : Shape := ⟨2, ![12, 44]⟩
abbrev S12 : Shape := ⟨1, ![12]⟩
abbrev S1x256 : Shape := ⟨2, ![1, 256]⟩
abbrev S1x1 : Shape := ⟨2, ![1, 1]⟩
abbrev S1x512 : Shape := ⟨2, ![1, 512]⟩
abbrev S1x12 : Shape := ⟨2, ![1, 12]⟩
abbrev S64x128 : Shape := ⟨2, ![64, 128]⟩
abbrev S8x44 : Shape := ⟨2, ![8, 44]⟩
abbrev S38 : Shape := ⟨1, ![38]⟩
abbrev S512x256 : Shape := ⟨2, ![512, 256]⟩
abbrev S256x256 : Shape := ⟨2, ![256, 256]⟩
abbrev S256x1 : Shape := ⟨2, ![256, 1]⟩
abbrev S32x32 : Shape := ⟨2, ![32, 32]⟩
abbrev S32x1 : Shape := ⟨2, ![32, 1]⟩
abbrev S288x1 : Shape := ⟨2, ![288, 1]⟩
abbrev S288x128 : Shape := ⟨2, ![288, 128]⟩
abbrev S128x288 : Shape := ⟨2, ![128, 288]⟩
abbrev S128x128 : Shape := ⟨2, ![128, 128]⟩
abbrev S128 : Shape := ⟨1, ![128]⟩
abbrev S1x128 : Shape := ⟨2, ![1, 128]⟩
abbrev S512x512 : Shape := ⟨2, ![512, 512]⟩
abbrev S512x1 : Shape := ⟨2, ![512, 1]⟩
abbrev S512x128 : Shape := ⟨2, ![512, 128]⟩
abbrev S128x512 : Shape := ⟨2, ![128, 512]⟩
abbrev S256x128 : Shape := ⟨2, ![256, 128]⟩
abbrev S128x256 : Shape := ⟨2, ![128, 256]⟩
abbrev S1x64x128 : Shape := ⟨3, ![1, 64, 128]⟩
abbrev S1x1x1 : Shape := ⟨3, ![1, 1, 1]⟩
abbrev S1x8x44 : Shape := ⟨3, ![1, 8, 44]⟩
abbrev S8x32 : Shape := ⟨2, ![8, 32]⟩
abbrev S8x1 : Shape := ⟨2, ![8, 1]⟩
abbrev S1x1x8 : Shape := ⟨3, ![1, 1, 8]⟩
abbrev S8x8 : Shape := ⟨2, ![8, 8]⟩
abbrev S1x8x1 : Shape := ⟨3, ![1, 8, 1]⟩
abbrev S44 : Shape := ⟨1, ![44]⟩
abbrev S1x44 : Shape := ⟨2, ![1, 44]⟩
abbrev S1x3 : Shape := ⟨2, ![1, 3]⟩
abbrev S1x1x16 : Shape := ⟨3, ![1, 1, 16]⟩
abbrev S8192 : Shape := ⟨1, ![8192]⟩
abbrev S8237 : Shape := ⟨1, ![8237]⟩

abbrev nBuf : Space → Nat
  | .hbm => 43
  | .vmem => 30
  | .smem => 0
  | _ => 0

abbrev bufTy : (tb : Table) → Fin (tcTables nBuf tb) → BufTy
  | .hbm, ⟨0, _⟩ => ⟨S256, .f32⟩
  | .hbm, ⟨1, _⟩ => ⟨S1x32, .f32⟩
  | .hbm, ⟨2, _⟩ => ⟨S1, .f32⟩
  | .hbm, ⟨3, _⟩ => ⟨S8192x256, .f32⟩
  | .hbm, ⟨4, _⟩ => ⟨S_, .f32⟩
  | .hbm, ⟨5, _⟩ => ⟨S512x288, .f32⟩
  | .hbm, ⟨6, _⟩ => ⟨S512, .f32⟩
  | .hbm, ⟨7, _⟩ => ⟨S256x512, .f32⟩
  | .hbm, ⟨8, _⟩ => ⟨S256, .f32⟩
  | .hbm, ⟨9, _⟩ => ⟨S8192x8x44, .f32⟩
  | .hbm, ⟨10, _⟩ => ⟨S8192x8, .f32⟩
  | .hbm, ⟨11, _⟩ => ⟨S8192x8, .f32⟩
  | .hbm, ⟨12, _⟩ => ⟨S8x3, .f32⟩
  | .hbm, ⟨13, _⟩ => ⟨S8, .f32⟩
  | .hbm, ⟨14, _⟩ => ⟨S1x8, .f32⟩
  | .hbm, ⟨15, _⟩ => ⟨S1, .f32⟩
  | .hbm, ⟨16, _⟩ => ⟨S16x3, .f32⟩
  | .hbm, ⟨17, _⟩ => ⟨S16, .f32⟩
  | .hbm, ⟨18, _⟩ => ⟨S1x16, .f32⟩
  | .hbm, ⟨19, _⟩ => ⟨S1, .f32⟩
  | .hbm, ⟨20, _⟩ => ⟨S32x44, .f32⟩
  | .hbm, ⟨21, _⟩ => ⟨S32, .f32⟩
  | .hbm, ⟨22, _⟩ => ⟨S12x44, .f32⟩
  | .hbm, ⟨23, _⟩ => ⟨S12, .f32⟩
  | .hbm, ⟨24, _⟩ => ⟨S1x256, .f32⟩
  | .hbm, ⟨25, _⟩ => ⟨S1x1, .f32⟩
  | .hbm, ⟨26, _⟩ => ⟨S1x512, .f32⟩
  | .hbm, ⟨27, _⟩ => ⟨S1x256, .f32⟩
  | .hbm, ⟨28, _⟩ => ⟨S1x8, .f32⟩
  | .hbm, ⟨29, _⟩ => ⟨S1x1, .f32⟩
  | .hbm, ⟨30, _⟩ => ⟨S1x16, .f32⟩
  | .hbm, ⟨31, _⟩ => ⟨S1x1, .f32⟩
  | .hbm, ⟨32, _⟩ => ⟨S1x32, .f32⟩
  | .hbm, ⟨33, _⟩ => ⟨S1x12, .f32⟩
  | .hbm, ⟨34, _⟩ => ⟨S1x32, .f32⟩
  | .hbm, ⟨35, _⟩ => ⟨S1x1, .f32⟩
  | .hbm, ⟨36, _⟩ => ⟨S1x12, .f32⟩
  | .hbm, ⟨37, _⟩ => ⟨S64x128, .f32⟩
  | .hbm, ⟨38, _⟩ => ⟨S32, .f32⟩
  | .hbm, ⟨39, _⟩ => ⟨S1, .f32⟩
  | .hbm, ⟨40, _⟩ => ⟨S8192, .f32⟩
  | .hbm, ⟨41, _⟩ => ⟨S12, .f32⟩
  | .hbm, ⟨42, _⟩ => ⟨S8237, .f32⟩
  | .local _ .vmem, ⟨0, _⟩ => ⟨S1x32, .f32⟩
  | .local _ .vmem, ⟨1, _⟩ => ⟨S1x1, .f32⟩
  | .local _ .vmem, ⟨2, _⟩ => ⟨S1x12, .f32⟩
  | .local _ .vmem, ⟨3, _⟩ => ⟨S64x128, .f32⟩
  | .local _ .vmem, ⟨4, _⟩ => ⟨S8192x256, .f32⟩
  | .local _ .vmem, ⟨5, _⟩ => ⟨S512x288, .f32⟩
  | .local _ .vmem, ⟨6, _⟩ => ⟨S256x512, .f32⟩
  | .local _ .vmem, ⟨7, _⟩ => ⟨S1x256, .f32⟩
  | .local _ .vmem, ⟨8, _⟩ => ⟨S1x32, .f32⟩
  | .local _ .vmem, ⟨9, _⟩ => ⟨S1x1, .f32⟩
  | .local _ .vmem, ⟨10, _⟩ => ⟨S1x512, .f32⟩
  | .local _ .vmem, ⟨11, _⟩ => ⟨S1x256, .f32⟩
  | .local _ .vmem, ⟨12, _⟩ => ⟨S8x3, .f32⟩
  | .local _ .vmem, ⟨13, _⟩ => ⟨S1x8, .f32⟩
  | .local _ .vmem, ⟨14, _⟩ => ⟨S1x8, .f32⟩
  | .local _ .vmem, ⟨15, _⟩ => ⟨S1x1, .f32⟩
  | .local _ .vmem, ⟨16, _⟩ => ⟨S16x3, .f32⟩
  | .local _ .vmem, ⟨17, _⟩ => ⟨S1x16, .f32⟩
  | .local _ .vmem, ⟨18, _⟩ => ⟨S1x16, .f32⟩
  | .local _ .vmem, ⟨19, _⟩ => ⟨S1x1, .f32⟩
  | .local _ .vmem, ⟨20, _⟩ => ⟨S32x44, .f32⟩
  | .local _ .vmem, ⟨21, _⟩ => ⟨S1x32, .f32⟩
  | .local _ .vmem, ⟨22, _⟩ => ⟨S12x44, .f32⟩
  | .local _ .vmem, ⟨23, _⟩ => ⟨S1x12, .f32⟩
  | .local _ .vmem, ⟨24, _⟩ => ⟨S64x128, .f32⟩
  | .local _ .vmem, ⟨25, _⟩ => ⟨S1x512, .f32⟩
  | .local _ .vmem, ⟨26, _⟩ => ⟨S1x256, .f32⟩
  | .local _ .vmem, ⟨27, _⟩ => ⟨S8x44, .f32⟩
  | .local _ .vmem, ⟨28, _⟩ => ⟨S1x8, .f32⟩
  | .local _ .vmem, ⟨29, _⟩ => ⟨S1x8, .f32⟩
  | _, _ => ⟨S256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10_0 : Ref sig .tc := ⟨.hbm, 34, rfl⟩
abbrev main_v10_1 : Ref sig .tc := ⟨.hbm, 35, rfl⟩
abbrev main_v10_2 : Ref sig .tc := ⟨.hbm, 36, rfl⟩
abbrev main_v10_3 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_scratch14 : Ref sig .tc := ⟨.vmem, 18, rfl⟩
abbrev cc0_scratch15 : Ref sig .tc := ⟨.vmem, 19, rfl⟩
abbrev cc0_scratch16 : Ref sig .tc := ⟨.vmem, 20, rfl⟩
abbrev cc0_scratch17 : Ref sig .tc := ⟨.vmem, 21, rfl⟩
abbrev cc0_scratch18 : Ref sig .tc := ⟨.vmem, 22, rfl⟩
abbrev cc0_scratch19 : Ref sig .tc := ⟨.vmem, 23, rfl⟩
abbrev cc0_scratch20 : Ref sig .tc := ⟨.vmem, 24, rfl⟩
abbrev cc0_scratch21 : Ref sig .tc := ⟨.vmem, 25, rfl⟩
abbrev cc0_scratch22 : Ref sig .tc := ⟨.vmem, 26, rfl⟩
abbrev cc0_scratch23 : Ref sig .tc := ⟨.vmem, 27, rfl⟩
abbrev cc0_scratch24 : Ref sig .tc := ⟨.vmem, 28, rfl⟩
abbrev cc0_scratch25 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 (v1450 : BitVec 32) : Fin 3 → Nat :=
  let c0_i32_672 : BitVec 32 := 0#32
  let c0_i32_673 : BitVec 32 := 0#32
  ![v1450.toNat, 0, 0]

def k0_off2 (v1450 : BitVec 32) : Fin 2 → Nat :=
  let c0_i32_674 : BitVec 32 := 0#32
  ![v1450.toNat, 0]

def k0_chk1 (v1450 : BitVec 32) : Prop :=
  (∀ a, (k0_off1 v1450) a + S1x8x44.size a ≤ S8192x8x44.size a) ∧
  (∀ a, (k0_off2 v1450) a + S1x8.size a ≤ S8192x8.size a)
theorem k0_off1_inb : ∀ (v1450 : BitVec 32) (k0_hw1 : k0_chk1 v1450), ∀ a, (k0_off1 v1450) a + S1x8x44.size a ≤ S8192x8x44.size a := fun v1450 k0_hw1 => k0_hw1.1
theorem k0_off2_inb : ∀ (v1450 : BitVec 32) (k0_hw1 : k0_chk1 v1450), ∀ a, (k0_off2 v1450) a + S1x8.size a ≤ S8192x8.size a := fun v1450 k0_hw1 => k0_hw1.2

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256 : Shape := ⟨1, ![256]⟩
abbrev S1x32 : Shape := ⟨2, ![1, 32]⟩
abbrev S1 : Shape := ⟨1, ![1]⟩
abbrev S8192x256 : Shape := ⟨2, ![8192, 256]⟩
abbrev S_ : Shape := ⟨0, ![]⟩
abbrev S512x288 : Shape := ⟨2, ![512, 288]⟩
abbrev S512 : Shape := ⟨1, ![512]⟩
abbrev S256x512 : Shape := ⟨2, ![256, 512]⟩
abbrev S8192x8x44 : Shape := ⟨3, ![8192, 8, 44]⟩
abbrev S8192x8 : Shape := ⟨2, ![8192, 8]⟩
abbrev S8x3 : Shape := ⟨2, ![8, 3]⟩
abbrev S8 : Shape := ⟨1, ![8]⟩
abbrev S1x8 : Shape := ⟨2, ![1, 8]⟩
abbrev S16x3 : Shape := ⟨2, ![16, 3]⟩
abbrev S16 : Shape := ⟨1, ![16]⟩
abbrev S1x16 : Shape := ⟨2, ![1, 16]⟩
abbrev S32x44 : Shape := ⟨2, ![32, 44]⟩
abbrev S32 : Shape := ⟨1, ![32]⟩
abbrev S12x44 : Shape := ⟨2, ![12, 44]⟩
abbrev S12 : Shape := ⟨1, ![12]⟩
abbrev S288 : Shape := ⟨1, ![288]⟩
abbrev S288x512 : Shape := ⟨2, ![288, 512]⟩
abbrev S512x256 : Shape := ⟨2, ![512, 256]⟩
abbrev S1x256 : Shape := ⟨2, ![1, 256]⟩
abbrev S1x1 : Shape := ⟨2, ![1, 1]⟩
abbrev S8192 : Shape := ⟨1, ![8192]⟩
abbrev S8192x1 : Shape := ⟨2, ![8192, 1]⟩
abbrev S1x8x44 : Shape := ⟨3, ![1, 8, 44]⟩
abbrev S8x44 : Shape := ⟨2, ![8, 44]⟩
abbrev S8x32 : Shape := ⟨2, ![8, 32]⟩
abbrev S8x1 : Shape := ⟨2, ![8, 1]⟩
abbrev S3x8 : Shape := ⟨2, ![3, 8]⟩
abbrev S8x8 : Shape := ⟨2, ![8, 8]⟩
abbrev S1x44 : Shape := ⟨2, ![1, 44]⟩
abbrev S44 : Shape := ⟨1, ![44]⟩
abbrev S3 : Shape := ⟨1, ![3]⟩
abbrev S3x16 : Shape := ⟨2, ![3, 16]⟩
abbrev S16x1 : Shape := ⟨2, ![16, 1]⟩
abbrev S44x32 : Shape := ⟨2, ![44, 32]⟩
abbrev S44x12 : Shape := ⟨2, ![44, 12]⟩
abbrev S3x4 : Shape := ⟨2, ![3, 4]⟩
abbrev S1x4 : Shape := ⟨2, ![1, 4]⟩
abbrev S4 : Shape := ⟨1, ![4]⟩
abbrev S8237 : Shape := ⟨1, ![8237]⟩

abbrev nBuf : Space → Nat
  | .hbm => 294
  | .vmem => 0
  | .smem => 0
  | _ => 0

abbrev hbmTy0_0 (i : Nat) : BufTy := match i % 128 with
  | 0 => ⟨S256, .f32⟩
  | 1 => ⟨S1x32, .f32⟩
  | 2 => ⟨S1, .f32⟩
  | 3 => ⟨S8192x256, .f32⟩
  | 4 => ⟨S_, .f32⟩
  | 5 => ⟨S512x288, .f32⟩
  | 6 => ⟨S512, .f32⟩
  | 7 => ⟨S256x512, .f32⟩
  | 8 => ⟨S256, .f32⟩
  | 9 => ⟨S8192x8x44, .f32⟩
  | 10 => ⟨S8192x8, .f32⟩
  | 11 => ⟨S8192x8, .f32⟩
  | 12 => ⟨S8x3, .f32⟩
  | 13 => ⟨S8, .f32⟩
  | 14 => ⟨S1x8, .f32⟩
  | 15 => ⟨S1, .f32⟩
  | 16 => ⟨S16x3, .f32⟩
  | 17 => ⟨S16, .f32⟩
  | 18 => ⟨S1x16, .f32⟩
  | 19 => ⟨S1, .f32⟩
  | 20 => ⟨S32x44, .f32⟩
  | 21 => ⟨S32, .f32⟩
  | 22 => ⟨S12x44, .f32⟩
  | 23 => ⟨S12, .f32⟩
  | 24 => ⟨S32, .f32⟩
  | 25 => ⟨S288, .f32⟩
  | 26 => ⟨S288x512, .f32⟩
  | 27 => ⟨S512, .f32⟩
  | 28 => ⟨S512, .f32⟩
  | 29 => ⟨S_, .f32⟩
  | 30 => ⟨S512, .f32⟩
  | 31 => ⟨S512, .f32⟩
  | 32 => ⟨S512x256, .f32⟩
  | 33 => ⟨S256, .f32⟩
  | 34 => ⟨S256, .f32⟩
  | 35 => ⟨S1x256, .f32⟩
  | 36 => ⟨S1x256, .f32⟩
  | 37 => ⟨S_, .f32⟩
  | 38 => ⟨S1, .f32⟩
  | 39 => ⟨S1x1, .f32⟩
  | 40 => ⟨S1x1, .f32⟩
  | 41 => ⟨S_, .f32⟩
  | 42 => ⟨S_, .f32⟩
  | 43 => ⟨S1x1, .f32⟩
  | 44 => ⟨S1x1, .f32⟩
  | 45 => ⟨S1x256, .f32⟩
  | 46 => ⟨S1x256, .f32⟩
  | 47 => ⟨S256, .f32⟩
  | 48 => ⟨S8192x256, .f32⟩
  | 49 => ⟨S_, .f32⟩
  | 50 => ⟨S8192, .f32⟩
  | 51 => ⟨S8192x1, .f32⟩
  | 52 => ⟨S8192x1, .f32⟩
  | 53 => ⟨S_, .f32⟩
  | 54 => ⟨S_, .f32⟩
  | 55 => ⟨S8192x1, .f32⟩
  | 56 => ⟨S8192x1, .f32⟩
  | 57 => ⟨S8192x256, .f32⟩
  | 58 => ⟨S8192x256, .f32⟩
  | 59 => ⟨S8192, .f32⟩
  | 60 => ⟨S_, .f32⟩
  | 61 => ⟨S8192, .f32⟩
  | 62 => ⟨S8192, .f32⟩
  | 63 => ⟨S_, .f32⟩
  | 64 => ⟨S_, .f32⟩
  | 65 => ⟨S_, .f32⟩
  | 66 => ⟨S_, .f32⟩
  | 67 => ⟨S1, .f32⟩
  | 68 => ⟨S8192, .f32⟩
  | 69 => ⟨S8192, .f32⟩
  | 70 => ⟨S8192, .f32⟩
  | 71 => ⟨S_, .f32⟩
  | 72 => ⟨S_, .f32⟩
  | 73 => ⟨S1, .f32⟩
  | 74 => ⟨S8192, .f32⟩
  | 75 => ⟨S8192, .f32⟩
  | 76 => ⟨S8192, .i32⟩
  | 77 => ⟨S_, .f32⟩
  | 78 => ⟨S_, .i32⟩
  | 79 => ⟨S_, .f32⟩
  | 80 => ⟨S_, .i32⟩
  | 81 => ⟨S1, .i32⟩
  | 82 => ⟨S8192, .i32⟩
  | 83 => ⟨S8192, .i32⟩
  | 84 => ⟨S8192, .i1⟩
  | 85 => ⟨S8192, .f32⟩
  | 86 => ⟨S8192, .f32⟩
  | 87 => ⟨S8192, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1x8x44, .f32⟩
  | 110 => ⟨S8x44, .f32⟩
  | 111 => ⟨S8x32, .f32⟩
  | 112 => ⟨S1x32, .f32⟩
  | 113 => ⟨S1x32, .f32⟩
  | 114 => ⟨S_, .f32⟩
  | 115 => ⟨S1, .f32⟩
  | 116 => ⟨S1x1, .f32⟩
  | 117 => ⟨S1x1, .f32⟩
  | 118 => ⟨S_, .f32⟩
  | 119 => ⟨S_, .f32⟩
  | 120 => ⟨S1x1, .f32⟩
  | 121 => ⟨S1x1, .f32⟩
  | 122 => ⟨S1x32, .f32⟩
  | 123 => ⟨S1x32, .f32⟩
  | 124 => ⟨S32, .f32⟩
  | 125 => ⟨S8x32, .f32⟩
  | 126 => ⟨S_, .f32⟩
  | 127 => ⟨S8, .f32⟩
  | _ => ⟨S256, .f32⟩

abbrev hbmTy0_1 (i : Nat) : BufTy := match i % 128 with
  | 0 => ⟨S8x1, .f32⟩
  | 1 => ⟨S8x1, .f32⟩
  | 2 => ⟨S_, .f32⟩
  | 3 => ⟨S_, .f32⟩
  | 4 => ⟨S8x1, .f32⟩
  | 5 => ⟨S8x1, .f32⟩
  | 6 => ⟨S8x32, .f32⟩
  | 7 => ⟨S8x32, .f32⟩
  | 8 => ⟨S8, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S1x8, .f32⟩
  | 23 => ⟨S8, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S1x8, .f32⟩
  | 38 => ⟨S8, .f32⟩
  | 39 => ⟨S_, .f32⟩
  | 40 => ⟨S8, .f32⟩
  | 41 => ⟨S8, .f32⟩
  | 42 => ⟨S_, .f32⟩
  | 43 => ⟨S_, .f32⟩
  | 44 => ⟨S_, .f32⟩
  | 45 => ⟨S_, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S8, .f32⟩
  | 53 => ⟨S_, .f32⟩
  | 54 => ⟨S_, .f32⟩
  | 55 => ⟨S8, .f32⟩
  | 56 => ⟨S8, .f32⟩
  | 57 => ⟨S8x1, .f32⟩
  | 58 => ⟨S8x1, .f32⟩
  | 59 => ⟨S8x1, .f32⟩
  | 60 => ⟨S8x3, .f32⟩
  | 61 => ⟨S3x8, .f32⟩
  | 62 => ⟨S8x8, .f32⟩
  | 63 => ⟨S1x8, .f32⟩
  | 64 => ⟨S8x8, .f32⟩
  | 65 => ⟨S8x8, .f32⟩
  | 66 => ⟨S_, .f32⟩
  | 67 => ⟨S8x8, .f32⟩
  | 68 => ⟨S8x8, .f32⟩
  | 69 => ⟨S8x1, .f32⟩
  | 70 => ⟨S8x1, .f32⟩
  | 71 => ⟨S1x1, .f32⟩
  | 72 => ⟨S8x1, .f32⟩
  | 73 => ⟨S8x1, .f32⟩
  | 74 => ⟨S8, .f32⟩
  | 75 => ⟨S8, .i32⟩
  | 76 => ⟨S_, .f32⟩
  | 77 => ⟨S_, .i32⟩
  | 78 => ⟨S_, .f32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S1x44, .f32⟩
  | 94 => ⟨S44, .f32⟩
  | 95 => ⟨S_, .i32⟩
  | 96 => ⟨S_, .i1⟩
  | 97 => ⟨S_, .i32⟩
  | 98 => ⟨S_, .i32⟩
  | 99 => ⟨S_, .i32⟩
  | 100 => ⟨S1, .f32⟩
  | 101 => ⟨S_, .f32⟩
  | 102 => ⟨S_, .i32⟩
  | 103 => ⟨S_, .i1⟩
  | 104 => ⟨S_, .i32⟩
  | 105 => ⟨S_, .i32⟩
  | 106 => ⟨S_, .i32⟩
  | 107 => ⟨S1, .f32⟩
  | 108 => ⟨S_, .f32⟩
  | 109 => ⟨S_, .f32⟩
  | 110 => ⟨S_, .f32⟩
  | 111 => ⟨S1, .f32⟩
  | 112 => ⟨S1, .f32⟩
  | 113 => ⟨S1, .f32⟩
  | 114 => ⟨S3, .f32⟩
  | 115 => ⟨S3x16, .f32⟩
  | 116 => ⟨S16, .f32⟩
  | 117 => ⟨S16, .f32⟩
  | 118 => ⟨S16, .f32⟩
  | 119 => ⟨S16x1, .f32⟩
  | 120 => ⟨S1, .f32⟩
  | 121 => ⟨S1, .f32⟩
  | 122 => ⟨S1, .f32⟩
  | 123 => ⟨S_, .f32⟩
  | 124 => ⟨S44x32, .f32⟩
  | 125 => ⟨S32, .f32⟩
  | 126 => ⟨S32, .f32⟩
  | 127 => ⟨S32, .f32⟩
  | _ => ⟨S256, .f32⟩

abbrev hbmTy0_2 (i : Nat) : BufTy := match i % 128 with
  | 0 => ⟨S32, .f32⟩
  | 1 => ⟨S32, .f32⟩
  | 2 => ⟨S44x12, .f32⟩
  | 3 => ⟨S12, .f32⟩
  | 4 => ⟨S12, .f32⟩
  | 5 => ⟨S3x4, .f32⟩
  | 6 => ⟨S1x4, .f32⟩
  | 7 => ⟨S4, .f32⟩
  | 8 => ⟨S_, .f32⟩
  | 9 => ⟨S_, .f32⟩
  | 10 => ⟨S_, .f32⟩
  | 11 => ⟨S4, .f32⟩
  | 12 => ⟨S4, .f32⟩
  | 13 => ⟨S_, .f32⟩
  | 14 => ⟨S4, .f32⟩
  | 15 => ⟨S4, .f32⟩
  | 16 => ⟨S1x4, .f32⟩
  | 17 => ⟨S4, .f32⟩
  | 18 => ⟨S_, .f32⟩
  | 19 => ⟨S_, .f32⟩
  | 20 => ⟨S_, .f32⟩
  | 21 => ⟨S4, .f32⟩
  | 22 => ⟨S4, .f32⟩
  | 23 => ⟨S_, .f32⟩
  | 24 => ⟨S4, .f32⟩
  | 25 => ⟨S4, .f32⟩
  | 26 => ⟨S1x4, .f32⟩
  | 27 => ⟨S4, .f32⟩
  | 28 => ⟨S_, .f32⟩
  | 29 => ⟨S_, .f32⟩
  | 30 => ⟨S_, .f32⟩
  | 31 => ⟨S4, .f32⟩
  | 32 => ⟨S4, .f32⟩
  | 33 => ⟨S_, .f32⟩
  | 34 => ⟨S4, .f32⟩
  | 35 => ⟨S4, .f32⟩
  | 36 => ⟨S1, .f32⟩
  | 37 => ⟨S8237, .f32⟩
  | _ => ⟨S256, .f32⟩

abbrev hbmTy (i : Nat) : BufTy := match i / 128 with
  | 0 => hbmTy0_0 i
  | 1 => hbmTy0_1 i
  | 2 => hbmTy0_2 i
  | _ => ⟨S256, .f32⟩

abbrev bufTy : (tb : Table) → Fin (tcTables nBuf tb) → BufTy
  | .hbm, ⟨i, _⟩ => hbmTy i
  | _, _ => ⟨S256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call0_cst : Ref sig .tc := ⟨.hbm, 29, rfl⟩
abbrev main_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_call1_v0 : Ref sig .tc := ⟨.hbm, 36, rfl⟩
abbrev main_call1_cst : Ref sig .tc := ⟨.hbm, 37, rfl⟩
abbrev main_call1_v1 : Ref sig .tc := ⟨.hbm, 38, rfl⟩
abbrev main_call1_v2 : Ref sig .tc := ⟨.hbm, 39, rfl⟩
abbrev main_v10 : Ref sig .tc := ⟨.hbm, 40, rfl⟩
abbrev main_cst : Ref sig .tc := ⟨.hbm, 41, rfl⟩
abbrev main_call2_v0 : Ref sig .tc := ⟨.hbm, 42, rfl⟩
abbrev main_call2_v1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_call3_v0 : Ref sig .tc := ⟨.hbm, 48, rfl⟩
abbrev main_call3_cst : Ref sig .tc := ⟨.hbm, 49, rfl⟩
abbrev main_call3_v1 : Ref sig .tc := ⟨.hbm, 50, rfl⟩
abbrev main_call3_v2 : Ref sig .tc := ⟨.hbm, 51, rfl⟩
abbrev main_v15 : Ref sig .tc := ⟨.hbm, 52, rfl⟩
abbrev main_cst_0 : Ref sig .tc := ⟨.hbm, 53, rfl⟩
abbrev main_call4_v0 : Ref sig .tc := ⟨.hbm, 54, rfl⟩
abbrev main_call4_v1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_v23 : Ref sig .tc := ⟨.hbm, 64, rfl⟩
abbrev main_cst_2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_3 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_call5_v0 : Ref sig .tc := ⟨.hbm, 76, rfl⟩
abbrev main_call5_cst : Ref sig .tc := ⟨.hbm, 77, rfl⟩
abbrev main_call5_c : Ref sig .tc := ⟨.hbm, 78, rfl⟩
abbrev main_call5_v1_0 : Ref sig .tc := ⟨.hbm, 79, rfl⟩
abbrev main_v33 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_c : Ref sig .tc := ⟨.hbm, 88, rfl⟩
abbrev main_v37 : Ref sig .tc := ⟨.hbm, 89, rfl⟩
abbrev main_c_4 : Ref sig .tc := ⟨.hbm, 90, rfl⟩
abbrev main_v38 : Ref sig .tc := ⟨.hbm, 91, rfl⟩
abbrev main_v39 : Ref sig .tc := ⟨.hbm, 92, rfl⟩
abbrev main_c_5 : Ref sig .tc := ⟨.hbm, 93, rfl⟩
abbrev main_c_6 : Ref sig .tc := ⟨.hbm, 94, rfl⟩
abbrev main_v40 : Ref sig .tc := ⟨.hbm, 95, rfl⟩
abbrev main_c_7 : Ref sig .tc := ⟨.hbm, 96, rfl⟩
abbrev main_c_8 : Ref sig .tc := ⟨.hbm, 97, rfl⟩
abbrev main_v41 : Ref sig .tc := ⟨.hbm, 98, rfl⟩
abbrev main_c_9 : Ref sig .tc := ⟨.hbm, 99, rfl⟩
abbrev main_v42 : Ref sig .tc := ⟨.hbm, 100, rfl⟩
abbrev main_c_10 : Ref sig .tc := ⟨.hbm, 101, rfl⟩
abbrev main_c_11 : Ref sig .tc := ⟨.hbm, 102, rfl⟩
abbrev main_v43 : Ref sig .tc := ⟨.hbm, 103, rfl⟩
abbrev main_c_12 : Ref sig .tc := ⟨.hbm, 104, rfl⟩
abbrev main_c_13 : Ref sig .tc := ⟨.hbm, 105, rfl⟩
abbrev main_v44 : Ref sig .tc := ⟨.hbm, 106, rfl⟩
abbrev main_c_14 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_call7_v0 : Ref sig .tc := ⟨.hbm, 113, rfl⟩
abbrev main_call7_cst : Ref sig .tc := ⟨.hbm, 114, rfl⟩
abbrev main_call7_v1 : Ref sig .tc := ⟨.hbm, 115, rfl⟩
abbrev main_call7_v2 : Ref sig .tc := ⟨.hbm, 116, rfl⟩
abbrev main_v50 : Ref sig .tc := ⟨.hbm, 117, rfl⟩
abbrev main_cst_15 : Ref sig .tc := ⟨.hbm, 118, rfl⟩
abbrev main_call8_v0 : Ref sig .tc := ⟨.hbm, 119, rfl⟩
abbrev main_call8_v1 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_call9_v0 : Ref sig .tc := ⟨.hbm, 125, rfl⟩
abbrev main_call9_cst : Ref sig .tc := ⟨.hbm, 126, rfl⟩
abbrev main_call9_v1 : Ref sig .tc := ⟨.hbm, 127, rfl⟩
abbrev main_call9_v2 : Ref sig .tc := ⟨.hbm, 128, rfl⟩
abbrev main_v55 : Ref sig .tc := ⟨.hbm, 129, rfl⟩
abbrev main_cst_16 : Ref sig .tc := ⟨.hbm, 130, rfl⟩
abbrev main_call10_v0 : Ref sig .tc := ⟨.hbm, 131, rfl⟩
abbrev main_call10_v1 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_c_17 : Ref sig .tc := ⟨.hbm, 137, rfl⟩
abbrev main_v60 : Ref sig .tc := ⟨.hbm, 138, rfl⟩
abbrev main_c_18 : Ref sig .tc := ⟨.hbm, 139, rfl⟩
abbrev main_v61 : Ref sig .tc := ⟨.hbm, 140, rfl⟩
abbrev main_v62 : Ref sig .tc := ⟨.hbm, 141, rfl⟩
abbrev main_c_19 : Ref sig .tc := ⟨.hbm, 142, rfl⟩
abbrev main_c_20 : Ref sig .tc := ⟨.hbm, 143, rfl⟩
abbrev main_v63 : Ref sig .tc := ⟨.hbm, 144, rfl⟩
abbrev main_c_21 : Ref sig .tc := ⟨.hbm, 145, rfl⟩
abbrev main_c_22 : Ref sig .tc := ⟨.hbm, 146, rfl⟩
abbrev main_v64 : Ref sig .tc := ⟨.hbm, 147, rfl⟩
abbrev main_c_23 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_c_24 : Ref sig .tc := ⟨.hbm, 152, rfl⟩
abbrev main_v68 : Ref sig .tc := ⟨.hbm, 153, rfl⟩
abbrev main_c_25 : Ref sig .tc := ⟨.hbm, 154, rfl⟩
abbrev main_v69 : Ref sig .tc := ⟨.hbm, 155, rfl⟩
abbrev main_v70 : Ref sig .tc := ⟨.hbm, 156, rfl⟩
abbrev main_c_26 : Ref sig .tc := ⟨.hbm, 157, rfl⟩
abbrev main_c_27 : Ref sig .tc := ⟨.hbm, 158, rfl⟩
abbrev main_v71 : Ref sig .tc := ⟨.hbm, 159, rfl⟩
abbrev main_c_28 : Ref sig .tc := ⟨.hbm, 160, rfl⟩
abbrev main_c_29 : Ref sig .tc := ⟨.hbm, 161, rfl⟩
abbrev main_v72 : Ref sig .tc := ⟨.hbm, 162, rfl⟩
abbrev main_c_30 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_cst_31 : Ref sig .tc := ⟨.hbm, 167, rfl⟩
abbrev main_v76 : Ref sig .tc := ⟨.hbm, 168, rfl⟩
abbrev main_v77 : Ref sig .tc := ⟨.hbm, 169, rfl⟩
abbrev main_cst_32 : Ref sig .tc := ⟨.hbm, 170, rfl⟩
abbrev main_v78 : Ref sig .tc := ⟨.hbm, 171, rfl⟩
abbrev main_cst_33 : Ref sig .tc := ⟨.hbm, 172, rfl⟩
abbrev main_call11_v0 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_cst_34 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_cst_35 : Ref sig .tc := ⟨.hbm, 181, rfl⟩
abbrev main_call12_v0 : Ref sig .tc := ⟨.hbm, 182, rfl⟩
abbrev main_call12_v1 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_call13_cst : Ref sig .tc := ⟨.hbm, 194, rfl⟩
abbrev main_call13_v0 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_call14_v0 : Ref sig .tc := ⟨.hbm, 203, rfl⟩
abbrev main_call14_cst : Ref sig .tc := ⟨.hbm, 204, rfl⟩
abbrev main_call14_c : Ref sig .tc := ⟨.hbm, 205, rfl⟩
abbrev main_call14_v1_0 : Ref sig .tc := ⟨.hbm, 206, rfl⟩
abbrev main_v102 : Ref sig .tc := ⟨.hbm, 207, rfl⟩
abbrev main_c_36 : Ref sig .tc := ⟨.hbm, 208, rfl⟩
abbrev main_v103 : Ref sig .tc := ⟨.hbm, 209, rfl⟩
abbrev main_c_37 : Ref sig .tc := ⟨.hbm, 210, rfl⟩
abbrev main_v104 : Ref sig .tc := ⟨.hbm, 211, rfl⟩
abbrev main_v105 : Ref sig .tc := ⟨.hbm, 212, rfl⟩
abbrev main_c_38 : Ref sig .tc := ⟨.hbm, 213, rfl⟩
abbrev main_c_39 : Ref sig .tc := ⟨.hbm, 214, rfl⟩
abbrev main_v106 : Ref sig .tc := ⟨.hbm, 215, rfl⟩
abbrev main_c_40 : Ref sig .tc := ⟨.hbm, 216, rfl⟩
abbrev main_c_41 : Ref sig .tc := ⟨.hbm, 217, rfl⟩
abbrev main_v107 : Ref sig .tc := ⟨.hbm, 218, rfl⟩
abbrev main_c_42 : Ref sig .tc := ⟨.hbm, 219, rfl⟩
abbrev main_v108 : Ref sig .tc := ⟨.hbm, 220, rfl⟩
abbrev main_v109 : Ref sig .tc := ⟨.hbm, 221, rfl⟩
abbrev main_v110 : Ref sig .tc := ⟨.hbm, 222, rfl⟩
abbrev main_c_43 : Ref sig .tc := ⟨.hbm, 223, rfl⟩
abbrev main_v111 : Ref sig .tc := ⟨.hbm, 224, rfl⟩
abbrev main_c_44 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_c_45 : Ref sig .tc := ⟨.hbm, 230, rfl⟩
abbrev main_v116 : Ref sig .tc := ⟨.hbm, 231, rfl⟩
abbrev main_c_46 : Ref sig .tc := ⟨.hbm, 232, rfl⟩
abbrev main_v117 : Ref sig .tc := ⟨.hbm, 233, rfl⟩
abbrev main_v118 : Ref sig .tc := ⟨.hbm, 234, rfl⟩
abbrev main_v119 : Ref sig .tc := ⟨.hbm, 235, rfl⟩
abbrev main_v120 : Ref sig .tc := ⟨.hbm, 236, rfl⟩
abbrev main_v121 : Ref sig .tc := ⟨.hbm, 237, rfl⟩
abbrev main_v122 : Ref sig .tc := ⟨.hbm, 238, rfl⟩
abbrev main_v123 : Ref sig .tc := ⟨.hbm, 239, rfl⟩
abbrev main_v124 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_v128 : Ref sig .tc := ⟨.hbm, 244, rfl⟩
abbrev main_v129 : Ref sig .tc := ⟨.hbm, 245, rfl⟩
abbrev main_v130 : Ref sig .tc := ⟨.hbm, 246, rfl⟩
abbrev main_v131 : Ref sig .tc := ⟨.hbm, 247, rfl⟩
abbrev main_v132 : Ref sig .tc := ⟨.hbm, 248, rfl⟩
abbrev main_v133 : Ref sig .tc := ⟨.hbm, 249, rfl⟩
abbrev main_v134 : Ref sig .tc := ⟨.hbm, 250, rfl⟩
abbrev main_v135 : Ref sig .tc := ⟨.hbm, 251, rfl⟩
abbrev main_v136 : Ref sig .tc := ⟨.hbm, 252, rfl⟩
abbrev main_v137 : Ref sig .tc := ⟨.hbm, 253, rfl⟩
abbrev main_v138 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_v147 : Ref sig .tc := ⟨.hbm, 263, rfl⟩
abbrev main_cst_47 : Ref sig .tc := ⟨.hbm, 264, rfl⟩
abbrev main_cst_48 : Ref sig .tc := ⟨.hbm, 265, rfl⟩
abbrev main_call15_v0 : Ref sig .tc := ⟨.hbm, 266, rfl⟩
abbrev main_call15_v1 : Ref sig .tc := ⟨.hbm, 267, rfl⟩
abbrev main_call15_v2 : Ref sig .tc := ⟨.hbm, 268, rfl⟩
abbrev main_call15_v3 : Ref sig .tc := ⟨.hbm, 269, rfl⟩
abbrev main_call15_v4 : Ref sig .tc := ⟨.hbm, 270, rfl⟩
abbrev main_v148 : Ref sig .tc := ⟨.hbm, 271, rfl⟩
abbrev main_v149 : Ref sig .tc := ⟨.hbm, 272, rfl⟩
abbrev main_v150 : Ref sig .tc := ⟨.hbm, 273, rfl⟩
abbrev main_cst_49 : Ref sig .tc := ⟨.hbm, 274, rfl⟩
abbrev main_cst_50 : Ref sig .tc := ⟨.hbm, 275, rfl⟩
abbrev main_call16_v0 : Ref sig .tc := ⟨.hbm, 276, rfl⟩
abbrev main_call16_v1 : Ref sig .tc := ⟨.hbm, 277, rfl⟩
abbrev main_call16_v2 : Ref sig .tc := ⟨.hbm, 278, rfl⟩
abbrev main_call16_v3 : Ref sig .tc := ⟨.hbm, 279, rfl⟩
abbrev main_call16_v4 : Ref sig .tc := ⟨.hbm, 280, rfl⟩
abbrev main_v151 : Ref sig .tc := ⟨.hbm, 281, rfl⟩
abbrev main_v152 : Ref sig .tc := ⟨.hbm, 282, rfl⟩
abbrev main_v153 : Ref sig .tc := ⟨.hbm, 283, rfl⟩
abbrev main_cst_51 : Ref sig .tc := ⟨.hbm, 284, rfl⟩
abbrev main_cst_52 : Ref sig .tc := ⟨.hbm, 285, rfl⟩
abbrev main_call17_v0 : Ref sig .tc := ⟨.hbm, 286, rfl⟩
abbrev main_call17_v1 : Ref sig .tc := ⟨.hbm, 287, rfl⟩
abbrev main_call17_v2 : Ref sig .tc := ⟨.hbm, 288, rfl⟩
abbrev main_call17_v3 : Ref sig .tc := ⟨.hbm, 289, rfl⟩
abbrev main_call17_v4 : Ref sig .tc := ⟨.hbm, 290, rfl⟩
abbrev main_v154 : Ref sig .tc := ⟨.hbm, 291, rfl⟩
abbrev main_v155 : Ref sig .tc := ⟨.hbm, 292, rfl⟩
abbrev main_v156 : Ref sig .tc := ⟨.hbm, 293, rfl⟩

abbrev nD : Nat := 1
abbrev τ : Topo := Topo.v7x

variable {F : FTy → Type} [FloatOps F]
-- ==== Proof.Moves.lean ====
/- What the launch hands the body: the staging buffers of the four results, the scratch buffers, the arrays the body copies itself and its 38 semaphore cells, listed one by one. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer that is neither the result nor an operand of a host operation of many operands is none of its buffers. -/
theorem not_mem_nary {n : Nat} (xs : Fin n → Ref sig .tc) (y : Ref sig .tc)
    (f : ((k : Fin n) → (xs k).ty.Contents (Elt F)) → y.ty.Contents (Elt F)) (hxs) (hy) (b : Ref sig .tc)
    (h0 : b ≠ y) (hk : ∀ k, b ≠ xs k) :
    Proc.devRef .tc b ∉ (StableHlo.nary (τ := τ) xs y f hxs hy).bufs := by
  intro h
  rcases Finset.mem_insert.mp h with h | h
  · exact StableHlo.devRef_ne_of_ne h0 h
  · obtain ⟨k, -, h⟩ := Finset.mem_image.mp h
    exact StableHlo.devRef_ne_of_ne (hk k).symm h

/-- The host program around the launch, for a launch whose body moves arrays by copies of its own: the reshapes
    before it, the launch, and the reshapes and the concatenation after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- One staging buffer of output window 0, through which its contents are stated (`View.read_writes_of_cover`: the
    choice does not matter). -/
abbrev VO0_0 : View sig .tc .vmem S1x32 .f32 := (Memref.whole cc0_stg0_0 : Memref sig .tc .vmem S1x32 .f32).view
/-- One staging buffer of output window 1, through which its contents are stated (`View.read_writes_of_cover`: the
    choice does not matter). -/
abbrev VO0_1 : View sig .tc .vmem S1x1 .f32 := (Memref.whole cc0_stg1_0 : Memref sig .tc .vmem S1x1 .f32).view
/-- One staging buffer of output window 2, through which its contents are stated (`View.read_writes_of_cover`: the
    choice does not matter). -/
abbrev VO0_2 : View sig .tc .vmem S1x12 .f32 := (Memref.whole cc0_stg2_0 : Memref sig .tc .vmem S1x12 .f32).view
/-- One staging buffer of output window 3, through which its contents are stated (`View.read_writes_of_cover`: the
    choice does not matter). -/
abbrev VO0_3 : View sig .tc .vmem S64x128 .f32 := (Memref.whole cc0_stg3_0 : Memref sig .tc .vmem S64x128 .f32).view
/-- Each window's current staging memref at point `t`, spelled as the pipeline passes it (`bodyAt0`), and its wholeness. -/
abbrev ms0_0 (t : Fin cfg0.N) : Memref sig .tc .vmem S1x32 .f32 := win0_0.stage (cfg0.slots t 0)
abbrev hs0_0 (t : Fin cfg0.N) : (ms0_0 t).IsWhole := hstage0_0 0
abbrev ms0_1 (t : Fin cfg0.N) : Memref sig .tc .vmem S1x1 .f32 := win0_1.stage (cfg0.slots t 1)
abbrev hs0_1 (t : Fin cfg0.N) : (ms0_1 t).IsWhole := hstage0_1 0
abbrev ms0_2 (t : Fin cfg0.N) : Memref sig .tc .vmem S1x12 .f32 := win0_2.stage (cfg0.slots t 2)
abbrev hs0_2 (t : Fin cfg0.N) : (ms0_2 t).IsWhole := hstage0_2 0
abbrev ms0_3 (t : Fin cfg0.N) : Memref sig .tc .vmem S64x128 .f32 := win0_3.stage (cfg0.slots t 3)
abbrev hs0_3 (t : Fin cfg0.N) : (ms0_3 t).IsWhole := hstage0_3 0
/-- The scratch operands: whole scoped buffers of the kernel's own, passed beside the windows. -/
abbrev scM0_0 : Memref sig .tc .vmem S8192x256 .f32 := Memref.whole cc0_scratch0
abbrev scM0_1 : Memref sig .tc .vmem S512x288 .f32 := Memref.whole cc0_scratch1
abbrev scM0_2 : Memref sig .tc .vmem S256x512 .f32 := Memref.whole cc0_scratch2
abbrev scM0_3 : Memref sig .tc .vmem S1x256 .f32 := Memref.whole cc0_scratch3
abbrev scM0_4 : Memref sig .tc .vmem S1x32 .f32 := Memref.whole cc0_scratch4
abbrev scM0_5 : Memref sig .tc .vmem S1x1 .f32 := Memref.whole cc0_scratch5
abbrev scM0_6 : Memref sig .tc .vmem S1x512 .f32 := Memref.whole cc0_scratch6
abbrev scM0_7 : Memref sig .tc .vmem S1x256 .f32 := Memref.whole cc0_scratch7
abbrev scM0_8 : Memref sig .tc .vmem S8x3 .f32 := Memref.whole cc0_scratch8
abbrev scM0_9 : Memref sig .tc .vmem S1x8 .f32 := Memref.whole cc0_scratch9
abbrev scM0_10 : Memref sig .tc .vmem S1x8 .f32 := Memref.whole cc0_scratch10
abbrev scM0_11 : Memref sig .tc .vmem S1x1 .f32 := Memref.whole cc0_scratch11
abbrev scM0_12 : Memref sig .tc .vmem S16x3 .f32 := Memref.whole cc0_scratch12
abbrev scM0_13 : Memref sig .tc .vmem S1x16 .f32 := Memref.whole cc0_scratch13
abbrev scM0_14 : Memref sig .tc .vmem S1x16 .f32 := Memref.whole cc0_scratch14
abbrev scM0_15 : Memref sig .tc .vmem S1x1 .f32 := Memref.whole cc0_scratch15
abbrev scM0_16 : Memref sig .tc .vmem S32x44 .f32 := Memref.whole cc0_scratch16
abbrev scM0_17 : Memref sig .tc .vmem S1x32 .f32 := Memref.whole cc0_scratch17
abbrev scM0_18 : Memref sig .tc .vmem S12x44 .f32 := Memref.whole cc0_scratch18
abbrev scM0_19 : Memref sig .tc .vmem S1x12 .f32 := Memref.whole cc0_scratch19
abbrev scM0_20 : Memref sig .tc .vmem S64x128 .f32 := Memref.whole cc0_scratch20
abbrev scM0_21 : Memref sig .tc .vmem S1x512 .f32 := Memref.whole cc0_scratch21
abbrev scM0_22 : Memref sig .tc .vmem S1x256 .f32 := Memref.whole cc0_scratch22
abbrev scM0_23 : Memref sig .tc .vmem S8x44 .f32 := Memref.whole cc0_scratch23
abbrev scM0_24 : Memref sig .tc .vmem S1x8 .f32 := Memref.whole cc0_scratch24
abbrev scM0_25 : Memref sig .tc .vmem S1x8 .f32 := Memref.whole cc0_scratch25
/-- The operands left in HBM that the body copies into scratch itself, whole. -/
abbrev hbM0_0 : Memref sig .tc .hbm S8192x256 .f32 := Memref.whole main_arg3
abbrev hbM0_1 : Memref sig .tc .hbm S1x256 .f32 := Memref.whole main_v0
abbrev hbM0_2 : Memref sig .tc .hbm S1x32 .f32 := Memref.whole main_arg1
abbrev hbM0_3 : Memref sig .tc .hbm S1x1 .f32 := Memref.whole main_v1
abbrev hbM0_4 : Memref sig .tc .hbm S512x288 .f32 := Memref.whole main_arg5
abbrev hbM0_5 : Memref sig .tc .hbm S1x512 .f32 := Memref.whole main_v2
abbrev hbM0_6 : Memref sig .tc .hbm S256x512 .f32 := Memref.whole main_arg7
abbrev hbM0_7 : Memref sig .tc .hbm S1x256 .f32 := Memref.whole main_v3
abbrev hbM0_8 : Memref sig .tc .hbm S8x3 .f32 := Memref.whole main_arg12
abbrev hbM0_9 : Memref sig .tc .hbm S1x8 .f32 := Memref.whole main_v4
abbrev hbM0_10 : Memref sig .tc .hbm S1x8 .f32 := Memref.whole main_arg14
abbrev hbM0_11 : Memref sig .tc .hbm S1x1 .f32 := Memref.whole main_v5
abbrev hbM0_12 : Memref sig .tc .hbm S16x3 .f32 := Memref.whole main_arg16
abbrev hbM0_13 : Memref sig .tc .hbm S1x16 .f32 := Memref.whole main_v6
abbrev hbM0_14 : Memref sig .tc .hbm S1x16 .f32 := Memref.whole main_arg18
abbrev hbM0_15 : Memref sig .tc .hbm S1x1 .f32 := Memref.whole main_v7
abbrev hbM0_16 : Memref sig .tc .hbm S32x44 .f32 := Memref.whole main_arg20
abbrev hbM0_17 : Memref sig .tc .hbm S1x32 .f32 := Memref.whole main_v8
abbrev hbM0_18 : Memref sig .tc .hbm S12x44 .f32 := Memref.whole main_arg22
abbrev hbM0_19 : Memref sig .tc .hbm S1x12 .f32 := Memref.whole main_v9
abbrev hbM0_20 : Memref sig .tc .hbm S8192x8x44 .f32 := Memref.whole main_arg9
abbrev hbM0_21 : Memref sig .tc .hbm S8192x8 .f32 := Memref.whole main_arg10
abbrev hbM0_22 : Memref sig .tc .hbm S8192x8 .f32 := Memref.whole main_arg11
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 38 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41] : Fin 38 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37] (by decide) (by decide)]; rfl
/-- The HBM operands the body moves, as references: unscoped, no window's array (`Pipeline.restRefs`). -/
def H0 : Finset (Ref sig .tc) := {main_arg3, main_v0, main_arg1, main_v1, main_arg5, main_v2, main_arg7, main_v3, main_arg12, main_v4, main_arg14, main_v5, main_arg16, main_v6, main_arg18, main_v7, main_arg20, main_v8, main_arg22, main_v9, main_arg9, main_arg10, main_arg11}
theorem H0_sub : H0 ⊆ Pipeline.restRefs sig spec0 := by decide
set_option maxHeartbeats 8000000 in
/-- A buffer the body moves is not one outside the list. -/
theorem H0_apart (b : Ref sig .tc) (hb : b ∈ H0) (x : Ref sig .tc) (hx : x ∉ H0) : b ≠ x := fun h => hx (h ▸ hb)
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl
    iterate 4
      · intro b hb
        simp only [StableHlo.reshape_bufs, Finset.mem_insert, Finset.mem_singleton, not_or]
        exact ⟨StableHlo.devRef_ne_of_ne (H0_apart b hb _ (by decide)),
          StableHlo.devRef_ne_of_ne (H0_apart b hb _ (by decide))⟩
    · intro b hb
      exact not_mem_nary _ _ _ _ _ b (H0_apart b hb _ (by decide)) fun k => H0_apart b hb _ (by revert k; decide)
set_option maxHeartbeats 8000000 in
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_v0) ∗ hbPt0 c hbM0_2 (V m c main_arg1) ∗ hbPt0 c hbM0_3 (V m c main_v1) ∗ hbPt0 c hbM0_4 (V m c main_arg5) ∗ hbPt0 c hbM0_5 (V m c main_v2) ∗ hbPt0 c hbM0_6 (V m c main_arg7) ∗ hbPt0 c hbM0_7 (V m c main_v3) ∗ hbPt0 c hbM0_8 (V m c main_arg12) ∗ hbPt0 c hbM0_9 (V m c main_v4) ∗ hbPt0 c hbM0_10 (V m c main_arg14) ∗ hbPt0 c hbM0_11 (V m c main_v5) ∗ hbPt0 c hbM0_12 (V m c main_arg16) ∗ hbPt0 c hbM0_13 (V m c main_v6) ∗ hbPt0 c hbM0_14 (V m c main_arg18) ∗ hbPt0 c hbM0_15 (V m c main_v7) ∗ hbPt0 c hbM0_16 (V m c main_arg20) ∗ hbPt0 c hbM0_17 (V m c main_v8) ∗ hbPt0 c hbM0_18 (V m c main_arg22) ∗ hbPt0 c hbM0_19 (V m c main_v9) ∗ hbPt0 c hbM0_20 (V m c main_arg9) ∗ hbPt0 c hbM0_21 (V m c main_arg10) ∗ hbPt0 c hbM0_22 (V m c main_arg11)) := by
  rw [BI.bigSep_eq_bigSepL_of_eq [main_arg3, main_v0, main_arg1, main_v1, main_arg5, main_v2, main_arg7, main_v3, main_arg12, main_v4, main_arg14, main_v5, main_arg16, main_v6, main_arg18, main_v7, main_arg20, main_v8, main_arg22, main_v9, main_arg9, main_arg10, main_arg11] (by decide) (by decide)]; rfl

set_option maxHeartbeats 8000000 in
/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d) ∗ (∃ d, owns (c : Thread nD τ) scM0_24 fullShare d) ∗ (∃ d, owns (c : Thread nD τ) scM0_25 fullShare d)) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) ∗ iprop(hbPt0 c hbM0_0 (V m c main_arg3) ∗ hbPt0 c hbM0_1 (V m c main_v0) ∗ hbPt0 c hbM0_2 (V m c main_arg1) ∗ hbPt0 c hbM0_3 (V m c main_v1) ∗ hbPt0 c hbM0_4 (V m c main_arg5) ∗ hbPt0 c hbM0_5 (V m c main_v2) ∗ hbPt0 c hbM0_6 (V m c main_arg7) ∗ hbPt0 c hbM0_7 (V m c main_v3) ∗ hbPt0 c hbM0_8 (V m c main_arg12) ∗ hbPt0 c hbM0_9 (V m c main_v4) ∗ hbPt0 c hbM0_10 (V m c main_arg14) ∗ hbPt0 c hbM0_11 (V m c main_v5) ∗ hbPt0 c hbM0_12 (V m c main_arg16) ∗ hbPt0 c hbM0_13 (V m c main_v6) ∗ hbPt0 c hbM0_14 (V m c main_arg18) ∗ hbPt0 c hbM0_15 (V m c main_v7) ∗ hbPt0 c hbM0_16 (V m c main_arg20) ∗ hbPt0 c hbM0_17 (V m c main_v8) ∗ hbPt0 c hbM0_18 (V m c main_arg22) ∗ hbPt0 c hbM0_19 (V m c main_v9) ∗ hbPt0 c hbM0_20 (V m c main_arg9) ∗ hbPt0 c hbM0_21 (V m c main_arg10) ∗ hbPt0 c hbM0_22 (V m c main_arg11))) := by
  rw [Pipeline.ΦD_eq, scopedRest0_eq, ownSems00_eq, hbmPts0_eq]; simp only [scM0_0, scM0_1, scM0_2, scM0_3, scM0_4, scM0_5, scM0_6, scM0_7, scM0_8, scM0_9, scM0_10, scM0_11, scM0_12, scM0_13, scM0_14, scM0_15, scM0_16, scM0_17, scM0_18, scM0_19, scM0_20, scM0_21, scM0_22, scM0_23, scM0_24, scM0_25, owns_whole]; try rfl

end Cert.KernelIdeal.Hand

end
-- ==== Proof.Body.lean ====
/- The body of the kernel run from beginning to end. -/
module

public import proofs.«01_k».proof.Proof.Moves

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The row the body copies out of the stored episodes is a row of that table, whatever similarities it is found from. -/
def SlotInRange : Prop :=
  ∀ x : Vec F S64x128 .f32, k0_chk1 (extractAt ![0, 0, 0] (k0_pay128 (F := F) x) inpos_S1x1x1_p0_0_0)

set_option maxHeartbeats 40000000 in set_option sl_exec.rejoinHeartbeats 4000000 in set_option sl_exec.dmaWindow true in set_option sl_exec.dmaWindowSet true in
/-- The whole body, run: from the results' and the scratch buffers at anything, the arrays it copies at their contents
    and its semaphore cells at zero, it ends with the arrays and the cells as they were and each result and scratch
    buffer written by the stores listed in the first components, found by the run. -/
noncomputable def bodyRun (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) :
    Σ' (L0 : List (View.Piece (Elt F) S1x32 .f32)), Σ' (L1 : List (View.Piece (Elt F) S1x1 .f32)), Σ' (L2 : List (View.Piece (Elt F) S1x12 .f32)), Σ' (L3 : List (View.Piece (Elt F) S64x128 .f32)), Σ' (LT0 : List (View.Piece (Elt F) S8192x256 .f32)), Σ' (LT1 : List (View.Piece (Elt F) S512x288 .f32)), Σ' (LT2 : List (View.Piece (Elt F) S256x512 .f32)), Σ' (LT3 : List (View.Piece (Elt F) S1x256 .f32)), Σ' (LT4 : List (View.Piece (Elt F) S1x32 .f32)), Σ' (LT5 : List (View.Piece (Elt F) S1x1 .f32)), Σ' (LT6 : List (View.Piece (Elt F) S1x512 .f32)), Σ' (LT7 : List (View.Piece (Elt F) S1x256 .f32)), Σ' (LT8 : List (View.Piece (Elt F) S8x3 .f32)), Σ' (LT9 : List (View.Piece (Elt F) S1x8 .f32)), Σ' (LT10 : List (View.Piece (Elt F) S1x8 .f32)), Σ' (LT11 : List (View.Piece (Elt F) S1x1 .f32)), Σ' (LT12 : List (View.Piece (Elt F) S16x3 .f32)), Σ' (LT13 : List (View.Piece (Elt F) S1x16 .f32)), Σ' (LT14 : List (View.Piece (Elt F) S1x16 .f32)), Σ' (LT15 : List (View.Piece (Elt F) S1x1 .f32)), Σ' (LT16 : List (View.Piece (Elt F) S32x44 .f32)), Σ' (LT17 : List (View.Piece (Elt F) S1x32 .f32)), Σ' (LT18 : List (View.Piece (Elt F) S12x44 .f32)), Σ' (LT19 : List (View.Piece (Elt F) S1x12 .f32)), Σ' (LT20 : List (View.Piece (Elt F) S64x128 .f32)), Σ' (LT21 : List (View.Piece (Elt F) S1x512 .f32)), Σ' (LT22 : List (View.Piece (Elt F) S1x256 .f32)), Σ' (LT23 : List (View.Piece (Elt F) S8x44 .f32)), Σ' (LT24 : List (View.Piece (Elt F) S1x8 .f32)), { LT25 : List (View.Piece (Elt F) S1x8 .f32) //
      ∀ (W : Waits sig Unit) (K : PUnit → sProp 𝕄),
        iprop((∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fh6 ∗ hbPt0 c hbM0_7 fh7 ∗ hbPt0 c hbM0_8 fh8 ∗ hbPt0 c hbM0_9 fh9 ∗ hbPt0 c hbM0_10 fh10 ∗ hbPt0 c hbM0_11 fh11 ∗ hbPt0 c hbM0_12 fh12 ∗ hbPt0 c hbM0_13 fh13 ∗ hbPt0 c hbM0_14 fh14 ∗ hbPt0 c hbM0_15 fh15 ∗ hbPt0 c hbM0_16 fh16 ∗ hbPt0 c hbM0_17 fh17 ∗ hbPt0 c hbM0_18 fh18 ∗ hbPt0 c hbM0_19 fh19 ∗ hbPt0 c hbM0_20 fh20 ∗ hbPt0 c hbM0_21 fh21 ∗ hbPt0 c hbM0_22 fh22 ∗ owes (c : Thread nD τ) 0 W
            ∗ (iprop((∃ f, arg23.view.loc (c : Thread nD τ) ↦[arg23.view.set]{fullShare} arg23.view.writes (Elt F) f L0) ∗ (∃ f, arg24.view.loc (c : Thread nD τ) ↦[arg24.view.set]{fullShare} arg24.view.writes (Elt F) f L1) ∗ (∃ f, arg25.view.loc (c : Thread nD τ) ↦[arg25.view.set]{fullShare} arg25.view.writes (Elt F) f L2) ∗ (∃ f, arg26.view.loc (c : Thread nD τ) ↦[arg26.view.set]{fullShare} arg26.view.writes (Elt F) f L3) ∗ (∃ f, arg27.view.loc (c : Thread nD τ) ↦[arg27.view.set]{fullShare} arg27.view.writes (Elt F) f LT0) ∗ (∃ f, arg28.view.loc (c : Thread nD τ) ↦[arg28.view.set]{fullShare} arg28.view.writes (Elt F) f LT1) ∗ (∃ f, arg29.view.loc (c : Thread nD τ) ↦[arg29.view.set]{fullShare} arg29.view.writes (Elt F) f LT2) ∗ (∃ f, arg30.view.loc (c : Thread nD τ) ↦[arg30.view.set]{fullShare} arg30.view.writes (Elt F) f LT3) ∗ (∃ f, arg31.view.loc (c : Thread nD τ) ↦[arg31.view.set]{fullShare} arg31.view.writes (Elt F) f LT4) ∗ (∃ f, arg32.view.loc (c : Thread nD τ) ↦[arg32.view.set]{fullShare} arg32.view.writes (Elt F) f LT5) ∗ (∃ f, arg33.view.loc (c : Thread nD τ) ↦[arg33.view.set]{fullShare} arg33.view.writes (Elt F) f LT6) ∗ (∃ f, arg34.view.loc (c : Thread nD τ) ↦[arg34.view.set]{fullShare} arg34.view.writes (Elt F) f LT7) ∗ (∃ f, arg35.view.loc (c : Thread nD τ) ↦[arg35.view.set]{fullShare} arg35.view.writes (Elt F) f LT8) ∗ (∃ f, arg36.view.loc (c : Thread nD τ) ↦[arg36.view.set]{fullShare} arg36.view.writes (Elt F) f LT9) ∗ (∃ f, arg37.view.loc (c : Thread nD τ) ↦[arg37.view.set]{fullShare} arg37.view.writes (Elt F) f LT10) ∗ (∃ f, arg38.view.loc (c : Thread nD τ) ↦[arg38.view.set]{fullShare} arg38.view.writes (Elt F) f LT11) ∗ (∃ f, arg39.view.loc (c : Thread nD τ) ↦[arg39.view.set]{fullShare} arg39.view.writes (Elt F) f LT12) ∗ (∃ f, arg40.view.loc (c : Thread nD τ) ↦[arg40.view.set]{fullShare} arg40.view.writes (Elt F) f LT13) ∗ (∃ f, arg41.view.loc (c : Thread nD τ) ↦[arg41.view.set]{fullShare} arg41.view.writes (Elt F) f LT14) ∗ (∃ f, arg42.view.loc (c : Thread nD τ) ↦[arg42.view.set]{fullShare} arg42.view.writes (Elt F) f LT15) ∗ (∃ f, arg43.view.loc (c : Thread nD τ) ↦[arg43.view.set]{fullShare} arg43.view.writes (Elt F) f LT16) ∗ (∃ f, arg44.view.loc (c : Thread nD τ) ↦[arg44.view.set]{fullShare} arg44.view.writes (Elt F) f LT17) ∗ (∃ f, arg45.view.loc (c : Thread nD τ) ↦[arg45.view.set]{fullShare} arg45.view.writes (Elt F) f LT18) ∗ (∃ f, arg46.view.loc (c : Thread nD τ) ↦[arg46.view.set]{fullShare} arg46.view.writes (Elt F) f LT19) ∗ (∃ f, arg47.view.loc (c : Thread nD τ) ↦[arg47.view.set]{fullShare} arg47.view.writes (Elt F) f LT20) ∗ (∃ f, arg48.view.loc (c : Thread nD τ) ↦[arg48.view.set]{fullShare} arg48.view.writes (Elt F) f LT21) ∗ (∃ f, arg49.view.loc (c : Thread nD τ) ↦[arg49.view.set]{fullShare} arg49.view.writes (Elt F) f LT22) ∗ (∃ f, arg50.view.loc (c : Thread nD τ) ↦[arg50.view.set]{fullShare} arg50.view.writes (Elt F) f LT23) ∗ (∃ f, arg51.view.loc (c : Thread nD τ) ↦[arg51.view.set]{fullShare} arg51.view.writes (Elt F) f LT24) ∗ (∃ f, arg52.view.loc (c : Thread nD τ) ↦[arg52.view.set]{fullShare} arg52.view.writes (Elt F) f LT25) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fh6 ∗ hbPt0 c hbM0_7 fh7 ∗ hbPt0 c hbM0_8 fh8 ∗ hbPt0 c hbM0_9 fh9 ∗ hbPt0 c hbM0_10 fh10 ∗ hbPt0 c hbM0_11 fh11 ∗ hbPt0 c hbM0_12 fh12 ∗ hbPt0 c hbM0_13 fh13 ∗ hbPt0 c hbM0_14 fh14 ∗ hbPt0 c hbM0_15 fh15 ∗ hbPt0 c hbM0_16 fh16 ∗ hbPt0 c hbM0_17 fh17 ∗ hbPt0 c hbM0_18 fh18 ∗ hbPt0 c hbM0_19 fh19 ∗ hbPt0 c hbM0_20 fh20 ∗ hbPt0 c hbM0_21 fh21 ∗ hbPt0 c hbM0_22 fh22 ∗ (∃ W', owes (c : Thread nD τ) 0 W')) -∗ K ⟨⟩))
          ⊢ wp frame (wpE (defs₀ (F := F)) Variants.none c none) Set.univ (cc0__body (Memref.whole main_arg3) (Memref.isWhole_whole _) (Memref.whole main_v0) (Memref.isWhole_whole _) (Memref.whole main_arg1) (Memref.isWhole_whole _) (Memref.whole main_v1) (Memref.isWhole_whole _) (Memref.whole main_arg5) (Memref.isWhole_whole _) (Memref.whole main_v2) (Memref.isWhole_whole _) (Memref.whole main_arg7) (Memref.isWhole_whole _) (Memref.whole main_v3) (Memref.isWhole_whole _) (Memref.whole main_arg12) (Memref.isWhole_whole _) (Memref.whole main_v4) (Memref.isWhole_whole _) (Memref.whole main_arg14) (Memref.isWhole_whole _) (Memref.whole main_v5) (Memref.isWhole_whole _) (Memref.whole main_arg16) (Memref.isWhole_whole _) (Memref.whole main_v6) (Memref.isWhole_whole _) (Memref.whole main_arg18) (Memref.isWhole_whole _) (Memref.whole main_v7) (Memref.isWhole_whole _) (Memref.whole main_arg20) (Memref.isWhole_whole _) (Memref.whole main_v8) (Memref.isWhole_whole _) (Memref.whole main_arg22) (Memref.isWhole_whole _) (Memref.whole main_v9) (Memref.isWhole_whole _) (Memref.whole main_arg9) (Memref.isWhole_whole _) (Memref.whole main_arg10) (Memref.isWhole_whole _) (Memref.whole main_arg11) (Memref.isWhole_whole _) arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 cc0_scratch26) K } := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, fun W K => ?run⟩
  case run =>
    simp only [cc0__body_eq_skeleton]; unfold cc0__body_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%d0, %f0, -, H0⟩, ⟨%d1, %f1, -, H1⟩, ⟨%d2, %f2, -, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, ⟨%ds16, %fs16, -, HS16⟩, ⟨%ds17, %fs17, -, HS17⟩, ⟨%ds18, %fs18, -, HS18⟩, ⟨%ds19, %fs19, -, HS19⟩, ⟨%ds20, %fs20, -, HS20⟩, ⟨%ds21, %fs21, -, HS21⟩, ⟨%ds22, %fs22, -, HS22⟩, ⟨%ds23, %fs23, -, HS23⟩, ⟨%ds24, %fs24, -, HS24⟩, ⟨%ds25, %fs25, -, HS25⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hh0, Hh1, Hh2, Hh3, Hh4, Hh5, Hh6, Hh7, Hh8, Hh9, Hh10, Hh11, Hh12, Hh13, Hh14, Hh15, Hh16, Hh17, Hh18, Hh19, Hh20, Hh21, Hh22, HW, Hk⟩
    sl_exec (disch := exact hchk _)
    sl_step
    iapply Hk
    isplitl [H0]; · iexists _; iexact H0
    isplitl [H1]; · iexists _; iexact H1
    isplitl [H2]; · iexists _; iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    isplitl [HS15]; · iexists _; iexact HS15
    isplitl [HS16]; · iexists _; iexact HS16
    isplitl [HS17]; · iexists _; iexact HS17
    isplitl [HS18]; · iexists _; iexact HS18
    isplitl [HS19]; · iexists _; iexact HS19
    isplitl [HS20]; · iexists _; iexact HS20
    isplitl [HS21]; · iexists _; iexact HS21
    isplitl [HS22]; · iexists _; iexact HS22
    isplitl [HS23]; · iexists _; iexact HS23
    isplitl [HS24]; · iexists _; iexact HS24
    isplitl [HS25]; · iexists _; iexact HS25
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [Hh18]; · iexact Hh18
    isplitl [Hh19]; · iexact Hh19
    isplitl [Hh20]; · iexact Hh20
    isplitl [Hh21]; · iexact Hh21
    isplitl [Hh22]; · iexact Hh22
    iexists _; iexact HW

end Cert.KernelIdeal.Hand

end
-- ==== Proof.LaunchData.lean ====
/- The launch's data: what its one grid point leaves in the results. -/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The run's pieces for output 0 tile its block (1 store of `S1x32`, checked by the kernel's evaluation: Lib/Ring.lean `Piece.tiledL`, linear in the pieces, through a loop's `@[irreducible]` trip theorem too), so they cover it. -/
theorem cover0_A_0 (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) (y : S1x32.Idx) :
    ∃ pc ∈ (bodyRun hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52  fh0 fh1 fh2 fh3 fh4 fh5 fh6 fh7 fh8 fh9 fh10 fh11 fh12 fh13 fh14 fh15 fh16 fh17 fh18 fh19 fh20 fh21 fh22).1, y ∈ pc.1.set :=
  View.cover_of_tiledL (bodyRun hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52  fh0 fh1 fh2 fh3 fh4 fh5 fh6 fh7 fh8 fh9 fh10 fh11 fh12 fh13 fh14 fh15 fh16 fh17 fh18 fh19 fh20 fh21 fh22).1 S1x32.size (by sl_kernel_rfl) y

/-- What the run leaves in output 0's staging buffer: its pieces read back over junk. -/
def out0_A_0 (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : Vec F S1x32 .f32 :=
  VO0_0.read (Elt F) (VO0_0.writes (Elt F) VO0_0.junk (bodyRun hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52  fh0 fh1 fh2 fh3 fh4 fh5 fh6 fh7 fh8 fh9 fh10 fh11 fh12 fh13 fh14 fh15 fh16 fh17 fh18 fh19 fh20 fh21 fh22).1)

/-- The run's pieces for output 1 tile its block (1 store of `S1x1`, checked by the kernel's evaluation: Lib/Ring.lean `Piece.tiledL`, linear in the pieces, through a loop's `@[irreducible]` trip theorem too), so they cover it. -/
theorem cover0_A_1 (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) (y : S1x1.Idx) :
    ∃ pc ∈ (bodyRun hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52  fh0 fh1 fh2 fh3 fh4 fh5 fh6 fh7 fh8 fh9 fh10 fh11 fh12 fh13 fh14 fh15 fh16 fh17 fh18 fh19 fh20 fh21 fh22).2.1, y ∈ pc.1.set :=
  View.cover_of_tiledL (bodyRun hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52  fh0 fh1 fh2 fh3 fh4 fh5 fh6 fh7 fh8 fh9 fh10 fh11 fh12 fh13 fh14 fh15 fh16 fh17 fh18 fh19 fh20 fh21 fh22).2.1 S1x1.size (by sl_kernel_rfl) y

/-- What the run leaves in output 1's staging buffer: its pieces read back over junk. -/
def out0_A_1 (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : Vec F S1x1 .f32 :=
  VO0_1.read (Elt F) (VO0_1.writes (Elt F) VO0_1.junk (bodyRun hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52  fh0 fh1 fh2 fh3 fh4 fh5 fh6 fh7 fh8 fh9 fh10 fh11 fh12 fh13 fh14 fh15 fh16 fh17 fh18 fh19 fh20 fh21 fh22).2.1)

/-- The run's pieces for output 2 tile its block (1 store of `S1x12`, checked by the kernel's evaluation: Lib/Ring.lean `Piece.tiledL`, linear in the pieces, through a loop's `@[irreducible]` trip theorem too), so they cover it. -/
theorem cover0_A_2 (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) (y : S1x12.Idx) :
    ∃ pc ∈ (bodyRun hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52  fh0 fh1 fh2 fh3 fh4 fh5 fh6 fh7 fh8 fh9 fh10 fh11 fh12 fh13 fh14 fh15 fh16 fh17 fh18 fh19 fh20 fh21 fh22).2.2.1, y ∈ pc.1.set :=
  View.cover_of_tiledL (bodyRun hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52  fh0 fh1 fh2 fh3 fh4 fh5 fh6 fh7 fh8 fh9 fh10 fh11 fh12 fh13 fh14 fh15 fh16 fh17 fh18 fh19 fh20 fh21 fh22).2.2.1 S1x12.size (by sl_kernel_rfl) y

/-- What the run leaves in output 2's staging buffer: its pieces read back over junk. -/
def out0_A_2 (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : Vec F S1x12 .f32 :=
  VO0_2.read (Elt F) (VO0_2.writes (Elt F) VO0_2.junk (bodyRun hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52  fh0 fh1 fh2 fh3 fh4 fh5 fh6 fh7 fh8 fh9 fh10 fh11 fh12 fh13 fh14 fh15 fh16 fh17 fh18 fh19 fh20 fh21 fh22).2.2.1)

/-- The run's pieces for output 3 tile its block (1 store of `S64x128`, checked by the kernel's evaluation: Lib/Ring.lean `Piece.tiledL`, linear in the pieces, through a loop's `@[irreducible]` trip theorem too), so they cover it. -/
theorem cover0_A_3 (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) (y : S64x128.Idx) :
    ∃ pc ∈ (bodyRun hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52  fh0 fh1 fh2 fh3 fh4 fh5 fh6 fh7 fh8 fh9 fh10 fh11 fh12 fh13 fh14 fh15 fh16 fh17 fh18 fh19 fh20 fh21 fh22).2.2.2.1, y ∈ pc.1.set :=
  View.cover_of_tiledL (bodyRun hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52  fh0 fh1 fh2 fh3 fh4 fh5 fh6 fh7 fh8 fh9 fh10 fh11 fh12 fh13 fh14 fh15 fh16 fh17 fh18 fh19 fh20 fh21 fh22).2.2.2.1 S64x128.size (by sl_kernel_rfl) y

/-- What the run leaves in output 3's staging buffer: its pieces read back over junk. -/
def out0_A_3 (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : Vec F S64x128 .f32 :=
  VO0_3.read (Elt F) (VO0_3.writes (Elt F) VO0_3.junk (bodyRun hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52  fh0 fh1 fh2 fh3 fh4 fh5 fh6 fh7 fh8 fh9 fh10 fh11 fh12 fh13 fh14 fh15 fh16 fh17 fh18 fh19 fh20 fh21 fh22).2.2.2.1)

/-! ## What the outputs hold after each point -/

/-- What the outputs' staging buffers hold after the body at point `t` (as a tuple, in window order): the run's contents at
    the point's memrefs and input blocks. -/
def outsAt0 (hchk : SlotInRange (F := F)) (c : Dev nD) (t : Fin cfg0.N) : Vec F S1x32 .f32 × Vec F S1x1 .f32 × Vec F S1x12 .f32 × Vec F S64x128 .f32 :=
  (out0_A_0 hchk c (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _) scM0_24 (Memref.isWhole_whole _) scM0_25 (Memref.isWhole_whole _)  (V m c main_arg3) (V m c main_v0) (V m c main_arg1) (V m c main_v1) (V m c main_arg5) (V m c main_v2) (V m c main_arg7) (V m c main_v3) (V m c main_arg12) (V m c main_v4) (V m c main_arg14) (V m c main_v5) (V m c main_arg16) (V m c main_v6) (V m c main_arg18) (V m c main_v7) (V m c main_arg20) (V m c main_v8) (V m c main_arg22) (V m c main_v9) (V m c main_arg9) (V m c main_arg10) (V m c main_arg11), out0_A_1 hchk c (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _) scM0_24 (Memref.isWhole_whole _) scM0_25 (Memref.isWhole_whole _)  (V m c main_arg3) (V m c main_v0) (V m c main_arg1) (V m c main_v1) (V m c main_arg5) (V m c main_v2) (V m c main_arg7) (V m c main_v3) (V m c main_arg12) (V m c main_v4) (V m c main_arg14) (V m c main_v5) (V m c main_arg16) (V m c main_v6) (V m c main_arg18) (V m c main_v7) (V m c main_arg20) (V m c main_v8) (V m c main_arg22) (V m c main_v9) (V m c main_arg9) (V m c main_arg10) (V m c main_arg11), out0_A_2 hchk c (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _) scM0_24 (Memref.isWhole_whole _) scM0_25 (Memref.isWhole_whole _)  (V m c main_arg3) (V m c main_v0) (V m c main_arg1) (V m c main_v1) (V m c main_arg5) (V m c main_v2) (V m c main_arg7) (V m c main_v3) (V m c main_arg12) (V m c main_v4) (V m c main_arg14) (V m c main_v5) (V m c main_arg16) (V m c main_v6) (V m c main_arg18) (V m c main_v7) (V m c main_arg20) (V m c main_v8) (V m c main_arg22) (V m c main_v9) (V m c main_arg9) (V m c main_arg10) (V m c main_arg11), out0_A_3 hchk c (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _) scM0_24 (Memref.isWhole_whole _) scM0_25 (Memref.isWhole_whole _)  (V m c main_arg3) (V m c main_v0) (V m c main_arg1) (V m c main_v1) (V m c main_arg5) (V m c main_v2) (V m c main_arg7) (V m c main_v3) (V m c main_arg12) (V m c main_v4) (V m c main_arg14) (V m c main_v5) (V m c main_arg16) (V m c main_v6) (V m c main_arg18) (V m c main_v7) (V m c main_arg20) (V m c main_v8) (V m c main_arg22) (V m c main_v9) (V m c main_arg9) (V m c main_arg10) (V m c main_arg11))

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (hchk : SlotInRange (F := F)) (_ : Fin 1) (c : Dev nD) : Dat τ (Elt F) Unit ℕ (Pipeline.UD sig nD τ) ℕ cfg0 c where
  A w := V m c (Pipeline.arrRef spec0 w)
  after w t := match w with
    | ⟨0, _⟩ => (outsAt0 m hchk c t).1
    | ⟨1, _⟩ => (outsAt0 m hchk c t).2.1
    | ⟨2, _⟩ => (outsAt0 m hchk c t).2.2.1
    | ⟨3, _⟩ => (outsAt0 m hchk c t).2.2.2
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (hchk : SlotInRange (F := F)) (c : Dev nD) (w : Fin cfg0.W) : (dats m hchk 0 c).A w = V m c (Pipeline.arrRef spec0 w) := by
  dsimp only [dats]

/-- What the body leaves, window by window (the proof data's `match` reduced by `dsimp`). -/
theorem after0_0 (hchk : SlotInRange (F := F)) (c : Dev nD) (t : Fin cfg0.N) : (dats m hchk 0 c).after 0 t = (outsAt0 m hchk c t).1 := by dsimp only [dats]
theorem after0_1 (hchk : SlotInRange (F := F)) (c : Dev nD) (t : Fin cfg0.N) : (dats m hchk 0 c).after 1 t = (outsAt0 m hchk c t).2.1 := by dsimp only [dats]
theorem after0_2 (hchk : SlotInRange (F := F)) (c : Dev nD) (t : Fin cfg0.N) : (dats m hchk 0 c).after 2 t = (outsAt0 m hchk c t).2.2.1 := by dsimp only [dats]
theorem after0_3 (hchk : SlotInRange (F := F)) (c : Dev nD) (t : Fin cfg0.N) : (dats m hchk 0 c).after 3 t = (outsAt0 m hchk c t).2.2.2 := by dsimp only [dats]

end Cert.KernelIdeal.Hand

end
-- ==== Proof.Launch.lean ====
/- The launch: the body set into it, and the run of the whole program. -/
module

public import proofs.«01_k».proof.Proof.LaunchData

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body obligation, at a generic point -/

/-- What the body is called with at point `t` (Lib/Pipeline.lean `BodyObligation`'s precondition, the windows one by one), -/
def bodyPre (hchk : SlotInRange (F := F)) (c : Dev nD) (t : Fin cfg0.N) : sProp 𝕄 :=
  iprop((dats m hchk 0 c).Φ t.castSucc ∗ (dats m hchk 0 c).owesAt () t.castSucc
    ∗ (∃ d, owns (c : Thread nD τ) (ms0_0 t) fullShare ((dats m hchk 0 c).before 0 t d))
    ∗ (∃ d, owns (c : Thread nD τ) (ms0_1 t) fullShare ((dats m hchk 0 c).before 1 t d))
    ∗ (∃ d, owns (c : Thread nD τ) (ms0_2 t) fullShare ((dats m hchk 0 c).before 2 t d))
    ∗ (∃ d, owns (c : Thread nD τ) (ms0_3 t) fullShare ((dats m hchk 0 c).before 3 t d)))

/-- and what it returns. -/
def bodyPost (hchk : SlotInRange (F := F)) (c : Dev nD) (t : Fin cfg0.N) : sProp 𝕄 :=
  iprop((dats m hchk 0 c).Φ t.succ ∗ (dats m hchk 0 c).owesAt () t.succ
    ∗ owns (c : Thread nD τ) (ms0_0 t) fullShare ((dats m hchk 0 c).after 0 t)
    ∗ owns (c : Thread nD τ) (ms0_1 t) fullShare ((dats m hchk 0 c).after 1 t)
    ∗ owns (c : Thread nD τ) (ms0_2 t) fullShare ((dats m hchk 0 c).after 2 t)
    ∗ owns (c : Thread nD τ) (ms0_3 t) fullShare ((dats m hchk 0 c).after 3 t))

set_option maxHeartbeats 2800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hchk : SlotInRange (F := F)) (c : Dev nD) (t : Fin cfg0.N) :
    bodyPre m hchk c t ⊢ wp frame (wpE (defs₀ (F := F)) Variants.none c none) Set.univ (bodyAt0 t) (fun _ => bodyPost m hchk c t) := by
  unfold bodyPre bodyPost bodyAt0
  rw [show (dats m hchk 0 c).Φ t.succ = (dats m hchk 0 c).Φ t.castSucc from rfl,
    after0_0, after0_1, after0_2, after0_3]
  rw [show (dats m hchk 0 c).Φ t.castSucc = Pipeline.ΦD osem0 spec0 H0 (V m) c from rfl, PhiD0_eq]
  unfold Dat.owesAt Pipeline.owesWithin
  rw [show (dats m hchk 0 c).owed t.castSucc = 0 from rfl, show (dats m hchk 0 c).owed t.succ = 0 from rfl]
  unfold outsAt0
  unfold out0_A_0 out0_A_1 out0_A_2 out0_A_3; (try dsimp only)
  iintro ⟨⟨⟨HS0, HS1, HS2, HS3, HS4, HS5, HS6, HS7, HS8, HS9, HS10, HS11, HS12, HS13, HS14, HS15, HS16, HS17, HS18, HS19, HS20, HS21, HS22, HS23, HS24, HS25⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37⟩, ⟨Hh0, Hh1, Hh2, Hh3, Hh4, Hh5, Hh6, Hh7, Hh8, Hh9, Hh10, Hh11, Hh12, Hh13, Hh14, Hh15, Hh16, Hh17, Hh18, Hh19, Hh20, Hh21, Hh22⟩⟩, ⟨%W, -, HW⟩, ⟨%d0, H0⟩, ⟨%d1, H1⟩, ⟨%d2, H2⟩, ⟨%d3, H3⟩⟩
  iapply ((bodyRun hchk c _ _ _ _ _ _ _ _ _ _ _ _ _ _ _ _ _ _ _ _ _ _ _ _ _ _ _ _ _ _ _ _ _ _ _ _ _ _ _ _ _ _ _ _ _ _ _ _ _ _ _ _ _ _ _ _ _ _ _ _  (V m c main_arg3) (V m c main_v0) (V m c main_arg1) (V m c main_v1) (V m c main_arg5) (V m c main_v2) (V m c main_arg7) (V m c main_v3) (V m c main_arg12) (V m c main_v4) (V m c main_arg14) (V m c main_v5) (V m c main_arg16) (V m c main_v6) (V m c main_arg18) (V m c main_v7) (V m c main_arg20) (V m c main_v8) (V m c main_arg22) (V m c main_v9) (V m c main_arg9) (V m c main_arg10) (V m c main_arg11)).2.2.2.2.2.2.2.2.2.2.2.2.2.2.2.2.2.2.2.2.2.2.2.2.2.2.2.2.2.2 W _)
  isplitl [H0]; · iexists _; iexact H0
  isplitl [H1]; · iexists _; iexact H1
  isplitl [H2]; · iexists _; iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [HS22]; · iexact HS22
  isplitl [HS23]; · iexact HS23
  isplitl [HS24]; · iexact HS24
  isplitl [HS25]; · iexact HS25
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  isplitl [Hh18]; · iexact Hh18
  isplitl [Hh19]; · iexact Hh19
  isplitl [Hh20]; · iexact Hh20
  isplitl [Hh21]; · iexact Hh21
  isplitl [Hh22]; · iexact Hh22
  isplitl [HW]; · iexact HW
  iintro ⟨⟨%e0, H0⟩, ⟨%e1, H1⟩, ⟨%e2, H2⟩, ⟨%e3, H3⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩, ⟨%fT11, HS11⟩, ⟨%fT12, HS12⟩, ⟨%fT13, HS13⟩, ⟨%fT14, HS14⟩, ⟨%fT15, HS15⟩, ⟨%fT16, HS16⟩, ⟨%fT17, HS17⟩, ⟨%fT18, HS18⟩, ⟨%fT19, HS19⟩, ⟨%fT20, HS20⟩, ⟨%fT21, HS21⟩, ⟨%fT22, HS22⟩, ⟨%fT23, HS23⟩, ⟨%fT24, HS24⟩, ⟨%fT25, HS25⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hh0, Hh1, Hh2, Hh3, Hh4, Hh5, Hh6, Hh7, Hh8, Hh9, Hh10, Hh11, Hh12, Hh13, Hh14, Hh15, Hh16, Hh17, Hh18, Hh19, Hh20, Hh21, Hh22, ⟨%W', HW'⟩⟩
  isplitl [HS0 HS1 HS2 HS3 HS4 HS5 HS6 HS7 HS8 HS9 HS10 HS11 HS12 HS13 HS14 HS15 HS16 HS17 HS18 HS19 HS20 HS21 HS22 HS23 HS24 HS25 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hh0 Hh1 Hh2 Hh3 Hh4 Hh5 Hh6 Hh7 Hh8 Hh9 Hh10 Hh11 Hh12 Hh13 Hh14 Hh15 Hh16 Hh17 Hh18 Hh19 Hh20 Hh21 Hh22]
  · isplitl [HS0 HS1 HS2 HS3 HS4 HS5 HS6 HS7 HS8 HS9 HS10 HS11 HS12 HS13 HS14 HS15 HS16 HS17 HS18 HS19 HS20 HS21 HS22 HS23 HS24 HS25]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      isplitl [HS11]
      · iexists _; unfold owns; iexists _; isplitr
        swap; · iexact HS11
        ipureintro; rfl
      isplitl [HS12]
      · iexists _; unfold owns; iexists _; isplitr
        swap; · iexact HS12
        ipureintro; rfl
      isplitl [HS13]
      · iexists _; unfold owns; iexists _; isplitr
        swap; · iexact HS13
        ipureintro; rfl
      isplitl [HS14]
      · iexists _; unfold owns; iexists _; isplitr
        swap; · iexact HS14
        ipureintro; rfl
      isplitl [HS15]
      · iexists _; unfold owns; iexists _; isplitr
        swap; · iexact HS15
        ipureintro; rfl
      isplitl [HS16]
      · iexists _; unfold owns; iexists _; isplitr
        swap; · iexact HS16
        ipureintro; rfl
      isplitl [HS17]
      · iexists _; unfold owns; iexists _; isplitr
        swap; · iexact HS17
        ipureintro; rfl
      isplitl [HS18]
      · iexists _; unfold owns; iexists _; isplitr
        swap; · iexact HS18
        ipureintro; rfl
      isplitl [HS19]
      · iexists _; unfold owns; iexists _; isplitr
        swap; · iexact HS19
        ipureintro; rfl
      isplitl [HS20]
      · iexists _; unfold owns; iexists _; isplitr
        swap; · iexact HS20
        ipureintro; rfl
      isplitl [HS21]
      · iexists _; unfold owns; iexists _; isplitr
        swap; · iexact HS21
        ipureintro; rfl
      isplitl [HS22]
      · iexists _; unfold owns; iexists _; isplitr
        swap; · iexact HS22
        ipureintro; rfl
      isplitl [HS23]
      · iexists _; unfold owns; iexists _; isplitr
        swap; · iexact HS23
        ipureintro; rfl
      isplitl [HS24]
      · iexists _; unfold owns; iexists _; isplitr
        swap; · iexact HS24
        ipureintro; rfl
      iexists _; unfold owns; iexists _; isplitr
      swap; · iexact HS25
      ipureintro; rfl
    isplitl [Hg]
    · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      iexact Hq37
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [Hh18]; · iexact Hh18
    isplitl [Hh19]; · iexact Hh19
    isplitl [Hh20]; · iexact Hh20
    isplitl [Hh21]; · iexact Hh21
    iexact Hh22
  isplitl [HW']
  · iexists W'; isplitr; · ipureintro; exact fun _ _ => Or.inl trivial
    iexact HW'
  isplitl [H0]
  · unfold owns; iexists _; isplitr
    swap; · iexact H0
    ipureintro; exact View.read_writes_of_cover _ _ _ _ _ (cover0_A_0 hchk c _ _ _ _ _ _ _ _ _ _ _ _ _ _ _ _ _ _ _ _ _ _ _ _ _ _ _ _ _ _ _ _ _ _ _ _ _ _ _ _ _ _ _ _ _ _ _ _ _ _ _ _ _ _ _ _ _ _ _ _  _ _ _ _ _ _ _ _ _ _ _ _ _ _ _ _ _ _ _ _ _ _ _)
  isplitl [H1]
  · unfold owns; iexists _; isplitr
    swap; · iexact H1
    ipureintro; exact View.read_writes_of_cover _ _ _ _ _ (cover0_A_1 hchk c _ _ _ _ _ _ _ _ _ _ _ _ _ _ _ _ _ _ _ _ _ _ _ _ _ _ _ _ _ _ _ _ _ _ _ _ _ _ _ _ _ _ _ _ _ _ _ _ _ _ _ _ _ _ _ _ _ _ _ _  _ _ _ _ _ _ _ _ _ _ _ _ _ _ _ _ _ _ _ _ _ _ _)
  isplitl [H2]
  · unfold owns; iexists _; isplitr
    swap; · iexact H2
    ipureintro; exact View.read_writes_of_cover _ _ _ _ _ (cover0_A_2 hchk c _ _ _ _ _ _ _ _ _ _ _ _ _ _ _ _ _ _ _ _ _ _ _ _ _ _ _ _ _ _ _ _ _ _ _ _ _ _ _ _ _ _ _ _ _ _ _ _ _ _ _ _ _ _ _ _ _ _ _ _  _ _ _ _ _ _ _ _ _ _ _ _ _ _ _ _ _ _ _ _ _ _ _)
  unfold owns; iexists _; isplitr
  swap; · iexact H3
  ipureintro; exact View.read_writes_of_cover _ _ _ _ _ (cover0_A_3 hchk c _ _ _ _ _ _ _ _ _ _ _ _ _ _ _ _ _ _ _ _ _ _ _ _ _ _ _ _ _ _ _ _ _ _ _ _ _ _ _ _ _ _ _ _ _ _ _ _ _ _ _ _ _ _ _ _ _ _ _ _  _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hchk : SlotInRange (F := F)) (c : Dev nD) : BodyObligation (dats m hchk 0 c) (defs₀ (F := F)) Variants.none () Set.univ := fun t => by
  rw [bigSep_W0, bigSep_W0, defs₀_row]
  exact triple_restated (sound_body m hchk c t) rfl .rfl fun _ => .rfl

/-! ## The run and the frame -/

-- `θ_run_frame_dma_around`'s implicit arguments are found by unifying its conclusion with this one, which takes unfolding plain
-- definitions in a metavariable's type
set_option backward.isDefEq.respectTransparency.types false in
set_option maxHeartbeats 800000 in
/-- The launch's final states: the pipeline's arrays as the proof data give them, the later lines applied, every semaphore at zero. -/
theorem run_main_quiescent (hchk : SlotInRange (F := F)) : θ_run defs (onTc (τ := τ) (main (F := F))) (s₀ m ρ) (fun r => (Pipeline.FramePost cfgs (dats m hchk) 0 (Pipeline.afterTail₀ cfgs (dats m hchk) 0 (V0 m) [hostOps1])) r ∧ r.2.sem = fun _ => 0) :=
  Pipeline.θ_run_frame_dma_around (Q' := _) cfgs (dats m hchk) (0 : Fin 1) launch0 osem0 defs₀ Variants.none ownSemFacts0 H0 H0_sub m ρ main
    (hbody := fun c => (body_obligation m hchk c).loose) (hshare := fun c => (dats m hchk 0 c).share_full fun _ => rfl)
    (howed := fun _ _ => rfl) (V₀ := V0 m) (opss := [hostOps1]) (hsub := sfx_but) (hfresh := sfx_fresh) (hkeep := sfx_keeps)
    (hmain := hmain m Variants.none) (hA := A_eq m hchk) (hin := fun _ => .rfl) (hout := fun _ => .rfl)

end Cert.KernelIdeal.Hand

end
-- ==== Proof.First.lean ====
/- The first place where a finite family of extended reals is greatest, and the two ways the programs find it: the
   kernel takes the least position among those that hold the maximum, the reference folds pairs of value and
   position. -/
module

public import Idealize.ShloMosaic.Lib.Pointwise
public import Idealize.ShloMosaic.PureOps.Ideal
public import Idealize.ShloMosaic.PureOps.Ideal.Laws

@[expose] public section

noncomputable section

namespace Cert.First

open Idealize.ShloMosaic

/-- `k` is the first place where `x` is greatest. -/
def IsFirst {n : ℕ} (x : Fin n → EReal) (k : Fin n) : Prop := (∀ j, x j ≤ x k) ∧ ∀ j, x j = x k → k ≤ j

/-- There is one first place at most. -/
theorem IsFirst.unique {n : ℕ} {x : Fin n → EReal} {k l : Fin n} (h : IsFirst x k) (h' : IsFirst x l) : k = l :=
  have e : x k = x l := le_antisymm (h'.1 k) (h.1 l)
  le_antisymm (h.2 l e.symm) (h'.2 k e)

/-- The bits of minus infinity. -/
theorem ofBits_negInf : Ideal.ofBits FTy.f32 4286578688#32 = (⊥ : EReal) := by simp [Ideal.ofBits, Ideal.ieee]

/-- A maximum folded from below everything is attained and bounds all. -/
theorem fold_max_spec {ι : Type} [Fintype ι] [Nonempty ι] (x : ι → EReal) :
    (∀ i, x i ≤ Finset.fold max (⊥ : EReal) x Finset.univ) ∧ ∃ i, x i = Finset.fold max (⊥ : EReal) x Finset.univ := by
  have hle : ∀ i, x i ≤ Finset.fold max (⊥ : EReal) x Finset.univ := fun i =>
    (Finset.le_fold_max _).mpr (Or.inr ⟨i, Finset.mem_univ i, le_rfl⟩)
  refine ⟨hle, ?_⟩
  rcases (Finset.le_fold_max (Finset.fold max (⊥ : EReal) x Finset.univ)).mp le_rfl with h | ⟨i, _, h⟩
  · obtain ⟨i⟩ := ‹Nonempty ι›
    exact ⟨i, le_antisymm (hle i) (h.trans bot_le)⟩
  · exact ⟨i, le_antisymm (hle i) h⟩

/-- The signed minimum by the words' integers. -/
theorem minsi_eq (a b : BitVec 32) : IntOp.minsi a b = if a.toInt < b.toInt then a else b := by
  simp [IntOp.minsi, BitVec.slt]

/-- A signed minimum folded over a family is below all of it and is the start or one of it. -/
theorem fold_minsi_spec {ι : Type} [DecidableEq ι] (g : ι → BitVec 32) (init : BitVec 32) (s : Finset ι) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i h => absurd h (Finset.notMem_empty i), Or.inl (by rw [Finset.fold_empty])⟩
  | insert a s ha ih =>
    rw [Finset.fold_insert ha, minsi_eq]
    split
    · rename_i h
      have h : (g a).toInt < (s.fold IntOp.minsi init g).toInt := h
      refine ⟨fun i hi => ?_, Or.inr ⟨a, Finset.mem_insert_self a s, rfl⟩⟩
      rcases Finset.mem_insert.mp hi with rfl | hi
      · exact le_rfl
      · exact h.le.trans (ih.1 i hi)
    · rename_i h
      have h : (s.fold IntOp.minsi init g).toInt ≤ (g a).toInt := not_lt.mp h
      refine ⟨fun i hi => ?_, ?_⟩
      · rcases Finset.mem_insert.mp hi with rfl | hi
        · exact h
        · exact ih.1 i hi
      · rcases ih.2 with e | ⟨i, hi, e⟩
        · exact Or.inl e
        · exact Or.inr ⟨i, Finset.mem_insert_of_mem hi, e⟩

/-- A small number as a word reads back signed as itself. -/
theorem toInt_ofNat {k : ℕ} (h : k < 2 ^ 31) : (BitVec.ofNat 32 k).toInt = k := by
  rw [BitVec.toInt_eq_toNat_of_lt (by rw [BitVec.toNat_ofNat]; omega), BitVec.toNat_ofNat]
  congr 1; omega

/-- The least position that holds the maximum, out of a signed minimum in which the other places stand at `2 ^ 30`. -/
theorem fold_first {ι : Type} [Fintype ι] [DecidableEq ι] {n : ℕ} (hn : n ≤ 2 ^ 30) (y : Fin n → EReal) (pos : ι → Fin n)
    (hpos : Function.Surjective pos) (M : EReal) (hM : ∀ j, y j ≤ M) (hat : ∃ j, y j = M) :
    ∃ k, IsFirst y k ∧ y k = M ∧ Finset.fold IntOp.minsi 2147483647#32
      (fun i => if y (pos i) = M then BitVec.ofNat 32 (pos i).val else 1073741824#32) Finset.univ = BitVec.ofNat 32 k.val := by
  obtain ⟨hle, hmem⟩ := fold_minsi_spec (fun i => if y (pos i) = M then BitVec.ofNat 32 (pos i).val else 1073741824#32)
    2147483647#32 (Finset.univ : Finset ι)
  set s := Finset.fold IntOp.minsi 2147483647#32
    (fun i => if y (pos i) = M then BitVec.ofNat 32 (pos i).val else 1073741824#32) (Finset.univ : Finset ι)
  have hk : ∀ j : Fin n, y j = M → s.toInt ≤ j.val := fun j hj => by
    obtain ⟨i, rfl⟩ := hpos j
    have h := hle i (Finset.mem_univ i)
    rw [if_pos hj, toInt_ofNat (by have := (pos i).isLt; omega)] at h
    exact h
  obtain ⟨j, hj⟩ := hat
  have hs := hk j hj
  have hjn := j.isLt
  rcases hmem with e | ⟨i, _, e⟩
  · rw [e] at hs
    have : (2147483647#32 : BitVec 32).toInt = 2147483647 := by decide
    omega
  · by_cases hi : y (pos i) = M
    · rw [if_pos hi] at e
      refine ⟨pos i, ⟨fun l => (hM l).trans hi.ge, fun l hl => ?_⟩, hi, e⟩
      have h := hk l (hl.trans hi)
      rw [e, toInt_ofNat (by have := (pos i).isLt; omega)] at h
      exact Fin.le_def.mpr (by omega)
    · rw [if_neg hi] at e
      rw [e] at hs
      have : (1073741824#32 : BitVec 32).toInt = 1073741824 := by decide
      omega

/-- What one step of the reference's fold keeps: the greater value; of equal values the one with the lesser position. -/
def keep (a b : EReal × BitVec 32) : EReal × BitVec 32 :=
  (if b.1 < a.1 then a.1 else b.1, if b.1 < a.1 ∨ (a.1 = b.1 ∧ a.2.toInt < b.2.toInt) then a.2 else b.2)

theorem keep_spec (a b : EReal × BitVec 32) :
    (keep a b = a ∨ keep a b = b) ∧ a.1 ≤ (keep a b).1 ∧ b.1 ≤ (keep a b).1 ∧
      (a.1 = (keep a b).1 → (keep a b).2.toInt ≤ a.2.toInt) ∧ (b.1 = (keep a b).1 → (keep a b).2.toInt ≤ b.2.toInt) := by
  obtain ⟨a, u⟩ := a
  obtain ⟨b, w⟩ := b
  unfold keep
  dsimp only
  by_cases h : b < a
  · rw [if_pos h, if_pos (Or.inl h)]
    exact ⟨Or.inl rfl, le_rfl, h.le, fun _ => le_rfl, fun e => absurd e h.ne⟩
  · rw [if_neg h]
    have h := not_lt.mp h
    by_cases h' : a = b ∧ u.toInt < w.toInt
    · obtain ⟨rfl, h'⟩ := h'
      rw [if_pos (Or.inr ⟨rfl, h'⟩)]
      exact ⟨Or.inl rfl, le_rfl, le_rfl, fun _ => le_rfl, fun _ => h'.le⟩
    · rw [if_neg (by rintro (h'' | h''); exacts [absurd h'' (not_lt.mpr h), h' h''])]
      exact ⟨Or.inr rfl, h, le_rfl, fun e => not_lt.mp fun l => h' ⟨e, l⟩, fun _ => le_rfl⟩

/-- Folded over a list: the result is the start or one of the list, bounds every value, and of those that equal it has
    the least position. -/
theorem foldl_keep_spec (l : List (EReal × BitVec 32)) (a : EReal × BitVec 32) :
    (l.foldl keep a ∈ a :: l) ∧ ∀ p ∈ a :: l, p.1 ≤ (l.foldl keep a).1 ∧
      (p.1 = (l.foldl keep a).1 → (l.foldl keep a).2.toInt ≤ p.2.toInt) := by
  induction l generalizing a with
  | nil => exact ⟨List.mem_singleton.mpr rfl, fun p hp => by rw [List.mem_singleton.mp hp]; exact ⟨le_rfl, fun _ => le_rfl⟩⟩
  | cons b l ih =>
    rw [List.foldl_cons]
    obtain ⟨hm, hb⟩ := ih (keep a b)
    obtain ⟨hs, ha1, hb1, ha2, hb2⟩ := keep_spec a b
    obtain ⟨hk1, hk2⟩ := hb _ (List.mem_cons_self ..)
    refine ⟨?_, fun p hp => ?_⟩
    · rcases List.mem_cons.mp hm with e | e
      · rw [e]
        rcases hs with e | e <;> rw [e] <;> simp
      · exact List.mem_cons_of_mem _ (List.mem_cons_of_mem _ e)
    · have step : ∀ q : EReal × BitVec 32, q.1 ≤ (keep a b).1 → (q.1 = (keep a b).1 → (keep a b).2.toInt ≤ q.2.toInt) →
          q.1 ≤ (l.foldl keep (keep a b)).1 ∧ (q.1 = (l.foldl keep (keep a b)).1 → (l.foldl keep (keep a b)).2.toInt ≤ q.2.toInt) :=
        fun q h1 h2 => ⟨h1.trans hk1, fun e =>
          have e' : (keep a b).1 = (l.foldl keep (keep a b)).1 := le_antisymm hk1 (e ▸ h1)
          (hk2 e').trans (h2 (e.trans e'.symm))⟩
      rcases List.mem_cons.mp hp with rfl | hp
      · exact step _ ha1 ha2
      · rcases List.mem_cons.mp hp with rfl | hp
        · exact step _ hb1 hb2
        · exact hb p (List.mem_cons_of_mem _ hp)

/-- The reference's fold, from minus infinity at position zero over a list that holds every value with its position,
    finds the first place of the maximum. -/
theorem foldl_first {n : ℕ} (hn : n ≤ 2 ^ 30) (h0 : 0 < n) (y : Fin n → EReal) (l : List (EReal × BitVec 32))
    (hl : ∀ p, p ∈ l ↔ ∃ k, p = (y k, BitVec.ofNat 32 k.val)) :
    ∃ k, IsFirst y k ∧ (l.foldl keep (⊥, 0#32)).2 = BitVec.ofNat 32 k.val := by
  obtain ⟨hm, hb⟩ := foldl_keep_spec l (⊥, 0#32)
  have hall : ∀ k, y k ≤ (l.foldl keep (⊥, 0#32)).1 ∧ (y k = (l.foldl keep (⊥, 0#32)).1 → (l.foldl keep (⊥, 0#32)).2.toInt ≤ k.val) := fun k => by
    have h := hb _ (List.mem_cons_of_mem _ ((hl _).mpr ⟨k, rfl⟩))
    rw [toInt_ofNat (by have := k.isLt; omega)] at h
    exact h
  have hex : ∃ k : Fin n, l.foldl keep (⊥, 0#32) = (y k, BitVec.ofNat 32 k.val) := by
    rcases List.mem_cons.mp hm with e | e
    · refine ⟨⟨0, h0⟩, e.trans (Prod.ext ?_ rfl)⟩
      have h := (hall ⟨0, h0⟩).1
      rw [e] at h
      exact (le_bot_iff.mp h).symm
    · exact (hl _).mp e
  obtain ⟨k, e⟩ := hex
  rw [e] at hall
  refine ⟨k, ⟨fun j => (hall j).1, fun j hj => ?_⟩, by rw [e]⟩
  have h := (hall j).2 hj
  rw [toInt_ofNat (by have := k.isLt; omega)] at h
  exact Fin.le_def.mpr (by omega)

end Cert.First

end
-- ==== Proof.Slot.lean ====
/- The slot the kernel picks, over the extended reals: the first place of the greatest similarity, so a row of the store. -/
module

public import proofs.«01_k».proof.Proof.Body
public import proofs.«01_k».proof.Proof.First

@[expose] public section

noncomputable section

namespace Cert.KernelIdeal.Hand

open Cert.KernelIdeal Cert.KernelIdeal.Gen Cert.First
open Idealize.ShloMosaic Idealize.ShloMosaic.TcCoe Idealize.ShloMosaic.Tactic

/-- The place of row `a`, lane `b` of the similarities laid out as a 64 by 128 block. -/
def flat (p : Fin 64 × Fin 128) : Fin 8192 := ⟨128 * p.1.val + p.2.val, by omega⟩

theorem flat_surjective : Function.Surjective flat := fun n =>
  ⟨(⟨n.val / 128, by omega⟩, ⟨n.val % 128, by omega⟩), Fin.ext (by simp only [flat]; omega)⟩

/-- The similarities laid out in a row. -/
def rowOf (x : Vec Ideal S64x128 .f32) (n : Fin 8192) : EReal := x (ix2 ⟨n.val / 128, by omega⟩ ⟨n.val % 128, by omega⟩)

theorem rowOf_flat (x : Vec Ideal S64x128 .f32) (p : Fin 64 × Fin 128) : rowOf x (flat p) = x (ix2 p.1 p.2) := by
  have e1 : (⟨(flat p).val / 128, by omega⟩ : Fin 64) = p.1 := Fin.ext (by simp only [flat]; omega)
  have e2 : (⟨(flat p).val % 128, by omega⟩ : Fin 128) = p.2 := Fin.ext (by simp only [flat]; omega)
  unfold rowOf; rw [e1, e2]

/-- The word the kernel gives to a place. -/
theorem place_word (p : Fin 64 × Fin 128) :
    IntOp.addi (IntOp.muli (BitVec.ofNat 32 p.1.val) 128#32) (BitVec.ofNat 32 p.2.val) = BitVec.ofNat 32 (flat p).val := by
  apply BitVec.eq_of_toNat_eq
  have h1 := p.1.isLt
  have h2 := p.2.isLt
  simp only [IntOp.addi, IntOp.muli, BitVec.toNat_add, BitVec.toNat_mul, BitVec.toNat_ofNat, flat]
  omega

/-- The greatest similarity. -/
theorem best_spec (x : Vec Ideal S64x128 .f32) :
    (∀ n, rowOf x n ≤ k0_pay126 (F := Ideal) x) ∧ ∃ n, rowOf x n = k0_pay126 (F := Ideal) x := by
  have e : k0_pay126 (F := Ideal) x = Finset.fold max (⊥ : EReal) (fun p : Fin 64 × Fin 128 => x (ix2 p.1 p.2)) Finset.univ := by
    pointwise [k0_pay126]
    rw [ofBits_negInf]
  obtain ⟨h1, p, h2⟩ := fold_max_spec fun p : Fin 64 × Fin 128 => x (ix2 p.1 p.2)
  rw [e]
  refine ⟨fun n => ?_, flat p, (rowOf_flat x p).trans h2⟩
  obtain ⟨q, rfl⟩ := flat_surjective n
  rw [rowOf_flat]
  exact h1 q

/-- The slot's word is the first place of the greatest similarity. -/
theorem slot_first (x : Vec Ideal S64x128 .f32) :
    ∃ k, IsFirst (rowOf x) k ∧ rowOf x k = k0_pay126 (F := Ideal) x ∧
      extractAt ![0, 0, 0] (k0_pay128 (F := Ideal) x) inpos_S1x1x1_p0_0_0 = BitVec.ofNat 32 k.val := by
  obtain ⟨hM, hat⟩ := best_spec x
  obtain ⟨k, h1, h2, h3⟩ := fold_first (by norm_num) (rowOf x) flat flat_surjective _ hM hat
  refine ⟨k, h1, h2, Eq.trans ?_ h3⟩
  pointwise [k0_pay128, k0_pay127]
  simp only [place_word, rowOf_flat]

/-- So it lies in the store. -/
theorem slot_in_range : SlotInRange (F := Ideal) := fun x => by
  obtain ⟨k, -, -, e⟩ := slot_first x
  rw [e]
  have h : (BitVec.ofNat 32 k.val).toNat = k.val := by
    rw [BitVec.toNat_ofNat]; have := k.isLt; omega
  have hk := k.isLt
  refine ⟨fun a => ?_, fun a => ?_⟩
  · unfold k0_off1; rw [h]
    fin_cases a
    · show k.val + 1 ≤ 8192; omega
    · show 0 + 8 ≤ 8; omega
    · show 0 + 44 ≤ 44; omega
  · unfold k0_off2; rw [h]
    fin_cases a
    · show k.val + 1 ≤ 8192; omega
    · show 0 + 8 ≤ 8; omega

end Cert.KernelIdeal.Hand

end
-- ==== Proof.KernelFrame.lean ====
/- The kernel program runs to its end with its arguments untouched and every semaphore back at zero. -/
module

public import proofs.«01_k».proof.Defs
public import proofs.«01_k».proof.Proof.Launch
public import proofs.«01_k».proof.Proof.Slot

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- A buffer that neither the launch nor the lines after it write ends as the launch found it. -/
theorem tail_keeps (c : Dev nD) (b : Ref sig .tc) (h : b ∉ [main_v11, main_v12, main_v13, main_v14, main_v15])
    (hw : ∀ w, Pipeline.arrRef spec0 w ≠ b) :
    Pipeline.afterTail₀ cfgs (dats m slot_in_range) 0 (V0 m) [hostOps1] c b = V m c b := by
  simp only [List.mem_cons, List.not_mem_nil, or_false, not_or] at h
  obtain ⟨h11, h12, h13, h14, h15⟩ := h
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        StableHlo.nary_writes, Finset.mem_singleton]
      exact ⟨StableHlo.devRef_ne_of_ne h11, StableHlo.devRef_ne_of_ne h12, StableHlo.devRef_ne_of_ne h13,
        StableHlo.devRef_ne_of_ne h14, StableHlo.devRef_ne_of_ne h15⟩)),
    Pipeline.withArrays_of_ne _ c (V0 m c) _ b hw]

/-- What the run says of such a buffer at a final state. -/
theorem ends_as {r : PUnit × MemSt nD τ sig (Elt Ideal)} (c : Dev nD) (b : Ref sig .tc)
    (h : Pipeline.FramePost cfgs (dats m slot_in_range) 0 (Pipeline.afterTail₀ cfgs (dats m slot_in_range) 0 (V0 m) [hostOps1]) r)
    (hs : b.isScoped = false) (hn : b ∉ [main_v11, main_v12, main_v13, main_v14, main_v15])
    (hw : ∀ w, Pipeline.arrRef spec0 w ≠ b) : r.2.mem ((c.tc : Thread nD τ).loc b) = V m c b :=
  ((h c).2 b (Pipeline.mem_restRefs_of b hs hw)).trans (tail_keeps m c b hn hw)

/-- The kernel program's frame: every execution ends, the arguments are as they were, no counter is left raised. -/
theorem quiescent : Cert.quiescent_KernelIdeal := fun m ρ _ =>
  (θ_run defs _ _).mono (fun _ h => ⟨fun c => ⟨
    (ends_as m c main_arg0 h.1 (by decide) (by decide) (by decide)).trans (V_main_arg0 m c),
    (ends_as m c main_arg1 h.1 (by decide) (by decide) (by decide)).trans (V_main_arg1 m c),
    (ends_as m c main_arg2 h.1 (by decide) (by decide) (by decide)).trans (V_main_arg2 m c),
    (ends_as m c main_arg3 h.1 (by decide) (by decide) (by decide)).trans (V_main_arg3 m c),
    (ends_as m c main_arg4 h.1 (by decide) (by decide) (by decide)).trans (V_main_arg4 m c),
    (ends_as m c main_arg5 h.1 (by decide) (by decide) (by decide)).trans (V_main_arg5 m c),
    (ends_as m c main_arg6 h.1 (by decide) (by decide) (by decide)).trans (V_main_arg6 m c),
    (ends_as m c main_arg7 h.1 (by decide) (by decide) (by decide)).trans (V_main_arg7 m c),
    (ends_as m c main_arg8 h.1 (by decide) (by decide) (by decide)).trans (V_main_arg8 m c),
    (ends_as m c main_arg9 h.1 (by decide) (by decide) (by decide)).trans (V_main_arg9 m c),
    (ends_as m c main_arg10 h.1 (by decide) (by decide) (by decide)).trans (V_main_arg10 m c),
    (ends_as m c main_arg11 h.1 (by decide) (by decide) (by decide)).trans (V_main_arg11 m c),
    (ends_as m c main_arg12 h.1 (by decide) (by decide) (by decide)).trans (V_main_arg12 m c),
    (ends_as m c main_arg13 h.1 (by decide) (by decide) (by decide)).trans (V_main_arg13 m c),
    (ends_as m c main_arg14 h.1 (by decide) (by decide) (by decide)).trans (V_main_arg14 m c),
    (ends_as m c main_arg15 h.1 (by decide) (by decide) (by decide)).trans (V_main_arg15 m c),
    (ends_as m c main_arg16 h.1 (by decide) (by decide) (by decide)).trans (V_main_arg16 m c),
    (ends_as m c main_arg17 h.1 (by decide) (by decide) (by decide)).trans (V_main_arg17 m c),
    (ends_as m c main_arg18 h.1 (by decide) (by decide) (by decide)).trans (V_main_arg18 m c),
    (ends_as m c main_arg19 h.1 (by decide) (by decide) (by decide)).trans (V_main_arg19 m c),
    (ends_as m c main_arg20 h.1 (by decide) (by decide) (by decide)).trans (V_main_arg20 m c),
    (ends_as m c main_arg21 h.1 (by decide) (by decide) (by decide)).trans (V_main_arg21 m c),
    (ends_as m c main_arg22 h.1 (by decide) (by decide) (by decide)).trans (V_main_arg22 m c),
    (ends_as m c main_arg23 h.1 (by decide) (by decide) (by decide)).trans (V_main_arg23 m c)⟩, h.2⟩)
    (run_main_quiescent m ρ slot_in_range)

end Cert.KernelIdeal.Hand

end
-- ==== Proof.Ssa.lean ====
/- A straight line of host operations in which every operation writes one buffer of its own, later in the list of
   buffers than all that it reads. After the whole line the contents satisfy every operation's equation at once: a
   buffer holds the operation's function of what its operands hold AT THE END. So a value proof reads one valuation
   and never follows the line step by step. -/
module

public import Idealize.ShloMosaic.Lib.StableHlo.Run

@[expose] public section

noncomputable section

namespace Cert.Line

open Idealize.ShloMosaic Idealize.ShloMosaic.TcCoe Idealize.SL.Sem Idealize.ShloMosaic.StableHlo

variable {τ : Topo} {sig : RefSig} {Val : EltTy → Type}

/-- The place of a buffer in its table. -/
def place (r : Ref sig .tc) : ℕ := r.idx.val

/-- `op` writes `y` alone, and what it writes depends on the buffers before `y` alone. -/
structure Own (op : HloOp τ sig Val) (y : Ref sig .tc) : Prop where
  writes : op.writes = {Proc.devRef .tc y}
  reads : ∀ A B : Valuation τ sig Val, (∀ x : Ref sig .tc, place x < place y → A (Proc.devRef .tc x) = B (Proc.devRef .tc x)) →
    op.result A (Proc.devRef .tc y) = op.result B (Proc.devRef .tc y)
  sub : op.bufs ⊆ tcRefs τ sig
  fresh : op.fresh = ∅

/-- Every operation of the list owns its result, and the results stand in increasing places from `k` on, before `l`. -/
def Ordered : ℕ → ℕ → List (HloOp τ sig Val) → Prop
  | k, l, [] => k ≤ l
  | k, l, op :: ops => ∃ y : Ref sig .tc, k ≤ place y ∧ Own op y ∧ Ordered (place y + 1) l ops

theorem Ordered.mono {k k' l : ℕ} (h : k' ≤ k) : {ops : List (HloOp τ sig Val)} → Ordered k l ops → Ordered k' l ops
  | [], (h' : k ≤ l) => h.trans h'
  | _ :: _, ⟨y, hk, ho, hr⟩ => ⟨y, h.trans hk, ho, hr⟩

/-- Two lists in order make one, when the second starts where the first has ended. -/
theorem Ordered.append {k l m : ℕ} : {ops ops' : List (HloOp τ sig Val)} → Ordered k l ops → Ordered l m ops' →
    Ordered k m (ops ++ ops')
  | [], _, (h : k ≤ l), h' => h'.mono h
  | _ :: _, _, ⟨y, hy, ho, hr⟩, h' => ⟨y, hy, ho, hr.append h'⟩

/-- One operation leaves every buffer but its own. -/
theorem Own.keeps {op : HloOp τ sig Val} {y : Ref sig .tc} (h : Own op y) (A : Valuation τ sig Val) (b : DevRef τ sig)
    (hb : b ≠ Proc.devRef .tc y) : op.result A b = A b := by
  unfold HloOp.result
  rw [dif_neg]
  rw [h.writes, Finset.mem_singleton]
  exact hb

/-- A buffer before the first result is never written. -/
theorem Ordered.keeps : {k l : ℕ} → {ops : List (HloOp τ sig Val)} → Ordered k l ops → (A : Valuation τ sig Val) →
    (x : Ref sig .tc) → place x < k → after ops A (Proc.devRef .tc x) = A (Proc.devRef .tc x)
  | _, _, [], _, _, _, _ => rfl
  | _, _, op :: ops, ⟨y, hy, ho, hr⟩, A, x, hx => by
    rw [after_cons, hr.keeps (op.result A) x (by omega)]
    exact ho.keeps A _ (devRef_ne_of_ne (by rintro rfl; omega))

/-- After the whole line, every operation's own equation holds of the final contents. -/
theorem Ordered.fixed : {k l : ℕ} → {ops : List (HloOp τ sig Val)} → Ordered k l ops → (A : Valuation τ sig Val) →
    ops.Forall fun op => op.result (after ops A) = after ops A
  | _, _, [], _, _ => trivial
  | _, _, op :: ops, ⟨y, hy, ho, hr⟩, A => by
    refine (List.forall_cons _ _ _).mpr ⟨?_, hr.fixed (op.result A)⟩
    rw [after_cons]
    funext b
    by_cases hb : b = Proc.devRef .tc y
    · subst hb
      rw [hr.keeps (op.result A) y (by omega)]
      refine ho.reads _ _ fun x hx => ?_
      rw [hr.keeps (op.result A) x (by omega)]
      exact ho.keeps A _ (devRef_ne_of_ne (by rintro rfl; omega))
    · exact ho.keeps _ b hb

theorem Ordered.sub : {k l : ℕ} → {ops : List (HloOp τ sig Val)} → Ordered k l ops → ops.Forall fun op => op.bufs ⊆ tcRefs τ sig
  | _, _, [], _ => trivial
  | _, _, _ :: _, ⟨_, _, ho, hr⟩ => (List.forall_cons _ _ _).mpr ⟨ho.sub, hr.sub⟩

theorem Ordered.fresh : {k l : ℕ} → {ops : List (HloOp τ sig Val)} → Ordered k l ops → ops.Forall fun op => op.fresh = ∅
  | _, _, [], _ => trivial
  | _, _, _ :: _, ⟨_, _, ho, hr⟩ => (List.forall_cons _ _ _).mpr ⟨ho.fresh, hr.fresh⟩

/-! ### The kinds of operation -/

section Kinds

variable {x a b c e y : Ref sig .tc}

theorem own_nullary (v : y.ty.Contents Val) (hy) : Own (nullary (τ := τ) y v hy) y :=
  ⟨rfl, fun A B _ => by rw [nullary_result, nullary_result], nullary_bufs_sub .., rfl⟩

theorem own_unary (h : place x < place y) (f : x.ty.Contents Val → y.ty.Contents Val) (hx hy) :
    Own (unary (τ := τ) x y f hx hy) y :=
  ⟨rfl, fun A B H => by rw [unary_result, unary_result, H x h], unary_bufs_sub .., rfl⟩

theorem own_reshape (h : place x < place y) (he hn hx hy) : Own (reshape (τ := τ) (Val := Val) x y he hn hx hy) y :=
  ⟨rfl, fun A B H => by rw [reshape_result, reshape_result, H x h], reshape_bufs_sub .., rfl⟩

theorem own_binary (h : place a < place y) (h' : place b < place y)
    (f : a.ty.Contents Val → b.ty.Contents Val → y.ty.Contents Val) (ha hb hy) : Own (binary (τ := τ) a b y f ha hb hy) y :=
  ⟨rfl, fun A B H => by rw [binary_result, binary_result, H a h, H b h'], binary_bufs_sub .., rfl⟩

theorem own_ternary (h : place c < place y) (h' : place a < place y) (h'' : place b < place y)
    (f : c.ty.Contents Val → a.ty.Contents Val → b.ty.Contents Val → y.ty.Contents Val) (hc ha hb hy) :
    Own (ternary (τ := τ) c a b y f hc ha hb hy) y :=
  ⟨rfl, fun A B H => by rw [ternary_result, ternary_result, H c h, H a h', H b h''], ternary_bufs_sub .., rfl⟩

theorem own_quaternary (h : place a < place y) (h' : place b < place y) (h'' : place c < place y) (h3 : place e < place y)
    (f : a.ty.Contents Val → b.ty.Contents Val → c.ty.Contents Val → e.ty.Contents Val → y.ty.Contents Val) (ha hb hc he hy) :
    Own (quaternary (τ := τ) a b c e y f ha hb hc he hy) y :=
  ⟨rfl, fun A B H => by rw [quaternary_result, quaternary_result, H a h, H b h', H c h'', H e h3], quaternary_bufs_sub .., rfl⟩

theorem own_nary {n : Nat} {xs : Fin n → Ref sig .tc} (h : ∀ k, place (xs k) < place y)
    (f : ((k : Fin n) → (xs k).ty.Contents Val) → y.ty.Contents Val) (hxs hy) : Own (nary (τ := τ) xs y f hxs hy) y :=
  ⟨rfl, fun A B H => by rw [nary_result, nary_result]; exact congrArg f (funext fun k => H _ (h k)), nary_bufs_sub .., rfl⟩

theorem own_unaryIndexed {n : Nat} {ix : Fin n → Ref sig .tc} {T : BufTy} (h : place a < place y) (h' : ∀ k, place (ix k) < place y)
    (f : a.ty.Contents Val → (Fin n → T.Contents Val) → y.ty.Contents Val) (hT ha hix hy) :
    Own (unaryIndexed (τ := τ) a ix T y f hT ha hix hy) y :=
  ⟨rfl, fun A B H => by
    rw [unaryIndexed_result, unaryIndexed_result, H a h]
    exact congrArg (f (B a)) (funext fun k => congrArg _ (H _ (h' k))), unaryIndexed_bufs_sub .., rfl⟩

end Kinds

end Cert.Line

end
-- ==== Proof.RefOps.lean ====
/- The reference program as a list of host operations, stretch by stretch as it is written, and each operation's own
   buffer. From the order of the buffers the general lemmas of `Ssa` give: the arguments stay, and the final contents
   satisfy every operation's equation. -/
module

public import proofs.«01_k».proof.Proof.Gen.ReferenceIdeal
public import proofs.«01_k».proof.Proof.Ssa

@[expose] public section

set_option Elab.async false

noncomputable section

namespace Cert.ReferenceIdeal.Line

open Cert.ReferenceIdeal Cert.ReferenceIdeal.Gen Cert.Line Idealize.ShloMosaic Idealize.ShloMosaic.TcCoe Idealize.SL.Sem Idealize.ShloMosaic.StableHlo

variable {F : FTy → Type} [FloatOps F]

/-- Stretch 0 of the reference: its first stretch: the key, the similarities, the softmax and the best slot. -/
def ops0 : List (HloOp τ sig (Elt F)) :=
  [ reshape main_arg1 main_v0 (rfl : (.f32 : EltTy) = .f32) shapeCasts_S1x32_S32,
    binary main_arg0 main_v0 main_v1 (fun a b => concatenate S288 0 [⟨S256, a⟩, ⟨S32, b⟩] concatenates_S256_S32_S288_d0),
    unary main_arg5 main_v2 ((transpose S288x512 [1, 0] · transposes_S512x288_S288x512_1_0) : (⟨S512x288, .f32⟩ : BufTy).Contents (Elt F) → (⟨S288x512, .f32⟩ : BufTy).Contents (Elt F)),
    binary main_v1 main_v2 main_v3 ((fun l r => Host.dotGeneral dot_S288_S288x512_S512_0_0_n_1_n_n none l r) : (⟨S288, .f32⟩ : BufTy).Contents (Elt F) → (⟨S288x512, .f32⟩ : BufTy).Contents (Elt F) → (⟨S512, .f32⟩ : BufTy).Contents (Elt F)),
    binary main_v3 main_arg6 main_v4 (addf : (⟨S512, .f32⟩ : BufTy).Contents (Elt F) → (⟨S512, .f32⟩ : BufTy).Contents (Elt F) → (⟨S512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S512, .f32⟩) main_call0_v0) (broadcastInDim S512 ![] bcast_S_S512),
    TRef.binary (TRef.of (T := ⟨S512, .f32⟩) main_v4) (TRef.of (T := ⟨S512, .f32⟩) main_call0_v0) (TRef.of (T := ⟨S512, .f32⟩) main_v5) maximumf,
    unary main_arg7 main_v6 ((transpose S512x256 [1, 0] · transposes_S256x512_S512x256_1_0) : (⟨S256x512, .f32⟩ : BufTy).Contents (Elt F) → (⟨S512x256, .f32⟩ : BufTy).Contents (Elt F)),
    binary main_v5 main_v6 main_v7 ((fun l r => Host.dotGeneral dot_S512_S512x256_S256_0_0_n_1_n_n none l r) : (⟨S512, .f32⟩ : BufTy).Contents (Elt F) → (⟨S512x256, .f32⟩ : BufTy).Contents (Elt F) → (⟨S256, .f32⟩ : BufTy).Contents (Elt F)),
    binary main_v7 main_arg8 main_v8 (addf : (⟨S256, .f32⟩ : BufTy).Contents (Elt F) → (⟨S256, .f32⟩ : BufTy).Contents (Elt F) → (⟨S256, .f32⟩ : BufTy).Contents (Elt F)),
    unary main_v8 main_v9 (broadcastInDim S1x256 ![1] bcast_S256_S1x256_1 : (⟨S256, .f32⟩ : BufTy).Contents (Elt F) → (⟨S1x256, .f32⟩ : BufTy).Contents (Elt F)),
    TRef.binary (TRef.of (T := ⟨S1x256, .f32⟩) main_v9) (TRef.of (T := ⟨S1x256, .f32⟩) main_v9) (TRef.of (T := ⟨S1x256, .f32⟩) main_call1_v0) mulf,
    TRef.nullary (TRef.of (T := ⟨S_, .f32⟩) main_call1_cst) (constant S_ .f32 0x00000000#32),
    TRef.binary (TRef.of (T := ⟨S1x256, .f32⟩) main_call1_v0) (TRef.of (T := ⟨S_, .f32⟩) main_call1_cst) (TRef.of (T := ⟨S1, .f32⟩) main_call1_v1) (fun x v => Host.reduceAdd x v reducesTo_S1x256_S1_d1 h_S_),
    TRef.unary (TRef.of (T := ⟨S1, .f32⟩) main_call1_v1) (TRef.of (T := ⟨S1x1, .f32⟩) main_call1_v2) (broadcastInDim S1x1 ![0] bcast_S1_S1x1_0),
    TRef.unary (TRef.of (T := ⟨S1x1, .f32⟩) main_call1_v2) (TRef.of (T := ⟨S1x1, .f32⟩) main_v10) Host.sqrt,
    nullary main_cst (constant S_ .f32 0x2B8CBCCC#32),
    TRef.unary (TRef.of (T := ⟨S_, .f32⟩) main_cst) (TRef.of (T := ⟨S_, .f32⟩) main_call2_v0) id,
    TRef.unary (TRef.of (T := ⟨S_, .f32⟩) main_call2_v0) (TRef.of (T := ⟨S1x1, .f32⟩) main_call2_v1) (broadcastInDim S1x1 ![] bcast_S_S1x1),
    TRef.binary (TRef.of (T := ⟨S1x1, .f32⟩) main_call2_v1) (TRef.of (T := ⟨S1x1, .f32⟩) main_v10) (TRef.of (T := ⟨S1x1, .f32⟩) main_v11) maximumf,
    unary main_v11 main_v12 (broadcastInDim S1x256 ![0, 1] bcast_S1x1_S1x256_0_1 : (⟨S1x1, .f32⟩ : BufTy).Contents (Elt F) → (⟨S1x256, .f32⟩ : BufTy).Contents (Elt F)),
    binary main_v9 main_v12 main_v13 (Host.divf : (⟨S1x256, .f32⟩ : BufTy).Contents (Elt F) → (⟨S1x256, .f32⟩ : BufTy).Contents (Elt F) → (⟨S1x256, .f32⟩ : BufTy).Contents (Elt F)),
    reshape main_v13 main_v14 (rfl : (.f32 : EltTy) = .f32) shapeCasts_S1x256_S256,
    TRef.binary (TRef.of (T := ⟨S8192x256, .f32⟩) main_arg3) (TRef.of (T := ⟨S8192x256, .f32⟩) main_arg3) (TRef.of (T := ⟨S8192x256, .f32⟩) main_call3_v0) mulf,
    TRef.nullary (TRef.of (T := ⟨S_, .f32⟩) main_call3_cst) (constant S_ .f32 0x00000000#32),
    TRef.binary (TRef.of (T := ⟨S8192x256, .f32⟩) main_call3_v0) (TRef.of (T := ⟨S_, .f32⟩) main_call3_cst) (TRef.of (T := ⟨S8192, .f32⟩) main_call3_v1) (fun x v => Host.reduceAdd x v reducesTo_S8192x256_S8192_d1 h_S_),
    TRef.unary (TRef.of (T := ⟨S8192, .f32⟩) main_call3_v1) (TRef.of (T := ⟨S8192x1, .f32⟩) main_call3_v2) (broadcastInDim S8192x1 ![0] bcast_S8192_S8192x1_0),
    TRef.unary (TRef.of (T := ⟨S8192x1, .f32⟩) main_call3_v2) (TRef.of (T := ⟨S8192x1, .f32⟩) main_v15) Host.sqrt,
    nullary main_cst_0 (constant S_ .f32 0x2B8CBCCC#32),
    TRef.unary (TRef.of (T := ⟨S_, .f32⟩) main_cst_0) (TRef.of (T := ⟨S_, .f32⟩) main_call4_v0) id,
    TRef.unary (TRef.of (T := ⟨S_, .f32⟩) main_call4_v0) (TRef.of (T := ⟨S8192x1, .f32⟩) main_call4_v1) (broadcastInDim S8192x1 ![] bcast_S_S8192x1),
    TRef.binary (TRef.of (T := ⟨S8192x1, .f32⟩) main_call4_v1) (TRef.of (T := ⟨S8192x1, .f32⟩) main_v15) (TRef.of (T := ⟨S8192x1, .f32⟩) main_v16) maximumf,
    unary main_v16 main_v17 (broadcastInDim S8192x256 ![0, 1] bcast_S8192x1_S8192x256_0_1 : (⟨S8192x1, .f32⟩ : BufTy).Contents (Elt F) → (⟨S8192x256, .f32⟩ : BufTy).Contents (Elt F)),
    binary main_arg3 main_v17 main_v18 (Host.divf : (⟨S8192x256, .f32⟩ : BufTy).Contents (Elt F) → (⟨S8192x256, .f32⟩ : BufTy).Contents (Elt F) → (⟨S8192x256, .f32⟩ : BufTy).Contents (Elt F)),
    binary main_v18 main_v14 main_v19 ((fun l r => Host.dotGeneral dot_S8192x256_S256_S8192_1_0_0_n_n_n none l r) : (⟨S8192x256, .f32⟩ : BufTy).Contents (Elt F) → (⟨S256, .f32⟩ : BufTy).Contents (Elt F) → (⟨S8192, .f32⟩ : BufTy).Contents (Elt F)),
    unary main_arg4 main_v20 (Host.exp : (⟨S_, .f32⟩ : BufTy).Contents (Elt F) → (⟨S_, .f32⟩ : BufTy).Contents (Elt F)),
    unary main_v20 main_v21 (broadcastInDim S8192 ![] bcast_S_S8192 : (⟨S_, .f32⟩ : BufTy).Contents (Elt F) → (⟨S8192, .f32⟩ : BufTy).Contents (Elt F)),
    binary main_v19 main_v21 main_v22 (mulf : (⟨S8192, .f32⟩ : BufTy).Contents (Elt F) → (⟨S8192, .f32⟩ : BufTy).Contents (Elt F) → (⟨S8192, .f32⟩ : BufTy).Contents (Elt F)),
    nullary main_cst_1 (constant S_ .f32 0xFF800000#32),
    binary main_v22 main_cst_1 main_v23 ((fun x v => Host.reduce FloatOps.maximumf x v reducesTo_S8192_S_d0 h_S_) : (⟨S8192, .f32⟩ : BufTy).Contents (Elt F) → (⟨S_, .f32⟩ : BufTy).Contents (Elt F) → (⟨S_, .f32⟩ : BufTy).Contents (Elt F)),
    nullary main_cst_2 (constant S_ .f32 0xFF800000#32),
    binary main_cst_2 main_v23 main_v24 (maximumf : (⟨S_, .f32⟩ : BufTy).Contents (Elt F) → (⟨S_, .f32⟩ : BufTy).Contents (Elt F) → (⟨S_, .f32⟩ : BufTy).Contents (Elt F)),
    unary main_v24 main_v25 (broadcastInDim S1 ![] bcast_S_S1 : (⟨S_, .f32⟩ : BufTy).Contents (Elt F) → (⟨S1, .f32⟩ : BufTy).Contents (Elt F)),
    unary main_v25 main_v26 (broadcastInDim S8192 ![0] bcast_S1_S8192_0 : (⟨S1, .f32⟩ : BufTy).Contents (Elt F) → (⟨S8192, .f32⟩ : BufTy).Contents (Elt F)),
    binary main_v22 main_v26 main_v27 (subf : (⟨S8192, .f32⟩ : BufTy).Contents (Elt F) → (⟨S8192, .f32⟩ : BufTy).Contents (Elt F) → (⟨S8192, .f32⟩ : BufTy).Contents (Elt F)),
    unary main_v27 main_v28 (Host.exp : (⟨S8192, .f32⟩ : BufTy).Contents (Elt F) → (⟨S8192, .f32⟩ : BufTy).Contents (Elt F)),
    nullary main_cst_3 (constant S_ .f32 0x00000000#32),
    binary main_v28 main_cst_3 main_v29 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v29 main_v30 (broadcastInDim S1 ![] bcast_S_S1 : (⟨S_, .f32⟩ : BufTy).Contents (Elt F) → (⟨S1, .f32⟩ : BufTy).Contents (Elt F)),
    unary main_v30 main_v31 (broadcastInDim S8192 ![0] bcast_S1_S8192_0 : (⟨S1, .f32⟩ : BufTy).Contents (Elt F) → (⟨S8192, .f32⟩ : BufTy).Contents (Elt F)),
    binary main_v28 main_v31 main_v32 (Host.divf : (⟨S8192, .f32⟩ : BufTy).Contents (Elt F) → (⟨S8192, .f32⟩ : BufTy).Contents (Elt F) → (⟨S8192, .f32⟩ : BufTy).Contents (Elt F)),
    TRef.nullary (TRef.of (T := ⟨S8192, .i32⟩) main_call5_v0) (iotaInDim S8192 32 0),
    TRef.nullary (TRef.of (T := ⟨S_, .f32⟩) main_call5_cst) (constant S_ .f32 0xFF800000#32),
    TRef.nullary (TRef.of (T := ⟨S_, .i32⟩) main_call5_c) (constantI S_ 32 0#32),
    TRef.quaternary (TRef.of (T := ⟨S8192, .f32⟩) main_v19) (TRef.of (T := ⟨S8192, .i32⟩) main_call5_v0) (TRef.of (T := ⟨S_, .f32⟩) main_call5_cst) (TRef.of (T := ⟨S_, .i32⟩) main_call5_c) (TRef.of (T := ⟨S_, .f32⟩) main_call5_v1_0) (fun x y u v j => (Host.argReduce reducer_argmax_f32_i32 x y u v reducesTo_S8192_S_d0 h_S_ j).1),
    TRef.quaternary (TRef.of (T := ⟨S8192, .f32⟩) main_v19) (TRef.of (T := ⟨S8192, .i32⟩) main_call5_v0) (TRef.of (T := ⟨S_, .f32⟩) main_call5_cst) (TRef.of (T := ⟨S_, .i32⟩) main_call5_c) (TRef.of (T := ⟨S_, .i32⟩) main_v33) (fun x y u v j => (Host.argReduce reducer_argmax_f32_i32 x y u v reducesTo_S8192_S_d0 h_S_ j).2),
    TRef.unary (TRef.of (T := ⟨S_, .i32⟩) main_v33) (TRef.of (T := ⟨S1, .i32⟩) main_call6_v0) (broadcastInDim S1 ![] bcast_S_S1),
    TRef.nullary (TRef.of (T := ⟨S8192, .i32⟩) main_call6_v1) (iotaInDim S8192 32 0),
    TRef.unary (TRef.of (T := ⟨S1, .i32⟩) main_call6_v0) (TRef.of (T := ⟨S8192, .i32⟩) main_call6_v2) (broadcastInDim S8192 ![0] bcast_S1_S8192_0),
    TRef.binary (TRef.of (T := ⟨S8192, .i32⟩) main_call6_v2) (TRef.of (T := ⟨S8192, .i32⟩) main_call6_v1) (TRef.of (T := ⟨S8192, .i1⟩) main_call6_v3) (cmpi .eq),
    TRef.unary (TRef.of (T := ⟨S8192, .i1⟩) main_call6_v3) (TRef.of (T := ⟨S8192, .f32⟩) main_v34) (uitofp .f32),
    binary main_v34 main_v32 main_v35 (subf : (⟨S8192, .f32⟩ : BufTy).Contents (Elt F) → (⟨S8192, .f32⟩ : BufTy).Contents (Elt F) → (⟨S8192, .f32⟩ : BufTy).Contents (Elt F)),
    binary main_v35 main_v32 main_v36 (addf : (⟨S8192, .f32⟩ : BufTy).Contents (Elt F) → (⟨S8192, .f32⟩ : BufTy).Contents (Elt F) → (⟨S8192, .f32⟩ : BufTy).Contents (Elt F)),
    nullary main_c (constantI S_ 32 0#32),
    binary main_v33 main_c main_v37 (cmpi .slt : (⟨S_, .i32⟩ : BufTy).Contents (Elt F) → (⟨S_, .i32⟩ : BufTy).Contents (Elt F) → (⟨S_, .i1⟩ : BufTy).Contents (Elt F)),
    nullary main_c_4 (constantI S_ 32 8192#32),
    binary main_v33 main_c_4 main_v38 (addi : (⟨S_, .i32⟩ : BufTy).Contents (Elt F) → (⟨S_, .i32⟩ : BufTy).Contents (Elt F) → (⟨S_, .i32⟩ : BufTy).Contents (Elt F)),
    ternary main_v37 main_v38 main_v33 main_v39 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_5 (constantI S_ 32 0#32),
    nullary main_c_6 (constantI S_ 32 0#32),
    binary main_c_5 main_c_6 main_v40 (cmpi .slt : (⟨S_, .i32⟩ : BufTy).Contents (Elt F) → (⟨S_, .i32⟩ : BufTy).Contents (Elt F) → (⟨S_, .i1⟩ : BufTy).Contents (Elt F)),
    nullary main_c_7 (constantI S_ 32 0#32),
    nullary main_c_8 (constantI S_ 32 8#32),
    binary main_c_7 main_c_8 main_v41 (addi : (⟨S_, .i32⟩ : BufTy).Contents (Elt F) → (⟨S_, .i32⟩ : BufTy).Contents (Elt F) → (⟨S_, .i32⟩ : BufTy).Contents (Elt F)),
    nullary main_c_9 (constantI S_ 32 0#32),
    ternary main_v40 main_v41 main_c_9 main_v42 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_10 (constantI S_ 32 0#32),
    nullary main_c_11 (constantI S_ 32 0#32),
    binary main_c_10 main_c_11 main_v43 (cmpi .slt : (⟨S_, .i32⟩ : BufTy).Contents (Elt F) → (⟨S_, .i32⟩ : BufTy).Contents (Elt F) → (⟨S_, .i1⟩ : BufTy).Contents (Elt F)),
    nullary main_c_12 (constantI S_ 32 0#32),
    nullary main_c_13 (constantI S_ 32 44#32) ]

/-- Stretch 1 of the reference: the slot read out of the store, the cosine and age of its episodes. -/
def ops1 : List (HloOp τ sig (Elt F)) :=
  [ binary main_c_12 main_c_13 main_v44 (addi : (⟨S_, .i32⟩ : BufTy).Contents (Elt F) → (⟨S_, .i32⟩ : BufTy).Contents (Elt F) → (⟨S_, .i32⟩ : BufTy).Contents (Elt F)),
    nullary main_c_14 (constantI S_ 32 0#32),
    ternary main_v43 main_v44 main_c_14 main_v45 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg9 ![main_v39, main_v42, main_v45] ⟨S_, .i32⟩ main_v46 ((fun x i => Host.dynamicSlice S1x8x44 x (fun k => (i k (Shape.Idx.first h_S_)).toInt) sliceFits_S8192x8x44_S1x8x44) : (⟨S8192x8x44, .f32⟩ : BufTy).Contents (Elt F) → (Fin 3 → (⟨S_, .i32⟩ : BufTy).Contents (Elt F)) → (⟨S1x8x44, .f32⟩ : BufTy).Contents (Elt F)),
    reshape main_v46 main_v47 (rfl : (.f32 : EltTy) = .f32) shapeCasts_S1x8x44_S8x44,
    unary main_v47 main_v48 ((extractStridedSlice S8x32 ![0, 0] · slices_S8x44_S8x32_0_0) : (⟨S8x44, .f32⟩ : BufTy).Contents (Elt F) → (⟨S8x32, .f32⟩ : BufTy).Contents (Elt F)),
    unary main_v0 main_v49 (broadcastInDim S1x32 ![1] bcast_S32_S1x32_1 : (⟨S32, .f32⟩ : BufTy).Contents (Elt F) → (⟨S1x32, .f32⟩ : BufTy).Contents (Elt F)),
    TRef.binary (TRef.of (T := ⟨S1x32, .f32⟩) main_v49) (TRef.of (T := ⟨S1x32, .f32⟩) main_v49) (TRef.of (T := ⟨S1x32, .f32⟩) main_call7_v0) mulf,
    TRef.nullary (TRef.of (T := ⟨S_, .f32⟩) main_call7_cst) (constant S_ .f32 0x00000000#32),
    TRef.binary (TRef.of (T := ⟨S1x32, .f32⟩) main_call7_v0) (TRef.of (T := ⟨S_, .f32⟩) main_call7_cst) (TRef.of (T := ⟨S1, .f32⟩) main_call7_v1) (fun x v => Host.reduceAdd x v reducesTo_S1x32_S1_d1 h_S_),
    TRef.unary (TRef.of (T := ⟨S1, .f32⟩) main_call7_v1) (TRef.of (T := ⟨S1x1, .f32⟩) main_call7_v2) (broadcastInDim S1x1 ![0] bcast_S1_S1x1_0),
    TRef.unary (TRef.of (T := ⟨S1x1, .f32⟩) main_call7_v2) (TRef.of (T := ⟨S1x1, .f32⟩) main_v50) Host.sqrt,
    nullary main_cst_15 (constant S_ .f32 0x2B8CBCCC#32),
    TRef.unary (TRef.of (T := ⟨S_, .f32⟩) main_cst_15) (TRef.of (T := ⟨S_, .f32⟩) main_call8_v0) id,
    TRef.unary (TRef.of (T := ⟨S_, .f32⟩) main_call8_v0) (TRef.of (T := ⟨S1x1, .f32⟩) main_call8_v1) (broadcastInDim S1x1 ![] bcast_S_S1x1),
    TRef.binary (TRef.of (T := ⟨S1x1, .f32⟩) main_call8_v1) (TRef.of (T := ⟨S1x1, .f32⟩) main_v50) (TRef.of (T := ⟨S1x1, .f32⟩) main_v51) maximumf,
    unary main_v51 main_v52 (broadcastInDim S1x32 ![0, 1] bcast_S1x1_S1x32_0_1 : (⟨S1x1, .f32⟩ : BufTy).Contents (Elt F) → (⟨S1x32, .f32⟩ : BufTy).Contents (Elt F)),
    binary main_v49 main_v52 main_v53 (Host.divf : (⟨S1x32, .f32⟩ : BufTy).Contents (Elt F) → (⟨S1x32, .f32⟩ : BufTy).Contents (Elt F) → (⟨S1x32, .f32⟩ : BufTy).Contents (Elt F)),
    reshape main_v53 main_v54 (rfl : (.f32 : EltTy) = .f32) shapeCasts_S1x32_S32,
    TRef.binary (TRef.of (T := ⟨S8x32, .f32⟩) main_v48) (TRef.of (T := ⟨S8x32, .f32⟩) main_v48) (TRef.of (T := ⟨S8x32, .f32⟩) main_call9_v0) mulf,
    TRef.nullary (TRef.of (T := ⟨S_, .f32⟩) main_call9_cst) (constant S_ .f32 0x00000000#32),
    TRef.binary (TRef.of (T := ⟨S8x32, .f32⟩) main_call9_v0) (TRef.of (T := ⟨S_, .f32⟩) main_call9_cst) (TRef.of (T := ⟨S8, .f32⟩) main_call9_v1) (fun x v => Host.reduceAdd x v reducesTo_S8x32_S8_d1 h_S_),
    TRef.unary (TRef.of (T := ⟨S8, .f32⟩) main_call9_v1) (TRef.of (T := ⟨S8x1, .f32⟩) main_call9_v2) (broadcastInDim S8x1 ![0] bcast_S8_S8x1_0),
    TRef.unary (TRef.of (T := ⟨S8x1, .f32⟩) main_call9_v2) (TRef.of (T := ⟨S8x1, .f32⟩) main_v55) Host.sqrt,
    nullary main_cst_16 (constant S_ .f32 0x2B8CBCCC#32),
    TRef.unary (TRef.of (T := ⟨S_, .f32⟩) main_cst_16) (TRef.of (T := ⟨S_, .f32⟩) main_call10_v0) id,
    TRef.unary (TRef.of (T := ⟨S_, .f32⟩) main_call10_v0) (TRef.of (T := ⟨S8x1, .f32⟩) main_call10_v1) (broadcastInDim S8x1 ![] bcast_S_S8x1),
    TRef.binary (TRef.of (T := ⟨S8x1, .f32⟩) main_call10_v1) (TRef.of (T := ⟨S8x1, .f32⟩) main_v55) (TRef.of (T := ⟨S8x1, .f32⟩) main_v56) maximumf,
    unary main_v56 main_v57 (broadcastInDim S8x32 ![0, 1] bcast_S8x1_S8x32_0_1 : (⟨S8x1, .f32⟩ : BufTy).Contents (Elt F) → (⟨S8x32, .f32⟩ : BufTy).Contents (Elt F)),
    binary main_v48 main_v57 main_v58 (Host.divf : (⟨S8x32, .f32⟩ : BufTy).Contents (Elt F) → (⟨S8x32, .f32⟩ : BufTy).Contents (Elt F) → (⟨S8x32, .f32⟩ : BufTy).Contents (Elt F)),
    binary main_v58 main_v54 main_v59 ((fun l r => Host.dotGeneral dot_S8x32_S32_S8_1_0_0_n_n_n none l r) : (⟨S8x32, .f32⟩ : BufTy).Contents (Elt F) → (⟨S32, .f32⟩ : BufTy).Contents (Elt F) → (⟨S8, .f32⟩ : BufTy).Contents (Elt F)),
    nullary main_c_17 (constantI S_ 32 0#32),
    binary main_v33 main_c_17 main_v60 (cmpi .slt : (⟨S_, .i32⟩ : BufTy).Contents (Elt F) → (⟨S_, .i32⟩ : BufTy).Contents (Elt F) → (⟨S_, .i1⟩ : BufTy).Contents (Elt F)),
    nullary main_c_18 (constantI S_ 32 8192#32),
    binary main_v33 main_c_18 main_v61 (addi : (⟨S_, .i32⟩ : BufTy).Contents (Elt F) → (⟨S_, .i32⟩ : BufTy).Contents (Elt F) → (⟨S_, .i32⟩ : BufTy).Contents (Elt F)),
    ternary main_v60 main_v61 main_v33 main_v62 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_19 (constantI S_ 32 0#32),
    nullary main_c_20 (constantI S_ 32 0#32),
    binary main_c_19 main_c_20 main_v63 (cmpi .slt : (⟨S_, .i32⟩ : BufTy).Contents (Elt F) → (⟨S_, .i32⟩ : BufTy).Contents (Elt F) → (⟨S_, .i1⟩ : BufTy).Contents (Elt F)),
    nullary main_c_21 (constantI S_ 32 0#32),
    nullary main_c_22 (constantI S_ 32 8#32),
    binary main_c_21 main_c_22 main_v64 (addi : (⟨S_, .i32⟩ : BufTy).Contents (Elt F) → (⟨S_, .i32⟩ : BufTy).Contents (Elt F) → (⟨S_, .i32⟩ : BufTy).Contents (Elt F)),
    nullary main_c_23 (constantI S_ 32 0#32),
    ternary main_v63 main_v64 main_c_23 main_v65 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg10 ![main_v62, main_v65] ⟨S_, .i32⟩ main_v66 ((fun x i => Host.dynamicSlice S1x8 x (fun k => (i k (Shape.Idx.first h_S_)).toInt) sliceFits_S8192x8_S1x8) : (⟨S8192x8, .f32⟩ : BufTy).Contents (Elt F) → (Fin 2 → (⟨S_, .i32⟩ : BufTy).Contents (Elt F)) → (⟨S1x8, .f32⟩ : BufTy).Contents (Elt F)),
    reshape main_v66 main_v67 (rfl : (.f32 : EltTy) = .f32) shapeCasts_S1x8_S8,
    nullary main_c_24 (constantI S_ 32 0#32),
    binary main_v33 main_c_24 main_v68 (cmpi .slt : (⟨S_, .i32⟩ : BufTy).Contents (Elt F) → (⟨S_, .i32⟩ : BufTy).Contents (Elt F) → (⟨S_, .i1⟩ : BufTy).Contents (Elt F)),
    nullary main_c_25 (constantI S_ 32 8192#32),
    binary main_v33 main_c_25 main_v69 (addi : (⟨S_, .i32⟩ : BufTy).Contents (Elt F) → (⟨S_, .i32⟩ : BufTy).Contents (Elt F) → (⟨S_, .i32⟩ : BufTy).Contents (Elt F)),
    ternary main_v68 main_v69 main_v33 main_v70 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_26 (constantI S_ 32 0#32),
    nullary main_c_27 (constantI S_ 32 0#32),
    binary main_c_26 main_c_27 main_v71 (cmpi .slt : (⟨S_, .i32⟩ : BufTy).Contents (Elt F) → (⟨S_, .i32⟩ : BufTy).Contents (Elt F) → (⟨S_, .i1⟩ : BufTy).Contents (Elt F)),
    nullary main_c_28 (constantI S_ 32 0#32),
    nullary main_c_29 (constantI S_ 32 8#32),
    binary main_c_28 main_c_29 main_v72 (addi : (⟨S_, .i32⟩ : BufTy).Contents (Elt F) → (⟨S_, .i32⟩ : BufTy).Contents (Elt F) → (⟨S_, .i32⟩ : BufTy).Contents (Elt F)),
    nullary main_c_30 (constantI S_ 32 0#32),
    ternary main_v71 main_v72 main_c_30 main_v73 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg11 ![main_v70, main_v73] ⟨S_, .i32⟩ main_v74 ((fun x i => Host.dynamicSlice S1x8 x (fun k => (i k (Shape.Idx.first h_S_)).toInt) sliceFits_S8192x8_S1x8) : (⟨S8192x8, .f32⟩ : BufTy).Contents (Elt F) → (Fin 2 → (⟨S_, .i32⟩ : BufTy).Contents (Elt F)) → (⟨S1x8, .f32⟩ : BufTy).Contents (Elt F)),
    reshape main_v74 main_v75 (rfl : (.f32 : EltTy) = .f32) shapeCasts_S1x8_S8,
    nullary main_cst_31 (constant S_ .f32 0x42C80000#32),
    unary main_cst_31 main_v76 (broadcastInDim S8 ![] bcast_S_S8 : (⟨S_, .f32⟩ : BufTy).Contents (Elt F) → (⟨S8, .f32⟩ : BufTy).Contents (Elt F)),
    binary main_v76 main_v75 main_v77 (subf : (⟨S8, .f32⟩ : BufTy).Contents (Elt F) → (⟨S8, .f32⟩ : BufTy).Contents (Elt F) → (⟨S8, .f32⟩ : BufTy).Contents (Elt F)),
    nullary main_cst_32 (constant S_ .f32 0xFF800000#32),
    binary main_v77 main_cst_32 main_v78 ((fun x v => Host.reduce FloatOps.maximumf x v reducesTo_S8_S_d0 h_S_) : (⟨S8, .f32⟩ : BufTy).Contents (Elt F) → (⟨S_, .f32⟩ : BufTy).Contents (Elt F) → (⟨S_, .f32⟩ : BufTy).Contents (Elt F)),
    nullary main_cst_33 (constant S_ .f32 0x3F800000#32),
    TRef.unary (TRef.of (T := ⟨S_, .f32⟩) main_cst_33) (TRef.of (T := ⟨S_, .f32⟩) main_call11_v0) id,
    TRef.binary (TRef.of (T := ⟨S_, .f32⟩) main_call11_v0) (TRef.of (T := ⟨S_, .f32⟩) main_v78) (TRef.of (T := ⟨S_, .f32⟩) main_v79) maximumf,
    unary main_v79 main_v80 (broadcastInDim S8 ![] bcast_S_S8 : (⟨S_, .f32⟩ : BufTy).Contents (Elt F) → (⟨S8, .f32⟩ : BufTy).Contents (Elt F)),
    binary main_v77 main_v80 main_v81 (Host.divf : (⟨S8, .f32⟩ : BufTy).Contents (Elt F) → (⟨S8, .f32⟩ : BufTy).Contents (Elt F) → (⟨S8, .f32⟩ : BufTy).Contents (Elt F)),
    nullary main_cst_34 (constant S_ .f32 0x3F800000#32),
    unary main_cst_34 main_v82 (broadcastInDim S8 ![] bcast_S_S8 : (⟨S_, .f32⟩ : BufTy).Contents (Elt F) → (⟨S8, .f32⟩ : BufTy).Contents (Elt F)) ]

/-- Stretch 2 of the reference: the scorer, its best episode and the gate. -/
def ops2 : List (HloOp τ sig (Elt F)) :=
  [ binary main_v82 main_v81 main_v83 (subf : (⟨S8, .f32⟩ : BufTy).Contents (Elt F) → (⟨S8, .f32⟩ : BufTy).Contents (Elt F) → (⟨S8, .f32⟩ : BufTy).Contents (Elt F)),
    unary main_v67 main_v84 (Host.absf : (⟨S8, .f32⟩ : BufTy).Contents (Elt F) → (⟨S8, .f32⟩ : BufTy).Contents (Elt F)),
    nullary main_cst_35 (constant S_ .f32 0x358637BD#32),
    TRef.unary (TRef.of (T := ⟨S_, .f32⟩) main_cst_35) (TRef.of (T := ⟨S_, .f32⟩) main_call12_v0) id,
    TRef.unary (TRef.of (T := ⟨S_, .f32⟩) main_call12_v0) (TRef.of (T := ⟨S8, .f32⟩) main_call12_v1) (broadcastInDim S8 ![] bcast_S_S8),
    TRef.binary (TRef.of (T := ⟨S8, .f32⟩) main_call12_v1) (TRef.of (T := ⟨S8, .f32⟩) main_v84) (TRef.of (T := ⟨S8, .f32⟩) main_v85) maximumf,
    unary main_v59 main_v86 (broadcastInDim S8x1 ![0] bcast_S8_S8x1_0 : (⟨S8, .f32⟩ : BufTy).Contents (Elt F) → (⟨S8x1, .f32⟩ : BufTy).Contents (Elt F)),
    unary main_v85 main_v87 (broadcastInDim S8x1 ![0] bcast_S8_S8x1_0 : (⟨S8, .f32⟩ : BufTy).Contents (Elt F) → (⟨S8x1, .f32⟩ : BufTy).Contents (Elt F)),
    unary main_v83 main_v88 (broadcastInDim S8x1 ![0] bcast_S8_S8x1_0 : (⟨S8, .f32⟩ : BufTy).Contents (Elt F) → (⟨S8x1, .f32⟩ : BufTy).Contents (Elt F)),
    nary ![main_v86, main_v87, main_v88] main_v89 (fun u => (concatenate S8x3 1 [⟨S8x1, (u 0 : (⟨S8x1, .f32⟩ : BufTy).Contents (Elt F))⟩, ⟨S8x1, (u 1 : (⟨S8x1, .f32⟩ : BufTy).Contents (Elt F))⟩, ⟨S8x1, (u 2 : (⟨S8x1, .f32⟩ : BufTy).Contents (Elt F))⟩] concatenates_S8x1_S8x1_S8x1_S8x3_d1 : (⟨S8x3, .f32⟩ : BufTy).Contents (Elt F))),
    unary main_arg12 main_v90 ((transpose S3x8 [1, 0] · transposes_S8x3_S3x8_1_0) : (⟨S8x3, .f32⟩ : BufTy).Contents (Elt F) → (⟨S3x8, .f32⟩ : BufTy).Contents (Elt F)),
    binary main_v89 main_v90 main_v91 ((fun l r => Host.dotGeneral dot_S8x3_S3x8_S8x8_1_0_0_1_n_n none l r) : (⟨S8x3, .f32⟩ : BufTy).Contents (Elt F) → (⟨S3x8, .f32⟩ : BufTy).Contents (Elt F) → (⟨S8x8, .f32⟩ : BufTy).Contents (Elt F)),
    unary main_arg13 main_v92 (broadcastInDim S1x8 ![1] bcast_S8_S1x8_1 : (⟨S8, .f32⟩ : BufTy).Contents (Elt F) → (⟨S1x8, .f32⟩ : BufTy).Contents (Elt F)),
    unary main_v92 main_v93 (broadcastInDim S8x8 ![0, 1] bcast_S1x8_S8x8_0_1 : (⟨S1x8, .f32⟩ : BufTy).Contents (Elt F) → (⟨S8x8, .f32⟩ : BufTy).Contents (Elt F)),
    binary main_v91 main_v93 main_v94 (addf : (⟨S8x8, .f32⟩ : BufTy).Contents (Elt F) → (⟨S8x8, .f32⟩ : BufTy).Contents (Elt F) → (⟨S8x8, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S8x8, .f32⟩) main_call13_v0) (broadcastInDim S8x8 ![] bcast_S_S8x8),
    TRef.binary (TRef.of (T := ⟨S8x8, .f32⟩) main_v94) (TRef.of (T := ⟨S8x8, .f32⟩) main_call13_v0) (TRef.of (T := ⟨S8x8, .f32⟩) main_v95) maximumf,
    unary main_arg14 main_v96 ((transpose S8x1 [1, 0] · transposes_S1x8_S8x1_1_0) : (⟨S1x8, .f32⟩ : BufTy).Contents (Elt F) → (⟨S8x1, .f32⟩ : BufTy).Contents (Elt F)),
    binary main_v95 main_v96 main_v97 ((fun l r => Host.dotGeneral dot_S8x8_S8x1_S8x1_1_0_0_1_n_n none l r) : (⟨S8x8, .f32⟩ : BufTy).Contents (Elt F) → (⟨S8x1, .f32⟩ : BufTy).Contents (Elt F) → (⟨S8x1, .f32⟩ : BufTy).Contents (Elt F)),
    unary main_arg15 main_v98 (broadcastInDim S1x1 ![1] bcast_S1_S1x1_1 : (⟨S1, .f32⟩ : BufTy).Contents (Elt F) → (⟨S1x1, .f32⟩ : BufTy).Contents (Elt F)),
    unary main_v98 main_v99 (broadcastInDim S8x1 ![0, 1] bcast_S1x1_S8x1_0_1 : (⟨S1x1, .f32⟩ : BufTy).Contents (Elt F) → (⟨S8x1, .f32⟩ : BufTy).Contents (Elt F)),
    binary main_v97 main_v99 main_v100 (addf : (⟨S8x1, .f32⟩ : BufTy).Contents (Elt F) → (⟨S8x1, .f32⟩ : BufTy).Contents (Elt F) → (⟨S8x1, .f32⟩ : BufTy).Contents (Elt F)),
    reshape main_v100 main_v101 (rfl : (.f32 : EltTy) = .f32) shapeCasts_S8x1_S8,
    TRef.nullary (TRef.of (T := ⟨S8, .i32⟩) main_call14_v0) (iotaInDim S8 32 0),
    TRef.nullary (TRef.of (T := ⟨S_, .f32⟩) main_call14_cst) (constant S_ .f32 0xFF800000#32),
    TRef.nullary (TRef.of (T := ⟨S_, .i32⟩) main_call14_c) (constantI S_ 32 0#32),
    TRef.quaternary (TRef.of (T := ⟨S8, .f32⟩) main_v101) (TRef.of (T := ⟨S8, .i32⟩) main_call14_v0) (TRef.of (T := ⟨S_, .f32⟩) main_call14_cst) (TRef.of (T := ⟨S_, .i32⟩) main_call14_c) (TRef.of (T := ⟨S_, .f32⟩) main_call14_v1_0) (fun x y u v j => (Host.argReduce reducer_argmax_f32_i32 x y u v reducesTo_S8_S_d0 h_S_ j).1),
    TRef.quaternary (TRef.of (T := ⟨S8, .f32⟩) main_v101) (TRef.of (T := ⟨S8, .i32⟩) main_call14_v0) (TRef.of (T := ⟨S_, .f32⟩) main_call14_cst) (TRef.of (T := ⟨S_, .i32⟩) main_call14_c) (TRef.of (T := ⟨S_, .i32⟩) main_v102) (fun x y u v j => (Host.argReduce reducer_argmax_f32_i32 x y u v reducesTo_S8_S_d0 h_S_ j).2),
    nullary main_c_36 (constantI S_ 32 0#32),
    binary main_v102 main_c_36 main_v103 (cmpi .slt : (⟨S_, .i32⟩ : BufTy).Contents (Elt F) → (⟨S_, .i32⟩ : BufTy).Contents (Elt F) → (⟨S_, .i1⟩ : BufTy).Contents (Elt F)),
    nullary main_c_37 (constantI S_ 32 8#32),
    binary main_v102 main_c_37 main_v104 (addi : (⟨S_, .i32⟩ : BufTy).Contents (Elt F) → (⟨S_, .i32⟩ : BufTy).Contents (Elt F) → (⟨S_, .i32⟩ : BufTy).Contents (Elt F)),
    ternary main_v103 main_v104 main_v102 main_v105 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_38 (constantI S_ 32 0#32),
    nullary main_c_39 (constantI S_ 32 0#32),
    binary main_c_38 main_c_39 main_v106 (cmpi .slt : (⟨S_, .i32⟩ : BufTy).Contents (Elt F) → (⟨S_, .i32⟩ : BufTy).Contents (Elt F) → (⟨S_, .i1⟩ : BufTy).Contents (Elt F)),
    nullary main_c_40 (constantI S_ 32 0#32),
    nullary main_c_41 (constantI S_ 32 44#32),
    binary main_c_40 main_c_41 main_v107 (addi : (⟨S_, .i32⟩ : BufTy).Contents (Elt F) → (⟨S_, .i32⟩ : BufTy).Contents (Elt F) → (⟨S_, .i32⟩ : BufTy).Contents (Elt F)),
    nullary main_c_42 (constantI S_ 32 0#32),
    ternary main_v106 main_v107 main_c_42 main_v108 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v47 ![main_v105, main_v108] ⟨S_, .i32⟩ main_v109 ((fun x i => Host.dynamicSlice S1x44 x (fun k => (i k (Shape.Idx.first h_S_)).toInt) sliceFits_S8x44_S1x44) : (⟨S8x44, .f32⟩ : BufTy).Contents (Elt F) → (Fin 2 → (⟨S_, .i32⟩ : BufTy).Contents (Elt F)) → (⟨S1x44, .f32⟩ : BufTy).Contents (Elt F)),
    reshape main_v109 main_v110 (rfl : (.f32 : EltTy) = .f32) shapeCasts_S1x44_S44,
    nullary main_c_43 (constantI S_ 32 0#32),
    binary main_v102 main_c_43 main_v111 (cmpi .slt : (⟨S_, .i32⟩ : BufTy).Contents (Elt F) → (⟨S_, .i32⟩ : BufTy).Contents (Elt F) → (⟨S_, .i1⟩ : BufTy).Contents (Elt F)),
    nullary main_c_44 (constantI S_ 32 8#32),
    binary main_v102 main_c_44 main_v112 (addi : (⟨S_, .i32⟩ : BufTy).Contents (Elt F) → (⟨S_, .i32⟩ : BufTy).Contents (Elt F) → (⟨S_, .i32⟩ : BufTy).Contents (Elt F)),
    ternary main_v111 main_v112 main_v102 main_v113 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v67 ![main_v113] ⟨S_, .i32⟩ main_v114 ((fun x i => Host.dynamicSlice S1 x (fun k => (i k (Shape.Idx.first h_S_)).toInt) sliceFits_S8_S1) : (⟨S8, .f32⟩ : BufTy).Contents (Elt F) → (Fin 1 → (⟨S_, .i32⟩ : BufTy).Contents (Elt F)) → (⟨S1, .f32⟩ : BufTy).Contents (Elt F)),
    reshape main_v114 main_v115 (rfl : (.f32 : EltTy) = .f32) shapeCasts_S1_S_,
    nullary main_c_45 (constantI S_ 32 0#32),
    binary main_v33 main_c_45 main_v116 (cmpi .slt : (⟨S_, .i32⟩ : BufTy).Contents (Elt F) → (⟨S_, .i32⟩ : BufTy).Contents (Elt F) → (⟨S_, .i1⟩ : BufTy).Contents (Elt F)),
    nullary main_c_46 (constantI S_ 32 8192#32),
    binary main_v33 main_c_46 main_v117 (addi : (⟨S_, .i32⟩ : BufTy).Contents (Elt F) → (⟨S_, .i32⟩ : BufTy).Contents (Elt F) → (⟨S_, .i32⟩ : BufTy).Contents (Elt F)),
    ternary main_v116 main_v117 main_v33 main_v118 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v19 ![main_v118] ⟨S_, .i32⟩ main_v119 ((fun x i => Host.dynamicSlice S1 x (fun k => (i k (Shape.Idx.first h_S_)).toInt) sliceFits_S8192_S1) : (⟨S8192, .f32⟩ : BufTy).Contents (Elt F) → (Fin 1 → (⟨S_, .i32⟩ : BufTy).Contents (Elt F)) → (⟨S1, .f32⟩ : BufTy).Contents (Elt F)),
    reshape main_v119 main_v120 (rfl : (.f32 : EltTy) = .f32) shapeCasts_S1_S_,
    reshape main_arg2 main_v121 (rfl : (.f32 : EltTy) = .f32) shapeCasts_S1_S_,
    unary main_v121 main_v122 (Host.absf : (⟨S_, .f32⟩ : BufTy).Contents (Elt F) → (⟨S_, .f32⟩ : BufTy).Contents (Elt F)),
    unary main_v120 main_v123 (broadcastInDim S1 ![] bcast_S_S1 : (⟨S_, .f32⟩ : BufTy).Contents (Elt F) → (⟨S1, .f32⟩ : BufTy).Contents (Elt F)),
    unary main_v122 main_v124 (broadcastInDim S1 ![] bcast_S_S1 : (⟨S_, .f32⟩ : BufTy).Contents (Elt F) → (⟨S1, .f32⟩ : BufTy).Contents (Elt F)),
    unary main_v115 main_v125 (broadcastInDim S1 ![] bcast_S_S1 : (⟨S_, .f32⟩ : BufTy).Contents (Elt F) → (⟨S1, .f32⟩ : BufTy).Contents (Elt F)),
    nary ![main_v123, main_v124, main_v125] main_v126 (fun u => (concatenate S3 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩] concatenates_S1_S1_S1_S3_d0 : (⟨S3, .f32⟩ : BufTy).Contents (Elt F))),
    unary main_arg16 main_v127 ((transpose S3x16 [1, 0] · transposes_S16x3_S3x16_1_0) : (⟨S16x3, .f32⟩ : BufTy).Contents (Elt F) → (⟨S3x16, .f32⟩ : BufTy).Contents (Elt F)),
    binary main_v126 main_v127 main_v128 ((fun l r => Host.dotGeneral dot_S3_S3x16_S16_0_0_n_1_n_n none l r) : (⟨S3, .f32⟩ : BufTy).Contents (Elt F) → (⟨S3x16, .f32⟩ : BufTy).Contents (Elt F) → (⟨S16, .f32⟩ : BufTy).Contents (Elt F)),
    binary main_v128 main_arg17 main_v129 (addf : (⟨S16, .f32⟩ : BufTy).Contents (Elt F) → (⟨S16, .f32⟩ : BufTy).Contents (Elt F) → (⟨S16, .f32⟩ : BufTy).Contents (Elt F)),
    unary main_v129 main_v130 (Host.tanh : (⟨S16, .f32⟩ : BufTy).Contents (Elt F) → (⟨S16, .f32⟩ : BufTy).Contents (Elt F)) ]

/-- Stretch 3 of the reference: the gate value, the new context and the bounded rates. -/
def ops3 : List (HloOp τ sig (Elt F)) :=
  [ unary main_arg18 main_v131 ((transpose S16x1 [1, 0] · transposes_S1x16_S16x1_1_0) : (⟨S1x16, .f32⟩ : BufTy).Contents (Elt F) → (⟨S16x1, .f32⟩ : BufTy).Contents (Elt F)),
    binary main_v130 main_v131 main_v132 ((fun l r => Host.dotGeneral dot_S16_S16x1_S1_0_0_n_1_n_n none l r) : (⟨S16, .f32⟩ : BufTy).Contents (Elt F) → (⟨S16x1, .f32⟩ : BufTy).Contents (Elt F) → (⟨S1, .f32⟩ : BufTy).Contents (Elt F)),
    binary main_v132 main_arg19 main_v133 (addf : (⟨S1, .f32⟩ : BufTy).Contents (Elt F) → (⟨S1, .f32⟩ : BufTy).Contents (Elt F) → (⟨S1, .f32⟩ : BufTy).Contents (Elt F)),
    unary main_v133 main_v134 (Host.tanh : (⟨S1, .f32⟩ : BufTy).Contents (Elt F) → (⟨S1, .f32⟩ : BufTy).Contents (Elt F)),
    reshape main_v134 main_v135 (rfl : (.f32 : EltTy) = .f32) shapeCasts_S1_S_,
    unary main_arg20 main_v136 ((transpose S44x32 [1, 0] · transposes_S32x44_S44x32_1_0) : (⟨S32x44, .f32⟩ : BufTy).Contents (Elt F) → (⟨S44x32, .f32⟩ : BufTy).Contents (Elt F)),
    binary main_v110 main_v136 main_v137 ((fun l r => Host.dotGeneral dot_S44_S44x32_S32_0_0_n_1_n_n none l r) : (⟨S44, .f32⟩ : BufTy).Contents (Elt F) → (⟨S44x32, .f32⟩ : BufTy).Contents (Elt F) → (⟨S32, .f32⟩ : BufTy).Contents (Elt F)),
    binary main_v137 main_arg21 main_v138 (addf : (⟨S32, .f32⟩ : BufTy).Contents (Elt F) → (⟨S32, .f32⟩ : BufTy).Contents (Elt F) → (⟨S32, .f32⟩ : BufTy).Contents (Elt F)),
    unary main_v135 main_v139 (broadcastInDim S32 ![] bcast_S_S32 : (⟨S_, .f32⟩ : BufTy).Contents (Elt F) → (⟨S32, .f32⟩ : BufTy).Contents (Elt F)),
    binary main_v139 main_v138 main_v140 (mulf : (⟨S32, .f32⟩ : BufTy).Contents (Elt F) → (⟨S32, .f32⟩ : BufTy).Contents (Elt F) → (⟨S32, .f32⟩ : BufTy).Contents (Elt F)),
    binary main_v0 main_v140 main_v141 (addf : (⟨S32, .f32⟩ : BufTy).Contents (Elt F) → (⟨S32, .f32⟩ : BufTy).Contents (Elt F) → (⟨S32, .f32⟩ : BufTy).Contents (Elt F)),
    unary main_arg22 main_v142 ((transpose S44x12 [1, 0] · transposes_S12x44_S44x12_1_0) : (⟨S12x44, .f32⟩ : BufTy).Contents (Elt F) → (⟨S44x12, .f32⟩ : BufTy).Contents (Elt F)),
    binary main_v110 main_v142 main_v143 ((fun l r => Host.dotGeneral dot_S44_S44x12_S12_0_0_n_1_n_n none l r) : (⟨S44, .f32⟩ : BufTy).Contents (Elt F) → (⟨S44x12, .f32⟩ : BufTy).Contents (Elt F) → (⟨S12, .f32⟩ : BufTy).Contents (Elt F)),
    binary main_v143 main_arg23 main_v144 (addf : (⟨S12, .f32⟩ : BufTy).Contents (Elt F) → (⟨S12, .f32⟩ : BufTy).Contents (Elt F) → (⟨S12, .f32⟩ : BufTy).Contents (Elt F)),
    reshape main_v144 main_v145 (rfl : (.f32 : EltTy) = .f32) shapeCasts_S12_S3x4,
    unary main_v145 main_v146 ((extractStridedSlice S1x4 ![0, 0] · slices_S3x4_S1x4_0_0) : (⟨S3x4, .f32⟩ : BufTy).Contents (Elt F) → (⟨S1x4, .f32⟩ : BufTy).Contents (Elt F)),
    reshape main_v146 main_v147 (rfl : (.f32 : EltTy) = .f32) shapeCasts_S1x4_S4,
    nullary main_cst_47 (constant S_ .f32 0x3DCCCCCD#32),
    nullary main_cst_48 (constant S_ .f32 0x3F800000#32),
    TRef.unary (TRef.of (T := ⟨S_, .f32⟩) main_cst_47) (TRef.of (T := ⟨S_, .f32⟩) main_call15_v0) id,
    TRef.unary (TRef.of (T := ⟨S_, .f32⟩) main_call15_v0) (TRef.of (T := ⟨S4, .f32⟩) main_call15_v1) (broadcastInDim S4 ![] bcast_S_S4),
    TRef.binary (TRef.of (T := ⟨S4, .f32⟩) main_call15_v1) (TRef.of (T := ⟨S4, .f32⟩) main_v147) (TRef.of (T := ⟨S4, .f32⟩) main_call15_v2) maximumf,
    TRef.unary (TRef.of (T := ⟨S_, .f32⟩) main_cst_48) (TRef.of (T := ⟨S_, .f32⟩) main_call15_v3) id,
    TRef.unary (TRef.of (T := ⟨S_, .f32⟩) main_call15_v3) (TRef.of (T := ⟨S4, .f32⟩) main_call15_v4) (broadcastInDim S4 ![] bcast_S_S4),
    TRef.binary (TRef.of (T := ⟨S4, .f32⟩) main_call15_v4) (TRef.of (T := ⟨S4, .f32⟩) main_call15_v2) (TRef.of (T := ⟨S4, .f32⟩) main_v148) minimumf,
    unary main_v145 main_v149 ((extractStridedSlice S1x4 ![1, 0] · slices_S3x4_S1x4_1_0) : (⟨S3x4, .f32⟩ : BufTy).Contents (Elt F) → (⟨S1x4, .f32⟩ : BufTy).Contents (Elt F)),
    reshape main_v149 main_v150 (rfl : (.f32 : EltTy) = .f32) shapeCasts_S1x4_S4,
    nullary main_cst_49 (constant S_ .f32 0x3DCCCCCD#32),
    nullary main_cst_50 (constant S_ .f32 0x3F800000#32),
    TRef.unary (TRef.of (T := ⟨S_, .f32⟩) main_cst_49) (TRef.of (T := ⟨S_, .f32⟩) main_call16_v0) id,
    TRef.unary (TRef.of (T := ⟨S_, .f32⟩) main_call16_v0) (TRef.of (T := ⟨S4, .f32⟩) main_call16_v1) (broadcastInDim S4 ![] bcast_S_S4),
    TRef.binary (TRef.of (T := ⟨S4, .f32⟩) main_call16_v1) (TRef.of (T := ⟨S4, .f32⟩) main_v150) (TRef.of (T := ⟨S4, .f32⟩) main_call16_v2) maximumf,
    TRef.unary (TRef.of (T := ⟨S_, .f32⟩) main_cst_50) (TRef.of (T := ⟨S_, .f32⟩) main_call16_v3) id,
    TRef.unary (TRef.of (T := ⟨S_, .f32⟩) main_call16_v3) (TRef.of (T := ⟨S4, .f32⟩) main_call16_v4) (broadcastInDim S4 ![] bcast_S_S4),
    TRef.binary (TRef.of (T := ⟨S4, .f32⟩) main_call16_v4) (TRef.of (T := ⟨S4, .f32⟩) main_call16_v2) (TRef.of (T := ⟨S4, .f32⟩) main_v151) minimumf,
    unary main_v145 main_v152 ((extractStridedSlice S1x4 ![2, 0] · slices_S3x4_S1x4_2_0) : (⟨S3x4, .f32⟩ : BufTy).Contents (Elt F) → (⟨S1x4, .f32⟩ : BufTy).Contents (Elt F)),
    reshape main_v152 main_v153 (rfl : (.f32 : EltTy) = .f32) shapeCasts_S1x4_S4,
    nullary main_cst_51 (constant S_ .f32 0x3DCCCCCD#32),
    nullary main_cst_52 (constant S_ .f32 0x3F000000#32),
    TRef.unary (TRef.of (T := ⟨S_, .f32⟩) main_cst_51) (TRef.of (T := ⟨S_, .f32⟩) main_call17_v0) id,
    TRef.unary (TRef.of (T := ⟨S_, .f32⟩) main_call17_v0) (TRef.of (T := ⟨S4, .f32⟩) main_call17_v1) (broadcastInDim S4 ![] bcast_S_S4),
    TRef.binary (TRef.of (T := ⟨S4, .f32⟩) main_call17_v1) (TRef.of (T := ⟨S4, .f32⟩) main_v153) (TRef.of (T := ⟨S4, .f32⟩) main_call17_v2) maximumf,
    TRef.unary (TRef.of (T := ⟨S_, .f32⟩) main_cst_52) (TRef.of (T := ⟨S_, .f32⟩) main_call17_v3) id,
    TRef.unary (TRef.of (T := ⟨S_, .f32⟩) main_call17_v3) (TRef.of (T := ⟨S4, .f32⟩) main_call17_v4) (broadcastInDim S4 ![] bcast_S_S4),
    TRef.binary (TRef.of (T := ⟨S4, .f32⟩) main_call17_v4) (TRef.of (T := ⟨S4, .f32⟩) main_call17_v2) (TRef.of (T := ⟨S4, .f32⟩) main_v154) minimumf,
    unary main_v135 main_v155 (broadcastInDim S1 ![] bcast_S_S1 : (⟨S_, .f32⟩ : BufTy).Contents (Elt F) → (⟨S1, .f32⟩ : BufTy).Contents (Elt F)),
    nary ![main_v141, main_v155, main_v36, main_v148, main_v151, main_v154] main_v156 (fun u => (concatenate S8237 0 [⟨S32, (u 0 : (⟨S32, .f32⟩ : BufTy).Contents (Elt F))⟩, ⟨S1, (u 1 : (⟨S1, .f32⟩ : BufTy).Contents (Elt F))⟩, ⟨S8192, (u 2 : (⟨S8192, .f32⟩ : BufTy).Contents (Elt F))⟩, ⟨S4, (u 3 : (⟨S4, .f32⟩ : BufTy).Contents (Elt F))⟩, ⟨S4, (u 4 : (⟨S4, .f32⟩ : BufTy).Contents (Elt F))⟩, ⟨S4, (u 5 : (⟨S4, .f32⟩ : BufTy).Contents (Elt F))⟩] concatenates_S32_S1_S8192_S4_S4_S4_S8237_d0 : (⟨S8237, .f32⟩ : BufTy).Contents (Elt F))) ]

/-- The whole reference. -/
def ops : List (HloOp τ sig (Elt F)) := ops0 ++ (ops1 ++ (ops2 ++ ops3))

set_option maxRecDepth 8192 in
set_option maxHeartbeats 4000000 in
theorem part0_eq (c : Dev nD) : main_part0 (F := F) c = seq ops0 := rfl

set_option maxRecDepth 8192 in
set_option maxHeartbeats 4000000 in
theorem part1_eq (c : Dev nD) : main_part1 (F := F) c = seq ops1 := rfl

set_option maxRecDepth 8192 in
set_option maxHeartbeats 4000000 in
theorem part2_eq (c : Dev nD) : main_part2 (F := F) c = seq ops2 := rfl

set_option maxRecDepth 8192 in
set_option maxHeartbeats 4000000 in
theorem part3_eq (c : Dev nD) : main_part3 (F := F) c = seq ops3 := rfl

set_option maxRecDepth 8192 in
theorem main_eq (c : Dev nD) : main (F := F) c = seq ops := by
  simp only [ops, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 4000000 in
theorem ordered0 : Ordered 24 106 (ops0 (F := F)) :=
  ⟨main_v0, by decide, (own_reshape (by decide) ..),
    main_v1, by decide, (own_binary (by decide) (by decide) ..),
    main_v2, by decide, (own_unary (by decide) ..),
    main_v3, by decide, (own_binary (by decide) (by decide) ..),
    main_v4, by decide, (own_binary (by decide) (by decide) ..),
    main_call0_cst, by decide, (own_nullary ..),
    main_call0_v0, by decide, (own_unary (by decide) ..),
    main_v5, by decide, (own_binary (by decide) (by decide) ..),
    main_v6, by decide, (own_unary (by decide) ..),
    main_v7, by decide, (own_binary (by decide) (by decide) ..),
    main_v8, by decide, (own_binary (by decide) (by decide) ..),
    main_v9, by decide, (own_unary (by decide) ..),
    main_call1_v0, by decide, (own_binary (by decide) (by decide) ..),
    main_call1_cst, by decide, (own_nullary ..),
    main_call1_v1, by decide, (own_binary (by decide) (by decide) ..),
    main_call1_v2, by decide, (own_unary (by decide) ..),
    main_v10, by decide, (own_unary (by decide) ..),
    main_cst, by decide, (own_nullary ..),
    main_call2_v0, by decide, (own_unary (by decide) ..),
    main_call2_v1, by decide, (own_unary (by decide) ..),
    main_v11, by decide, (own_binary (by decide) (by decide) ..),
    main_v12, by decide, (own_unary (by decide) ..),
    main_v13, by decide, (own_binary (by decide) (by decide) ..),
    main_v14, by decide, (own_reshape (by decide) ..),
    main_call3_v0, by decide, (own_binary (by decide) (by decide) ..),
    main_call3_cst, by decide, (own_nullary ..),
    main_call3_v1, by decide, (own_binary (by decide) (by decide) ..),
    main_call3_v2, by decide, (own_unary (by decide) ..),
    main_v15, by decide, (own_unary (by decide) ..),
    main_cst_0, by decide, (own_nullary ..),
    main_call4_v0, by decide, (own_unary (by decide) ..),
    main_call4_v1, by decide, (own_unary (by decide) ..),
    main_v16, by decide, (own_binary (by decide) (by decide) ..),
    main_v17, by decide, (own_unary (by decide) ..),
    main_v18, by decide, (own_binary (by decide) (by decide) ..),
    main_v19, by decide, (own_binary (by decide) (by decide) ..),
    main_v20, by decide, (own_unary (by decide) ..),
    main_v21, by decide, (own_unary (by decide) ..),
    main_v22, by decide, (own_binary (by decide) (by decide) ..),
    main_cst_1, by decide, (own_nullary ..),
    main_v23, by decide, (own_binary (by decide) (by decide) ..),
    main_cst_2, by decide, (own_nullary ..),
    main_v24, by decide, (own_binary (by decide) (by decide) ..),
    main_v25, by decide, (own_unary (by decide) ..),
    main_v26, by decide, (own_unary (by decide) ..),
    main_v27, by decide, (own_binary (by decide) (by decide) ..),
    main_v28, by decide, (own_unary (by decide) ..),
    main_cst_3, by decide, (own_nullary ..),
    main_v29, by decide, (own_binary (by decide) (by decide) ..),
    main_v30, by decide, (own_unary (by decide) ..),
    main_v31, by decide, (own_unary (by decide) ..),
    main_v32, by decide, (own_binary (by decide) (by decide) ..),
    main_call5_v0, by decide, (own_nullary ..),
    main_call5_cst, by decide, (own_nullary ..),
    main_call5_c, by decide, (own_nullary ..),
    main_call5_v1_0, by decide, (own_quaternary (by decide) (by decide) (by decide) (by decide) ..),
    main_v33, by decide, (own_quaternary (by decide) (by decide) (by decide) (by decide) ..),
    main_call6_v0, by decide, (own_unary (by decide) ..),
    main_call6_v1, by decide, (own_nullary ..),
    main_call6_v2, by decide, (own_unary (by decide) ..),
    main_call6_v3, by decide, (own_binary (by decide) (by decide) ..),
    main_v34, by decide, (own_unary (by decide) ..),
    main_v35, by decide, (own_binary (by decide) (by decide) ..),
    main_v36, by decide, (own_binary (by decide) (by decide) ..),
    main_c, by decide, (own_nullary ..),
    main_v37, by decide, (own_binary (by decide) (by decide) ..),
    main_c_4, by decide, (own_nullary ..),
    main_v38, by decide, (own_binary (by decide) (by decide) ..),
    main_v39, by decide, (own_ternary (by decide) (by decide) (by decide) ..),
    main_c_5, by decide, (own_nullary ..),
    main_c_6, by decide, (own_nullary ..),
    main_v40, by decide, (own_binary (by decide) (by decide) ..),
    main_c_7, by decide, (own_nullary ..),
    main_c_8, by decide, (own_nullary ..),
    main_v41, by decide, (own_binary (by decide) (by decide) ..),
    main_c_9, by decide, (own_nullary ..),
    main_v42, by decide, (own_ternary (by decide) (by decide) (by decide) ..),
    main_c_10, by decide, (own_nullary ..),
    main_c_11, by decide, (own_nullary ..),
    main_v43, by decide, (own_binary (by decide) (by decide) ..),
    main_c_12, by decide, (own_nullary ..),
    main_c_13, by decide, (own_nullary ..), by unfold Ordered; decide⟩

set_option maxRecDepth 8192 in
set_option maxHeartbeats 4000000 in
theorem ordered1 : Ordered 106 179 (ops1 (F := F)) :=
  ⟨main_v44, by decide, (own_binary (by decide) (by decide) ..),
    main_c_14, by decide, (own_nullary ..),
    main_v45, by decide, (own_ternary (by decide) (by decide) (by decide) ..),
    main_v46, by decide, (own_unaryIndexed (by decide) (by decide) ..),
    main_v47, by decide, (own_reshape (by decide) ..),
    main_v48, by decide, (own_unary (by decide) ..),
    main_v49, by decide, (own_unary (by decide) ..),
    main_call7_v0, by decide, (own_binary (by decide) (by decide) ..),
    main_call7_cst, by decide, (own_nullary ..),
    main_call7_v1, by decide, (own_binary (by decide) (by decide) ..),
    main_call7_v2, by decide, (own_unary (by decide) ..),
    main_v50, by decide, (own_unary (by decide) ..),
    main_cst_15, by decide, (own_nullary ..),
    main_call8_v0, by decide, (own_unary (by decide) ..),
    main_call8_v1, by decide, (own_unary (by decide) ..),
    main_v51, by decide, (own_binary (by decide) (by decide) ..),
    main_v52, by decide, (own_unary (by decide) ..),
    main_v53, by decide, (own_binary (by decide) (by decide) ..),
    main_v54, by decide, (own_reshape (by decide) ..),
    main_call9_v0, by decide, (own_binary (by decide) (by decide) ..),
    main_call9_cst, by decide, (own_nullary ..),
    main_call9_v1, by decide, (own_binary (by decide) (by decide) ..),
    main_call9_v2, by decide, (own_unary (by decide) ..),
    main_v55, by decide, (own_unary (by decide) ..),
    main_cst_16, by decide, (own_nullary ..),
    main_call10_v0, by decide, (own_unary (by decide) ..),
    main_call10_v1, by decide, (own_unary (by decide) ..),
    main_v56, by decide, (own_binary (by decide) (by decide) ..),
    main_v57, by decide, (own_unary (by decide) ..),
    main_v58, by decide, (own_binary (by decide) (by decide) ..),
    main_v59, by decide, (own_binary (by decide) (by decide) ..),
    main_c_17, by decide, (own_nullary ..),
    main_v60, by decide, (own_binary (by decide) (by decide) ..),
    main_c_18, by decide, (own_nullary ..),
    main_v61, by decide, (own_binary (by decide) (by decide) ..),
    main_v62, by decide, (own_ternary (by decide) (by decide) (by decide) ..),
    main_c_19, by decide, (own_nullary ..),
    main_c_20, by decide, (own_nullary ..),
    main_v63, by decide, (own_binary (by decide) (by decide) ..),
    main_c_21, by decide, (own_nullary ..),
    main_c_22, by decide, (own_nullary ..),
    main_v64, by decide, (own_binary (by decide) (by decide) ..),
    main_c_23, by decide, (own_nullary ..),
    main_v65, by decide, (own_ternary (by decide) (by decide) (by decide) ..),
    main_v66, by decide, (own_unaryIndexed (by decide) (by decide) ..),
    main_v67, by decide, (own_reshape (by decide) ..),
    main_c_24, by decide, (own_nullary ..),
    main_v68, by decide, (own_binary (by decide) (by decide) ..),
    main_c_25, by decide, (own_nullary ..),
    main_v69, by decide, (own_binary (by decide) (by decide) ..),
    main_v70, by decide, (own_ternary (by decide) (by decide) (by decide) ..),
    main_c_26, by decide, (own_nullary ..),
    main_c_27, by decide, (own_nullary ..),
    main_v71, by decide, (own_binary (by decide) (by decide) ..),
    main_c_28, by decide, (own_nullary ..),
    main_c_29, by decide, (own_nullary ..),
    main_v72, by decide, (own_binary (by decide) (by decide) ..),
    main_c_30, by decide, (own_nullary ..),
    main_v73, by decide, (own_ternary (by decide) (by decide) (by decide) ..),
    main_v74, by decide, (own_unaryIndexed (by decide) (by decide) ..),
    main_v75, by decide, (own_reshape (by decide) ..),
    main_cst_31, by decide, (own_nullary ..),
    main_v76, by decide, (own_unary (by decide) ..),
    main_v77, by decide, (own_binary (by decide) (by decide) ..),
    main_cst_32, by decide, (own_nullary ..),
    main_v78, by decide, (own_binary (by decide) (by decide) ..),
    main_cst_33, by decide, (own_nullary ..),
    main_call11_v0, by decide, (own_unary (by decide) ..),
    main_v79, by decide, (own_binary (by decide) (by decide) ..),
    main_v80, by decide, (own_unary (by decide) ..),
    main_v81, by decide, (own_binary (by decide) (by decide) ..),
    main_cst_34, by decide, (own_nullary ..),
    main_v82, by decide, (own_unary (by decide) ..), by unfold Ordered; decide⟩

set_option maxRecDepth 8192 in
set_option maxHeartbeats 4000000 in
theorem ordered2 : Ordered 179 247 (ops2 (F := F)) :=
  ⟨main_v83, by decide, (own_binary (by decide) (by decide) ..),
    main_v84, by decide, (own_unary (by decide) ..),
    main_cst_35, by decide, (own_nullary ..),
    main_call12_v0, by decide, (own_unary (by decide) ..),
    main_call12_v1, by decide, (own_unary (by decide) ..),
    main_v85, by decide, (own_binary (by decide) (by decide) ..),
    main_v86, by decide, (own_unary (by decide) ..),
    main_v87, by decide, (own_unary (by decide) ..),
    main_v88, by decide, (own_unary (by decide) ..),
    main_v89, by decide, (own_nary (by decide) ..),
    main_v90, by decide, (own_unary (by decide) ..),
    main_v91, by decide, (own_binary (by decide) (by decide) ..),
    main_v92, by decide, (own_unary (by decide) ..),
    main_v93, by decide, (own_unary (by decide) ..),
    main_v94, by decide, (own_binary (by decide) (by decide) ..),
    main_call13_cst, by decide, (own_nullary ..),
    main_call13_v0, by decide, (own_unary (by decide) ..),
    main_v95, by decide, (own_binary (by decide) (by decide) ..),
    main_v96, by decide, (own_unary (by decide) ..),
    main_v97, by decide, (own_binary (by decide) (by decide) ..),
    main_v98, by decide, (own_unary (by decide) ..),
    main_v99, by decide, (own_unary (by decide) ..),
    main_v100, by decide, (own_binary (by decide) (by decide) ..),
    main_v101, by decide, (own_reshape (by decide) ..),
    main_call14_v0, by decide, (own_nullary ..),
    main_call14_cst, by decide, (own_nullary ..),
    main_call14_c, by decide, (own_nullary ..),
    main_call14_v1_0, by decide, (own_quaternary (by decide) (by decide) (by decide) (by decide) ..),
    main_v102, by decide, (own_quaternary (by decide) (by decide) (by decide) (by decide) ..),
    main_c_36, by decide, (own_nullary ..),
    main_v103, by decide, (own_binary (by decide) (by decide) ..),
    main_c_37, by decide, (own_nullary ..),
    main_v104, by decide, (own_binary (by decide) (by decide) ..),
    main_v105, by decide, (own_ternary (by decide) (by decide) (by decide) ..),
    main_c_38, by decide, (own_nullary ..),
    main_c_39, by decide, (own_nullary ..),
    main_v106, by decide, (own_binary (by decide) (by decide) ..),
    main_c_40, by decide, (own_nullary ..),
    main_c_41, by decide, (own_nullary ..),
    main_v107, by decide, (own_binary (by decide) (by decide) ..),
    main_c_42, by decide, (own_nullary ..),
    main_v108, by decide, (own_ternary (by decide) (by decide) (by decide) ..),
    main_v109, by decide, (own_unaryIndexed (by decide) (by decide) ..),
    main_v110, by decide, (own_reshape (by decide) ..),
    main_c_43, by decide, (own_nullary ..),
    main_v111, by decide, (own_binary (by decide) (by decide) ..),
    main_c_44, by decide, (own_nullary ..),
    main_v112, by decide, (own_binary (by decide) (by decide) ..),
    main_v113, by decide, (own_ternary (by decide) (by decide) (by decide) ..),
    main_v114, by decide, (own_unaryIndexed (by decide) (by decide) ..),
    main_v115, by decide, (own_reshape (by decide) ..),
    main_c_45, by decide, (own_nullary ..),
    main_v116, by decide, (own_binary (by decide) (by decide) ..),
    main_c_46, by decide, (own_nullary ..),
    main_v117, by decide, (own_binary (by decide) (by decide) ..),
    main_v118, by decide, (own_ternary (by decide) (by decide) (by decide) ..),
    main_v119, by decide, (own_unaryIndexed (by decide) (by decide) ..),
    main_v120, by decide, (own_reshape (by decide) ..),
    main_v121, by decide, (own_reshape (by decide) ..),
    main_v122, by decide, (own_unary (by decide) ..),
    main_v123, by decide, (own_unary (by decide) ..),
    main_v124, by decide, (own_unary (by decide) ..),
    main_v125, by decide, (own_unary (by decide) ..),
    main_v126, by decide, (own_nary (by decide) ..),
    main_v127, by decide, (own_unary (by decide) ..),
    main_v128, by decide, (own_binary (by decide) (by decide) ..),
    main_v129, by decide, (own_binary (by decide) (by decide) ..),
    main_v130, by decide, (own_unary (by decide) ..), by unfold Ordered; decide⟩

set_option maxRecDepth 8192 in
set_option maxHeartbeats 4000000 in
theorem ordered3 : Ordered 247 294 (ops3 (F := F)) :=
  ⟨main_v131, by decide, (own_unary (by decide) ..),
    main_v132, by decide, (own_binary (by decide) (by decide) ..),
    main_v133, by decide, (own_binary (by decide) (by decide) ..),
    main_v134, by decide, (own_unary (by decide) ..),
    main_v135, by decide, (own_reshape (by decide) ..),
    main_v136, by decide, (own_unary (by decide) ..),
    main_v137, by decide, (own_binary (by decide) (by decide) ..),
    main_v138, by decide, (own_binary (by decide) (by decide) ..),
    main_v139, by decide, (own_unary (by decide) ..),
    main_v140, by decide, (own_binary (by decide) (by decide) ..),
    main_v141, by decide, (own_binary (by decide) (by decide) ..),
    main_v142, by decide, (own_unary (by decide) ..),
    main_v143, by decide, (own_binary (by decide) (by decide) ..),
    main_v144, by decide, (own_binary (by decide) (by decide) ..),
    main_v145, by decide, (own_reshape (by decide) ..),
    main_v146, by decide, (own_unary (by decide) ..),
    main_v147, by decide, (own_reshape (by decide) ..),
    main_cst_47, by decide, (own_nullary ..),
    main_cst_48, by decide, (own_nullary ..),
    main_call15_v0, by decide, (own_unary (by decide) ..),
    main_call15_v1, by decide, (own_unary (by decide) ..),
    main_call15_v2, by decide, (own_binary (by decide) (by decide) ..),
    main_call15_v3, by decide, (own_unary (by decide) ..),
    main_call15_v4, by decide, (own_unary (by decide) ..),
    main_v148, by decide, (own_binary (by decide) (by decide) ..),
    main_v149, by decide, (own_unary (by decide) ..),
    main_v150, by decide, (own_reshape (by decide) ..),
    main_cst_49, by decide, (own_nullary ..),
    main_cst_50, by decide, (own_nullary ..),
    main_call16_v0, by decide, (own_unary (by decide) ..),
    main_call16_v1, by decide, (own_unary (by decide) ..),
    main_call16_v2, by decide, (own_binary (by decide) (by decide) ..),
    main_call16_v3, by decide, (own_unary (by decide) ..),
    main_call16_v4, by decide, (own_unary (by decide) ..),
    main_v151, by decide, (own_binary (by decide) (by decide) ..),
    main_v152, by decide, (own_unary (by decide) ..),
    main_v153, by decide, (own_reshape (by decide) ..),
    main_cst_51, by decide, (own_nullary ..),
    main_cst_52, by decide, (own_nullary ..),
    main_call17_v0, by decide, (own_unary (by decide) ..),
    main_call17_v1, by decide, (own_unary (by decide) ..),
    main_call17_v2, by decide, (own_binary (by decide) (by decide) ..),
    main_call17_v3, by decide, (own_unary (by decide) ..),
    main_call17_v4, by decide, (own_unary (by decide) ..),
    main_v154, by decide, (own_binary (by decide) (by decide) ..),
    main_v155, by decide, (own_unary (by decide) ..),
    main_v156, by decide, (own_nary (by decide) ..), by unfold Ordered; decide⟩

theorem ordered : Ordered 24 294 (ops (F := F)) := ordered0.append (ordered1.append (ordered2.append ordered3))

end Cert.ReferenceIdeal.Line

end
-- ==== Proof.RefRun.lean ====
/- The reference's run: it ends with every buffer at the line's final contents, its arguments as they were, and no
   semaphore is ever touched. -/
module

public import proofs.«01_k».proof.Defs
public import proofs.«01_k».proof.Proof.RefOps
public import Idealize.ShloMosaic.Lib.Quiescent

@[expose] public section

noncomputable section

namespace Cert.ReferenceIdeal.Line

open Cert.ReferenceIdeal Cert.ReferenceIdeal.Gen Cert.Line Idealize.ShloMosaic Idealize.ShloMosaic.TcCoe Idealize.SL.Sem Idealize.ShloMosaic.StableHlo

variable {F : FTy → Type} [FloatOps F]

/-- What the buffers of device `c` hold when the reference has ended. -/
def final (m : (ℓ : Loc nD τ sig) → Buf (Elt F) ℓ) (c : Dev nD) : Valuation τ sig (Elt F) := after ops (launchContents m c)

/-- Every operation's equation holds of the final contents. -/
theorem final_fixed (m : (ℓ : Loc nD τ sig) → Buf (Elt F) ℓ) (c : Dev nD) :
    (ops : List (HloOp τ sig (Elt F))).Forall fun op => op.result (final m c) = final m c :=
  ordered.fixed _

/-- An argument ends as it began. -/
theorem final_arg (m : (ℓ : Loc nD τ sig) → Buf (Elt F) ℓ) (c : Dev nD) (x : Ref sig .tc) (h : place x < 24) :
    final m c (Proc.devRef .tc x) = m ((c.tc : Thread nD τ).loc x) :=
  ordered.keeps _ x h

/-- The run. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = final m d (Proc.devRef .tc b) :=
  run_seq scopedRefs_eq scopedSems_eq defs main (fun _ => ops) main_eq (fun _ => ordered.sub) m ρ
    (fun _ => List.forall_iff_forall_mem.mp ordered.fresh)

theorem no_semaphores : sig.nSem + sig.nDmaSem = 0 := by decide

/-- Frame of the reference. -/
theorem quiescent : Cert.quiescent_ReferenceIdeal := fun m ρ _ =>
  (θ_run defs _ _).mono (fun r h =>
    ⟨fun c => ⟨(h c main_arg0).trans (final_arg m c main_arg0 (by decide)),
      (h c main_arg1).trans (final_arg m c main_arg1 (by decide)),
      (h c main_arg2).trans (final_arg m c main_arg2 (by decide)),
      (h c main_arg3).trans (final_arg m c main_arg3 (by decide)),
      (h c main_arg4).trans (final_arg m c main_arg4 (by decide)),
      (h c main_arg5).trans (final_arg m c main_arg5 (by decide)),
      (h c main_arg6).trans (final_arg m c main_arg6 (by decide)),
      (h c main_arg7).trans (final_arg m c main_arg7 (by decide)),
      (h c main_arg8).trans (final_arg m c main_arg8 (by decide)),
      (h c main_arg9).trans (final_arg m c main_arg9 (by decide)),
      (h c main_arg10).trans (final_arg m c main_arg10 (by decide)),
      (h c main_arg11).trans (final_arg m c main_arg11 (by decide)),
      (h c main_arg12).trans (final_arg m c main_arg12 (by decide)),
      (h c main_arg13).trans (final_arg m c main_arg13 (by decide)),
      (h c main_arg14).trans (final_arg m c main_arg14 (by decide)),
      (h c main_arg15).trans (final_arg m c main_arg15 (by decide)),
      (h c main_arg16).trans (final_arg m c main_arg16 (by decide)),
      (h c main_arg17).trans (final_arg m c main_arg17 (by decide)),
      (h c main_arg18).trans (final_arg m c main_arg18 (by decide)),
      (h c main_arg19).trans (final_arg m c main_arg19 (by decide)),
      (h c main_arg20).trans (final_arg m c main_arg20 (by decide)),
      (h c main_arg21).trans (final_arg m c main_arg21 (by decide)),
      (h c main_arg22).trans (final_arg m c main_arg22 (by decide)),
      (h c main_arg23).trans (final_arg m c main_arg23 (by decide))⟩, sem_eq_zero_of_no_sems no_semaphores _⟩) (run m ρ)

end Cert.ReferenceIdeal.Line

end
-- ==== Proof.Reads.lean ====
/- What the body's loads read: a landed block reads the operand it was copied from. -/
module

public import proofs.«01_k».proof.Proof.Body
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- A load of pieces that all agree with one function, where they cover the load, reads that function. -/
theorem readCov_pieces {s : Shape} {e : EltTy} {κ : Kind} {sp : Space} (v : View sig κ sp s e) (L : List (View.Piece (Elt F) s e))
    (B : LoadRect s) (G : s.Idx → Elt F e) (hG : ∀ q ∈ L, ∀ y, q.2 y = G (q.1.emb y))
    (hc : ∀ x, ∃ q ∈ L, B.idx x ∈ q.1.set) : v.readCov L B = fun x => G (B.idx x) := by
  rw [View.readCov_eq_canon']
  exact funext fun x => View.canon_apply_of_pieces G L hG _ (hc x)

/-- A load after one whole-block piece reads the block. -/
theorem readCov_whole {s : Shape} {e : EltTy} {κ : Kind} {sp : Space} (v : View sig κ sp s e) (w : s.Idx → Elt F e) (B : LoadRect s) :
    v.readCov [(⟨Rect.whole s, w⟩ : View.Piece (Elt F) s e)] B = fun x => w (B.idx x) :=
  readCov_pieces v _ B w
    (fun q hq y => by
      obtain rfl := List.mem_singleton.mp hq
      show w y = w _; congr 1; simp)
    (fun x => ⟨_, List.mem_singleton_self _, by rw [Rect.set_whole]; exact Finset.mem_univ _⟩)

/-- The sixteen chunks of prototypes, as they land. -/
def protoPieces (c : Dev nD) (fh0 : HbBuf0 (F := F) c hbM0_0) : List (View.Piece (Elt F) S8192x256 .f32) :=
  [
    ⟨Rect.unit ![7680, 0] S512x256.size (by decide), bodyRun.sl.dma0_34 c fh0⟩,
    ⟨Rect.unit ![7168, 0] S512x256.size (by decide), bodyRun.sl.dma0_33 c fh0⟩,
    ⟨Rect.unit ![6656, 0] S512x256.size (by decide), bodyRun.sl.dma0_32 c fh0⟩,
    ⟨Rect.unit ![6144, 0] S512x256.size (by decide), bodyRun.sl.dma0_31 c fh0⟩,
    ⟨Rect.unit ![5632, 0] S512x256.size (by decide), bodyRun.sl.dma0_30 c fh0⟩,
    ⟨Rect.unit ![5120, 0] S512x256.size (by decide), bodyRun.sl.dma0_29 c fh0⟩,
    ⟨Rect.unit ![4608, 0] S512x256.size (by decide), bodyRun.sl.dma0_28 c fh0⟩,
    ⟨Rect.unit ![4096, 0] S512x256.size (by decide), bodyRun.sl.dma0_27 c fh0⟩,
    ⟨Rect.unit ![3584, 0] S512x256.size (by decide), bodyRun.sl.dma0_26 c fh0⟩,
    ⟨Rect.unit ![3072, 0] S512x256.size (by decide), bodyRun.sl.dma0_25 c fh0⟩,
    ⟨Rect.unit ![2560, 0] S512x256.size (by decide), bodyRun.sl.dma0_24 c fh0⟩,
    ⟨Rect.unit ![2048, 0] S512x256.size (by decide), bodyRun.sl.dma0_23 c fh0⟩,
    ⟨Rect.unit ![1536, 0] S512x256.size (by decide), bodyRun.sl.dma0_22 c fh0⟩,
    ⟨Rect.unit ![1024, 0] S512x256.size (by decide), bodyRun.sl.dma0_21 c fh0⟩,
    ⟨Rect.unit ![512, 0] S512x256.size (by decide), bodyRun.sl.dma0_20 c fh0⟩,
    ⟨Rect.unit ![0, 0] S512x256.size (by decide), bodyRun.sl.dma0_19 c fh0⟩]

/-- A load of the landed prototypes reads the prototypes. -/
theorem proto_read (c : Dev nD) (fh0 : HbBuf0 (F := F) c hbM0_0) {κ : Kind} {sp : Space} (v : View sig κ sp S8192x256 .f32) (B : LoadRect S8192x256) :
    v.readCov (protoPieces c fh0) B = fun x => (fh0 : S8192x256.Idx → Elt F .f32) (B.idx x) := by
  refine readCov_pieces v _ B _ ?_ (fun x => View.cover_of_tiledL (s := S8192x256) (protoPieces c fh0) ![512, 256] (by sl_kernel_rfl) _)
  unfold protoPieces
  repeat' (first | refine List.forall_mem_cons.2 ⟨fun _ => rfl, ?_⟩ | exact fun _ h => absurd h List.not_mem_nil)

end Cert.KernelIdeal.Hand

end
-- ==== Proof.SimRows.lean ====
/- The similarities the body stores row by row: row `k` holds those of prototypes `128 k … 128 k + 127`. -/
module

public import proofs.«01_k».proof.Proof.Reads
public import proofs.«01_k».proof.Proof.First

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- Rows `128 k … 128 k + 127` of the prototypes. -/
def chunk (P : Vec F S8192x256 .f32) (k : Fin 64) : Vec F S128x256 .f32 := fun x => P (ix2 ⟨128 * k.val + (x 0).val, by have := (x 0).isLt; have := k.isLt; simp at *; omega⟩ ⟨(x 1).val, (x 1).isLt⟩)

/-- A load of 128 rows of the landed prototypes reads their chunk. -/
theorem chunk_read (c : Dev nD) (fh0 : HbBuf0 (F := F) c hbM0_0) {κ : Kind} {sp : Space} (v : View sig κ sp S8192x256 .f32)
    (k : Fin 64) (o : ℕ) (ho : o = 128 * k.val) (inb : ∀ a, (![o, 0] : Fin 2 → ℕ) a + S128x256.size a ≤ S8192x256.size a) :
    v.readCov (protoPieces c fh0) (Rect.unit (s := S8192x256) ![o, 0] S128x256.size inb).toLoadRect = chunk fh0 k := by
  subst ho
  rw [proto_read]
  funext x
  refine congrArg (fh0 : S8192x256.Idx → Elt F .f32) (funext fun a => Fin.ext ?_)
  fin_cases a <;> simp [LoadRect.idx, Rect.toLoadRect, Rect.unit, ix2]

/-- The similarities of the 8192 prototypes to the normalised key `kn`, as the body lays them out. -/
def simPlane (kn : FVec F S256x128 .f32) (P : Vec F S8192x256 .f32) : Vec F S64x128 .f32 := fun i =>
  k0_pay19 kn k0_pay16 k0_pay17 k0_pay18 (chunk P (i 0)) (ix2 0 (i 1))

/-- A row the body stores agrees with the plane. -/
theorem row_agrees (kn : FVec F S256x128 .f32) (P : Vec F S8192x256 .f32) (k : Fin 64) (X : Vec F S128x256 .f32) (hX : X = chunk P k)
    (inb : ∀ a, (![k.val, 0] : Fin 2 → ℕ) a + S1x128.size a ≤ S64x128.size a) (y : S1x128.Idx) :
    k0_pay19 kn k0_pay16 k0_pay17 k0_pay18 X y = simPlane kn P ((Rect.unit (s := S64x128) ![k.val, 0] S1x128.size inb).emb y) := by
  subst hX
  unfold simPlane
  have h0 : (Rect.unit (s := S64x128) ![k.val, 0] S1x128.size inb).emb y 0 = k := Fin.ext (by
    have := (y 0).isLt
    simp [Rect.emb, Rect.unit] at *; omega)
  have h1 : (ix2 0 ((Rect.unit (s := S64x128) ![k.val, 0] S1x128.size inb).emb y 1) : S1x128.Idx) = y := funext fun a => Fin.ext (by
    have := (y 0).isLt
    fin_cases a <;> simp [Rect.emb, Rect.unit, ix2] at *; omega)
  rw [h0, h1]

/-- Every row the body stores agrees with the plane. -/
theorem rows_agree (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg48 : Memref sig .tc .vmem S1x512 .f32) (arg49 : Memref sig .tc .vmem S1x256 .f32) (fh0 : HbBuf0 (F := F) c hbM0_0) (fh1 : HbBuf0 (F := F) c hbM0_1) (fh2 : HbBuf0 (F := F) c hbM0_2) (fh4 : HbBuf0 (F := F) c hbM0_4) (fh5 : HbBuf0 (F := F) c hbM0_5) (fh6 : HbBuf0 (F := F) c hbM0_6) (fh7 : HbBuf0 (F := F) c hbM0_7) :
    ∀ q ∈ (bodyRun.sl.HS20_64 c arg27 arg28 arg29 arg30 arg31 arg33 arg34 arg48 arg49 fh0 fh1 fh2 fh4 fh5 fh6 fh7), ∀ y, q.2 y = simPlane (bodyRun.sl.r_4 c arg28 arg29 arg30 arg31 arg33 arg34 arg48 arg49 fh1 fh2 fh4 fh5 fh6 fh7) fh0 (q.1.emb y) := by
  unfold bodyRun.sl.HS20_64
  refine List.forall_mem_cons.2 ⟨row_agrees _ _ 63 (bodyRun.sl.v1416 c arg27 fh0) (chunk_read c fh0 arg27.view 63 8064 rfl _) inb_S64x128_S1x128_63_0, ?_⟩
  refine List.forall_mem_cons.2 ⟨row_agrees _ _ 62 (bodyRun.sl.v1399 c arg27 fh0) (chunk_read c fh0 arg27.view 62 7936 rfl _) inb_S64x128_S1x128_62_0, ?_⟩
  refine List.forall_mem_cons.2 ⟨row_agrees _ _ 61 (bodyRun.sl.v1382 c arg27 fh0) (chunk_read c fh0 arg27.view 61 7808 rfl _) inb_S64x128_S1x128_61_0, ?_⟩
  refine List.forall_mem_cons.2 ⟨row_agrees _ _ 60 (bodyRun.sl.v1365 c arg27 fh0) (chunk_read c fh0 arg27.view 60 7680 rfl _) inb_S64x128_S1x128_60_0, ?_⟩
  refine List.forall_mem_cons.2 ⟨row_agrees _ _ 59 (bodyRun.sl.v1344 c arg27 fh0) (chunk_read c fh0 arg27.view 59 7552 rfl _) inb_S64x128_S1x128_59_0, ?_⟩
  refine List.forall_mem_cons.2 ⟨row_agrees _ _ 58 (bodyRun.sl.v1327 c arg27 fh0) (chunk_read c fh0 arg27.view 58 7424 rfl _) inb_S64x128_S1x128_58_0, ?_⟩
  refine List.forall_mem_cons.2 ⟨row_agrees _ _ 57 (bodyRun.sl.v1310 c arg27 fh0) (chunk_read c fh0 arg27.view 57 7296 rfl _) inb_S64x128_S1x128_57_0, ?_⟩
  refine List.forall_mem_cons.2 ⟨row_agrees _ _ 56 (bodyRun.sl.v1293 c arg27 fh0) (chunk_read c fh0 arg27.view 56 7168 rfl _) inb_S64x128_S1x128_56_0, ?_⟩
  refine List.forall_mem_cons.2 ⟨row_agrees _ _ 55 (bodyRun.sl.v1272 c arg27 fh0) (chunk_read c fh0 arg27.view 55 7040 rfl _) inb_S64x128_S1x128_55_0, ?_⟩
  refine List.forall_mem_cons.2 ⟨row_agrees _ _ 54 (bodyRun.sl.v1255 c arg27 fh0) (chunk_read c fh0 arg27.view 54 6912 rfl _) inb_S64x128_S1x128_54_0, ?_⟩
  refine List.forall_mem_cons.2 ⟨row_agrees _ _ 53 (bodyRun.sl.v1238 c arg27 fh0) (chunk_read c fh0 arg27.view 53 6784 rfl _) inb_S64x128_S1x128_53_0, ?_⟩
  refine List.forall_mem_cons.2 ⟨row_agrees _ _ 52 (bodyRun.sl.v1221 c arg27 fh0) (chunk_read c fh0 arg27.view 52 6656 rfl _) inb_S64x128_S1x128_52_0, ?_⟩
  refine List.forall_mem_cons.2 ⟨row_agrees _ _ 51 (bodyRun.sl.v1200 c arg27 fh0) (chunk_read c fh0 arg27.view 51 6528 rfl _) inb_S64x128_S1x128_51_0, ?_⟩
  refine List.forall_mem_cons.2 ⟨row_agrees _ _ 50 (bodyRun.sl.v1183 c arg27 fh0) (chunk_read c fh0 arg27.view 50 6400 rfl _) inb_S64x128_S1x128_50_0, ?_⟩
  refine List.forall_mem_cons.2 ⟨row_agrees _ _ 49 (bodyRun.sl.v1166 c arg27 fh0) (chunk_read c fh0 arg27.view 49 6272 rfl _) inb_S64x128_S1x128_49_0, ?_⟩
  refine List.forall_mem_cons.2 ⟨row_agrees _ _ 48 (bodyRun.sl.v1149 c arg27 fh0) (chunk_read c fh0 arg27.view 48 6144 rfl _) inb_S64x128_S1x128_48_0, ?_⟩
  refine List.forall_mem_cons.2 ⟨row_agrees _ _ 47 (bodyRun.sl.v1128 c arg27 fh0) (chunk_read c fh0 arg27.view 47 6016 rfl _) inb_S64x128_S1x128_47_0, ?_⟩
  refine List.forall_mem_cons.2 ⟨row_agrees _ _ 46 (bodyRun.sl.v1111 c arg27 fh0) (chunk_read c fh0 arg27.view 46 5888 rfl _) inb_S64x128_S1x128_46_0, ?_⟩
  refine List.forall_mem_cons.2 ⟨row_agrees _ _ 45 (bodyRun.sl.v1094 c arg27 fh0) (chunk_read c fh0 arg27.view 45 5760 rfl _) inb_S64x128_S1x128_45_0, ?_⟩
  refine List.forall_mem_cons.2 ⟨row_agrees _ _ 44 (bodyRun.sl.v1077 c arg27 fh0) (chunk_read c fh0 arg27.view 44 5632 rfl _) inb_S64x128_S1x128_44_0, ?_⟩
  refine List.forall_mem_cons.2 ⟨row_agrees _ _ 43 (bodyRun.sl.v1056 c arg27 fh0) (chunk_read c fh0 arg27.view 43 5504 rfl _) inb_S64x128_S1x128_43_0, ?_⟩
  refine List.forall_mem_cons.2 ⟨row_agrees _ _ 42 (bodyRun.sl.v1039 c arg27 fh0) (chunk_read c fh0 arg27.view 42 5376 rfl _) inb_S64x128_S1x128_42_0, ?_⟩
  refine List.forall_mem_cons.2 ⟨row_agrees _ _ 41 (bodyRun.sl.v1022 c arg27 fh0) (chunk_read c fh0 arg27.view 41 5248 rfl _) inb_S64x128_S1x128_41_0, ?_⟩
  refine List.forall_mem_cons.2 ⟨row_agrees _ _ 40 (bodyRun.sl.v1005 c arg27 fh0) (chunk_read c fh0 arg27.view 40 5120 rfl _) inb_S64x128_S1x128_40_0, ?_⟩
  refine List.forall_mem_cons.2 ⟨row_agrees _ _ 39 (bodyRun.sl.v984 c arg27 fh0) (chunk_read c fh0 arg27.view 39 4992 rfl _) inb_S64x128_S1x128_39_0, ?_⟩
  refine List.forall_mem_cons.2 ⟨row_agrees _ _ 38 (bodyRun.sl.v967 c arg27 fh0) (chunk_read c fh0 arg27.view 38 4864 rfl _) inb_S64x128_S1x128_38_0, ?_⟩
  refine List.forall_mem_cons.2 ⟨row_agrees _ _ 37 (bodyRun.sl.v950 c arg27 fh0) (chunk_read c fh0 arg27.view 37 4736 rfl _) inb_S64x128_S1x128_37_0, ?_⟩
  refine List.forall_mem_cons.2 ⟨row_agrees _ _ 36 (bodyRun.sl.v933 c arg27 fh0) (chunk_read c fh0 arg27.view 36 4608 rfl _) inb_S64x128_S1x128_36_0, ?_⟩
  refine List.forall_mem_cons.2 ⟨row_agrees _ _ 35 (bodyRun.sl.v912 c arg27 fh0) (chunk_read c fh0 arg27.view 35 4480 rfl _) inb_S64x128_S1x128_35_0, ?_⟩
  refine List.forall_mem_cons.2 ⟨row_agrees _ _ 34 (bodyRun.sl.v895 c arg27 fh0) (chunk_read c fh0 arg27.view 34 4352 rfl _) inb_S64x128_S1x128_34_0, ?_⟩
  refine List.forall_mem_cons.2 ⟨row_agrees _ _ 33 (bodyRun.sl.v878 c arg27 fh0) (chunk_read c fh0 arg27.view 33 4224 rfl _) inb_S64x128_S1x128_33_0, ?_⟩
  refine List.forall_mem_cons.2 ⟨row_agrees _ _ 32 (bodyRun.sl.v861 c arg27 fh0) (chunk_read c fh0 arg27.view 32 4096 rfl _) inb_S64x128_S1x128_32_0, ?_⟩
  refine List.forall_mem_cons.2 ⟨row_agrees _ _ 31 (bodyRun.sl.v840 c arg27 fh0) (chunk_read c fh0 arg27.view 31 3968 rfl _) inb_S64x128_S1x128_31_0, ?_⟩
  refine List.forall_mem_cons.2 ⟨row_agrees _ _ 30 (bodyRun.sl.v823 c arg27 fh0) (chunk_read c fh0 arg27.view 30 3840 rfl _) inb_S64x128_S1x128_30_0, ?_⟩
  refine List.forall_mem_cons.2 ⟨row_agrees _ _ 29 (bodyRun.sl.v806 c arg27 fh0) (chunk_read c fh0 arg27.view 29 3712 rfl _) inb_S64x128_S1x128_29_0, ?_⟩
  refine List.forall_mem_cons.2 ⟨row_agrees _ _ 28 (bodyRun.sl.v789 c arg27 fh0) (chunk_read c fh0 arg27.view 28 3584 rfl _) inb_S64x128_S1x128_28_0, ?_⟩
  refine List.forall_mem_cons.2 ⟨row_agrees _ _ 27 (bodyRun.sl.v768 c arg27 fh0) (chunk_read c fh0 arg27.view 27 3456 rfl _) inb_S64x128_S1x128_27_0, ?_⟩
  refine List.forall_mem_cons.2 ⟨row_agrees _ _ 26 (bodyRun.sl.v751 c arg27 fh0) (chunk_read c fh0 arg27.view 26 3328 rfl _) inb_S64x128_S1x128_26_0, ?_⟩
  refine List.forall_mem_cons.2 ⟨row_agrees _ _ 25 (bodyRun.sl.v734 c arg27 fh0) (chunk_read c fh0 arg27.view 25 3200 rfl _) inb_S64x128_S1x128_25_0, ?_⟩
  refine List.forall_mem_cons.2 ⟨row_agrees _ _ 24 (bodyRun.sl.v717 c arg27 fh0) (chunk_read c fh0 arg27.view 24 3072 rfl _) inb_S64x128_S1x128_24_0, ?_⟩
  refine List.forall_mem_cons.2 ⟨row_agrees _ _ 23 (bodyRun.sl.v696 c arg27 fh0) (chunk_read c fh0 arg27.view 23 2944 rfl _) inb_S64x128_S1x128_23_0, ?_⟩
  refine List.forall_mem_cons.2 ⟨row_agrees _ _ 22 (bodyRun.sl.v679 c arg27 fh0) (chunk_read c fh0 arg27.view 22 2816 rfl _) inb_S64x128_S1x128_22_0, ?_⟩
  refine List.forall_mem_cons.2 ⟨row_agrees _ _ 21 (bodyRun.sl.v662 c arg27 fh0) (chunk_read c fh0 arg27.view 21 2688 rfl _) inb_S64x128_S1x128_21_0, ?_⟩
  refine List.forall_mem_cons.2 ⟨row_agrees _ _ 20 (bodyRun.sl.v645 c arg27 fh0) (chunk_read c fh0 arg27.view 20 2560 rfl _) inb_S64x128_S1x128_20_0, ?_⟩
  refine List.forall_mem_cons.2 ⟨row_agrees _ _ 19 (bodyRun.sl.v624 c arg27 fh0) (chunk_read c fh0 arg27.view 19 2432 rfl _) inb_S64x128_S1x128_19_0, ?_⟩
  refine List.forall_mem_cons.2 ⟨row_agrees _ _ 18 (bodyRun.sl.v607 c arg27 fh0) (chunk_read c fh0 arg27.view 18 2304 rfl _) inb_S64x128_S1x128_18_0, ?_⟩
  refine List.forall_mem_cons.2 ⟨row_agrees _ _ 17 (bodyRun.sl.v590 c arg27 fh0) (chunk_read c fh0 arg27.view 17 2176 rfl _) inb_S64x128_S1x128_17_0, ?_⟩
  refine List.forall_mem_cons.2 ⟨row_agrees _ _ 16 (bodyRun.sl.v573 c arg27 fh0) (chunk_read c fh0 arg27.view 16 2048 rfl _) inb_S64x128_S1x128_16_0, ?_⟩
  refine List.forall_mem_cons.2 ⟨row_agrees _ _ 15 (bodyRun.sl.v552 c arg27 fh0) (chunk_read c fh0 arg27.view 15 1920 rfl _) inb_S64x128_S1x128_15_0, ?_⟩
  refine List.forall_mem_cons.2 ⟨row_agrees _ _ 14 (bodyRun.sl.v535 c arg27 fh0) (chunk_read c fh0 arg27.view 14 1792 rfl _) inb_S64x128_S1x128_14_0, ?_⟩
  refine List.forall_mem_cons.2 ⟨row_agrees _ _ 13 (bodyRun.sl.v518 c arg27 fh0) (chunk_read c fh0 arg27.view 13 1664 rfl _) inb_S64x128_S1x128_13_0, ?_⟩
  refine List.forall_mem_cons.2 ⟨row_agrees _ _ 12 (bodyRun.sl.v501 c arg27 fh0) (chunk_read c fh0 arg27.view 12 1536 rfl _) inb_S64x128_S1x128_12_0, ?_⟩
  refine List.forall_mem_cons.2 ⟨row_agrees _ _ 11 (bodyRun.sl.v480 c arg27 fh0) (chunk_read c fh0 arg27.view 11 1408 rfl _) inb_S64x128_S1x128_11_0, ?_⟩
  refine List.forall_mem_cons.2 ⟨row_agrees _ _ 10 (bodyRun.sl.v463 c arg27 fh0) (chunk_read c fh0 arg27.view 10 1280 rfl _) inb_S64x128_S1x128_10_0, ?_⟩
  refine List.forall_mem_cons.2 ⟨row_agrees _ _ 9 (bodyRun.sl.v446 c arg27 fh0) (chunk_read c fh0 arg27.view 9 1152 rfl _) inb_S64x128_S1x128_9_0, ?_⟩
  refine List.forall_mem_cons.2 ⟨row_agrees _ _ 8 (bodyRun.sl.v429 c arg27 fh0) (chunk_read c fh0 arg27.view 8 1024 rfl _) inb_S64x128_S1x128_8_0, ?_⟩
  refine List.forall_mem_cons.2 ⟨row_agrees _ _ 7 (bodyRun.sl.v408 c arg27 fh0) (chunk_read c fh0 arg27.view 7 896 rfl _) inb_S64x128_S1x128_7_0, ?_⟩
  refine List.forall_mem_cons.2 ⟨row_agrees _ _ 6 (bodyRun.sl.v391 c arg27 fh0) (chunk_read c fh0 arg27.view 6 768 rfl _) inb_S64x128_S1x128_6_0, ?_⟩
  refine List.forall_mem_cons.2 ⟨row_agrees _ _ 5 (bodyRun.sl.v374 c arg27 fh0) (chunk_read c fh0 arg27.view 5 640 rfl _) inb_S64x128_S1x128_5_0, ?_⟩
  refine List.forall_mem_cons.2 ⟨row_agrees _ _ 4 (bodyRun.sl.v c arg27 fh0) (chunk_read c fh0 arg27.view 4 512 rfl _) inb_S64x128_S1x128_4_0, ?_⟩
  refine List.forall_mem_cons.2 ⟨row_agrees _ _ 3 (bodyRun.sl.v336 c arg27 fh0) (chunk_read c fh0 arg27.view 3 384 rfl _) inb_S64x128_S1x128_3_0, ?_⟩
  refine List.forall_mem_cons.2 ⟨row_agrees _ _ 2 (bodyRun.sl.v319 c arg27 fh0) (chunk_read c fh0 arg27.view 2 256 rfl _) inb_S64x128_S1x128_2_0, ?_⟩
  refine List.forall_mem_cons.2 ⟨row_agrees _ _ 1 (bodyRun.sl.v302 c arg27 fh0) (chunk_read c fh0 arg27.view 1 128 rfl _) inb_S64x128_S1x128_1_0, ?_⟩
  refine List.forall_mem_cons.2 ⟨row_agrees _ _ 0 (bodyRun.sl.v285 c arg27 fh0) (chunk_read c fh0 arg27.view 0 0 rfl _) inb_S64x128_S1x128_0_0, ?_⟩
  exact fun _ h => absurd h List.not_mem_nil

/-- So the similarities read back are the plane. -/
theorem sims_read (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg47 : Memref sig .tc .vmem S64x128 .f32) (arg48 : Memref sig .tc .vmem S1x512 .f32) (arg49 : Memref sig .tc .vmem S1x256 .f32) (fh0 : HbBuf0 (F := F) c hbM0_0) (fh1 : HbBuf0 (F := F) c hbM0_1) (fh2 : HbBuf0 (F := F) c hbM0_2) (fh4 : HbBuf0 (F := F) c hbM0_4) (fh5 : HbBuf0 (F := F) c hbM0_5) (fh6 : HbBuf0 (F := F) c hbM0_6) (fh7 : HbBuf0 (F := F) c hbM0_7) :
    (bodyRun.sl.v1433 c arg27 arg28 arg29 arg30 arg31 arg33 arg34 arg47 arg48 arg49 fh0 fh1 fh2 fh4 fh5 fh6 fh7) = simPlane (bodyRun.sl.r_4 c arg28 arg29 arg30 arg31 arg33 arg34 arg48 arg49 fh1 fh2 fh4 fh5 fh6 fh7) fh0 := by
  unfold bodyRun.sl.v1433
  rw [readCov_pieces _ _ _ _ (rows_agree c arg27 arg28 arg29 arg30 arg31 arg33 arg34 arg48 arg49 fh0 fh1 fh2 fh4 fh5 fh6 fh7)
    (fun x => View.cover_of_tiledL (s := S64x128) _ ![1, 128] (by sl_kernel_rfl) _)]
  exact funext fun x => congrArg _ (funext fun a => Fin.ext (by fin_cases a <;> simp [LoadRect.idx, Rect.toLoadRect, Rect.unit]))

end Cert.KernelIdeal.Hand

end
-- ==== Proof.Stored.lean ====
/- What the body stores, as functions of its operands alone. -/
module

public import proofs.«01_k».proof.Proof.SimRows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- Rows `128 k … 128 k + 127` of a matrix. -/
def rows {α : Type} {N n : ℕ} [NeZero N] (W : (⟨2, ![N, n]⟩ : Shape).Idx → α) (k : ℕ) : (⟨2, ![128, n]⟩ : Shape).Idx → α :=
  fun x => W (ix2 (Fin.ofNat N (128 * k + (x 0).val)) (x 1))

/-- A row of lanes computed 128 at a time, each stretch from the rows of a matrix it stands for. -/
def lanes {α β : Type} {N n L : ℕ} [NeZero N] (g : ((⟨2, ![128, n]⟩ : Shape).Idx → α) → S1x128.Idx → β)
    (W : (⟨2, ![N, n]⟩ : Shape).Idx → α) : (⟨2, ![1, L]⟩ : Shape).Idx → β :=
  fun i => g (rows W ((i 1).val / 128)) (ix2 0 (Fin.ofNat 128 (i 1).val))

/-- A stretch of lanes agrees with the row. -/
theorem lanes_agree {α β : Type} {N n L : ℕ} [NeZero N] (g : ((⟨2, ![128, n]⟩ : Shape).Idx → α) → S1x128.Idx → β)
    (W : (⟨2, ![N, n]⟩ : Shape).Idx → α) (k o : ℕ) (ho : o = 128 * k) (X : (⟨2, ![128, n]⟩ : Shape).Idx → α) (hX : X = rows W k)
    (inb : ∀ a, (![0, o] : Fin 2 → ℕ) a + S1x128.size a ≤ (⟨2, ![1, L]⟩ : Shape).size a) (y : S1x128.Idx) :
    g X y = lanes g W ((Rect.unit (s := ⟨2, ![1, L]⟩) ![0, o] S1x128.size inb).emb y) := by
  subst ho hX
  have hy0 := (y 0).isLt
  have hy1 := (y 1).isLt
  have e : ((Rect.unit (s := ⟨2, ![1, L]⟩) ![0, 128 * k] S1x128.size inb).emb y 1).val = 128 * k + (y 1).val := by
    simp [Rect.emb, Rect.unit]
  simp at hy0 hy1
  have h1 : (ix2 0 (Fin.ofNat 128 (128 * k + (y 1).val)) : S1x128.Idx) = y := funext fun a => Fin.ext (by
    fin_cases a
    · simp [ix2, hy0]
    · simp [ix2]; omega)
  unfold lanes
  rw [e, h1, show (128 * k + (y 1).val) / 128 = k by omega]

/-- A load of the whole of a landed block. -/
theorem whole_read {s : Shape} {e : EltTy} {κ : Kind} {sp : Space} (v : View sig κ sp s e) (w : s.Idx → Elt F e) (off : Fin s.rank → ℕ)
    (h : off = fun _ => 0) (inb : ∀ a, off a + s.size a ≤ s.size a) :
    v.readCov [(⟨Rect.whole s, w⟩ : View.Piece (Elt F) s e)] (Rect.unit off s.size inb).toLoadRect = w := by
  subst h
  rw [readCov_whole]
  exact funext fun x => congrArg w (funext fun a => Fin.ext (by simp [LoadRect.idx, Rect.toLoadRect, Rect.unit]))

/-- A load of 128 rows of a landed matrix. -/
theorem rows_read {N n : ℕ} [NeZero N] {κ : Kind} {sp : Space} (v : View sig κ sp ⟨2, ![N, n]⟩ .f32) (w : (⟨2, ![N, n]⟩ : Shape).Idx → Elt F .f32)
    (k o : ℕ) (ho : o = 128 * k) (inb : ∀ a, (![o, 0] : Fin 2 → ℕ) a + (⟨2, ![128, n]⟩ : Shape).size a ≤ (⟨2, ![N, n]⟩ : Shape).size a) :
    v.readCov [(⟨Rect.whole ⟨2, ![N, n]⟩, w⟩ : View.Piece (Elt F) ⟨2, ![N, n]⟩ .f32)]
      (Rect.unit (s := ⟨2, ![N, n]⟩) ![o, 0] (⟨2, ![128, n]⟩ : Shape).size inb).toLoadRect = rows w k := by
  subst ho
  rw [readCov_whole]
  funext x
  have h0 := (x 0).isLt
  have h1 := inb 0
  simp at h0 h1
  refine congrArg w (funext fun a => Fin.ext ?_)
  fin_cases a
  · simp [LoadRect.idx, Rect.toLoadRect, Rect.unit, ix2]
    exact (Nat.mod_eq_of_lt (by omega)).symm
  · simp [LoadRect.idx, Rect.toLoadRect, Rect.unit, ix2]

theorem load_v140 (c : Dev nD) (arg30 : Memref sig .tc .vmem S1x256 .f32) (fh1 : HbBuf0 (F := F) c hbM0_1) : (bodyRun.sl.v140 c arg30 fh1) = (fh1 : Vec F S1x256 .f32) :=
  whole_read _ _ _ (funext fun a => by fin_cases a <;> rfl) _
theorem load_v141 (c : Dev nD) (arg31 : Memref sig .tc .vmem S1x32 .f32) (fh2 : HbBuf0 (F := F) c hbM0_2) : (bodyRun.sl.v141 c arg31 fh2) = (fh2 : Vec F S1x32 .f32) :=
  whole_read _ _ _ (funext fun a => by fin_cases a <;> rfl) _
theorem load_v1546 (c : Dev nD) (arg35 : Memref sig .tc .vmem S8x3 .f32) (fh8 : HbBuf0 (F := F) c hbM0_8) : (bodyRun.sl.v1546 c arg35 fh8) = (fh8 : Vec F S8x3 .f32) :=
  whole_read _ _ _ (funext fun a => by fin_cases a <;> rfl) _
theorem load_v1548 (c : Dev nD) (arg36 : Memref sig .tc .vmem S1x8 .f32) (fh9 : HbBuf0 (F := F) c hbM0_9) : (bodyRun.sl.v1548 c arg36 fh9) = (fh9 : Vec F S1x8 .f32) :=
  whole_read _ _ _ (funext fun a => by fin_cases a <;> rfl) _
theorem load_v1553 (c : Dev nD) (arg37 : Memref sig .tc .vmem S1x8 .f32) (fh10 : HbBuf0 (F := F) c hbM0_10) : (bodyRun.sl.v1553 c arg37 fh10) = (fh10 : Vec F S1x8 .f32) :=
  whole_read _ _ _ (funext fun a => by fin_cases a <;> rfl) _
theorem load_v1558 (c : Dev nD) (arg38 : Memref sig .tc .vmem S1x1 .f32) (fh11 : HbBuf0 (F := F) c hbM0_11) : (bodyRun.sl.v1558 c arg38 fh11) = (fh11 : Vec F S1x1 .f32) :=
  whole_read _ _ _ (funext fun a => by fin_cases a <;> rfl) _
theorem load_v1588 (c : Dev nD) (arg32 : Memref sig .tc .vmem S1x1 .f32) (fh3 : HbBuf0 (F := F) c hbM0_3) : (bodyRun.sl.v1588 c arg32 fh3) = (fh3 : Vec F S1x1 .f32) :=
  whole_read _ _ _ (funext fun a => by fin_cases a <;> rfl) _
theorem load_v1605 (c : Dev nD) (arg39 : Memref sig .tc .vmem S16x3 .f32) (fh12 : HbBuf0 (F := F) c hbM0_12) : (bodyRun.sl.v1605 c arg39 fh12) = (fh12 : Vec F S16x3 .f32) :=
  whole_read _ _ _ (funext fun a => by fin_cases a <;> rfl) _
theorem load_v1607 (c : Dev nD) (arg40 : Memref sig .tc .vmem S1x16 .f32) (fh13 : HbBuf0 (F := F) c hbM0_13) : (bodyRun.sl.v1607 c arg40 fh13) = (fh13 : Vec F S1x16 .f32) :=
  whole_read _ _ _ (funext fun a => by fin_cases a <;> rfl) _
theorem load_v1610 (c : Dev nD) (arg41 : Memref sig .tc .vmem S1x16 .f32) (fh14 : HbBuf0 (F := F) c hbM0_14) : (bodyRun.sl.v1610 c arg41 fh14) = (fh14 : Vec F S1x16 .f32) :=
  whole_read _ _ _ (funext fun a => by fin_cases a <;> rfl) _
theorem load_v1616 (c : Dev nD) (arg42 : Memref sig .tc .vmem S1x1 .f32) (fh15 : HbBuf0 (F := F) c hbM0_15) : (bodyRun.sl.v1616 c arg42 fh15) = (fh15 : Vec F S1x1 .f32) :=
  whole_read _ _ _ (funext fun a => by fin_cases a <;> rfl) _
theorem load_v1624 (c : Dev nD) (arg43 : Memref sig .tc .vmem S32x44 .f32) (fh16 : HbBuf0 (F := F) c hbM0_16) : (bodyRun.sl.v1624 c arg43 fh16) = (fh16 : Vec F S32x44 .f32) :=
  whole_read _ _ _ (funext fun a => by fin_cases a <;> rfl) _
theorem load_v1626 (c : Dev nD) (arg44 : Memref sig .tc .vmem S1x32 .f32) (fh17 : HbBuf0 (F := F) c hbM0_17) : (bodyRun.sl.v1626 c arg44 fh17) = (fh17 : Vec F S1x32 .f32) :=
  whole_read _ _ _ (funext fun a => by fin_cases a <;> rfl) _
theorem load_v1632 (c : Dev nD) (arg45 : Memref sig .tc .vmem S12x44 .f32) (fh18 : HbBuf0 (F := F) c hbM0_18) : (bodyRun.sl.v1632 c arg45 fh18) = (fh18 : Vec F S12x44 .f32) :=
  whole_read _ _ _ (funext fun a => by fin_cases a <;> rfl) _
theorem load_v1634 (c : Dev nD) (arg46 : Memref sig .tc .vmem S1x12 .f32) (fh19 : HbBuf0 (F := F) c hbM0_19) : (bodyRun.sl.v1634 c arg46 fh19) = (fh19 : Vec F S1x12 .f32) :=
  whole_read _ _ _ (funext fun a => by fin_cases a <;> rfl) _
theorem load_v164 (c : Dev nD) (arg28 : Memref sig .tc .vmem S512x288 .f32) (fh4 : HbBuf0 (F := F) c hbM0_4) : (bodyRun.sl.v164 c arg28 fh4) = rows (α := Elt F .f32) (N := 512) (n := 288) fh4 0 :=
  rows_read _ _ 0 0 rfl _
theorem load_v176 (c : Dev nD) (arg28 : Memref sig .tc .vmem S512x288 .f32) (fh4 : HbBuf0 (F := F) c hbM0_4) : (bodyRun.sl.v176 c arg28 fh4) = rows (α := Elt F .f32) (N := 512) (n := 288) fh4 1 :=
  rows_read _ _ 1 128 rfl _
theorem load_v188 (c : Dev nD) (arg28 : Memref sig .tc .vmem S512x288 .f32) (fh4 : HbBuf0 (F := F) c hbM0_4) : (bodyRun.sl.v188 c arg28 fh4) = rows (α := Elt F .f32) (N := 512) (n := 288) fh4 2 :=
  rows_read _ _ 2 256 rfl _
theorem load_v200 (c : Dev nD) (arg28 : Memref sig .tc .vmem S512x288 .f32) (fh4 : HbBuf0 (F := F) c hbM0_4) : (bodyRun.sl.v200 c arg28 fh4) = rows (α := Elt F .f32) (N := 512) (n := 288) fh4 3 :=
  rows_read _ _ 3 384 rfl _
theorem load_v213 (c : Dev nD) (arg33 : Memref sig .tc .vmem S1x512 .f32) (fh5 : HbBuf0 (F := F) c hbM0_5) : (bodyRun.sl.v213 c arg33 fh5) = (fh5 : Vec F S1x512 .f32) :=
  whole_read _ _ _ (funext fun a => by fin_cases a <;> rfl) _
theorem load_v229 (c : Dev nD) (arg29 : Memref sig .tc .vmem S256x512 .f32) (fh6 : HbBuf0 (F := F) c hbM0_6) : (bodyRun.sl.v229 c arg29 fh6) = rows (α := Elt F .f32) (N := 256) (n := 512) fh6 0 :=
  rows_read _ _ 0 0 rfl _
theorem load_v241 (c : Dev nD) (arg29 : Memref sig .tc .vmem S256x512 .f32) (fh6 : HbBuf0 (F := F) c hbM0_6) : (bodyRun.sl.v241 c arg29 fh6) = rows (α := Elt F .f32) (N := 256) (n := 512) fh6 1 :=
  rows_read _ _ 1 128 rfl _
theorem load_v254 (c : Dev nD) (arg34 : Memref sig .tc .vmem S1x256 .f32) (fh7 : HbBuf0 (F := F) c hbM0_7) : (bodyRun.sl.v254 c arg34 fh7) = (fh7 : Vec F S1x256 .f32) :=
  whole_read _ _ _ (funext fun a => by fin_cases a <;> rfl) _

/-- The operands the body works from. -/
structure Blocks (F : FTy → Type) where
  protos : Vec F S8192x256 .f32
  act : Vec F S1x256 .f32
  pfc : Vec F S1x32 .f32
  ctd : Vec F S1x1 .f32
  kpW1 : Vec F S512x288 .f32
  kpB1 : Vec F S1x512 .f32
  kpW2 : Vec F S256x512 .f32
  kpB2 : Vec F S1x256 .f32
  scW1 : Vec F S8x3 .f32
  scB1 : Vec F S1x8 .f32
  scW2 : Vec F S1x8 .f32
  scB2 : Vec F S1x1 .f32
  gW1 : Vec F S16x3 .f32
  gB1 : Vec F S1x16 .f32
  gW2 : Vec F S1x16 .f32
  gB2 : Vec F S1x1 .f32
  rpW : Vec F S32x44 .f32
  rpB : Vec F S1x32 .f32
  rnW : Vec F S12x44 .f32
  rnB : Vec F S1x12 .f32
  episodes : Vec F S8192x8x44 .f32
  tds : Vec F S8192x8 .f32
  stamps : Vec F S8192x8 .f32

namespace Blocks

variable (b : Blocks F)

/-- The hidden layer before its bias. -/
def hidden : Vec F S1x512 .f32 := lanes (N := 512) (n := 288) (L := 512) (k0_pay5 (k0_pay2 b.act b.pfc)) b.kpW1

/-- The key before its bias. -/
def key : Vec F S1x256 .f32 := lanes (N := 256) (n := 512) (L := 256) (k0_pay10 b.hidden b.kpB1) b.kpW2

/-- The similarities. -/
def sims : Vec F S64x128 .f32 := simPlane (k0_pay15 b.key b.kpB2) b.protos

/-- The word naming the slot picked. -/
def slot : BitVec 32 := extractAt ![0, 0, 0] (k0_pay128 b.sims) inpos_S1x1x1_p0_0_0

/-- The slot's episodes, temporal differences and time stamps. -/
def eps : Vec F S8x44 .f32 := fun y => b.episodes (ix3 (Fin.ofNat 8192 b.slot.toNat) (y 0) (y 1))
def td : Vec F S1x8 .f32 := fun y => b.tds (ix2 (Fin.ofNat 8192 b.slot.toNat) (y 1))
def ts : Vec F S1x8 .f32 := fun y => b.stamps (ix2 (Fin.ofNat 8192 b.slot.toNat) (y 1))

/-- The best episode's content and temporal difference. -/
def content : Vec F S1x44 .f32 :=
  k0_pay139 b.eps k0_pay132 k0_pay133 (k0_pay134 (k0_pay130 b.pfc b.eps)) k0_pay135 (k0_pay136 b.td) (k0_pay137 b.ts) b.scW1 b.scB1 b.scW2 b.scB2
def bestTd : Vec F S1x8x1 .f32 :=
  k0_pay140 (k0_pay131 b.td) k0_pay132 k0_pay133 (k0_pay134 (k0_pay130 b.pfc b.eps)) k0_pay135 (k0_pay136 b.td) (k0_pay137 b.ts) b.scW1 b.scB1 b.scW2 b.scB2

/-- The four results. -/
def alpha : Vec F S1x1 .f32 := k0_pay142 (k0_pay126 b.sims) b.bestTd b.ctd b.gW1 b.gB1 b.gW2 b.gB2
def newPfc : Vec F S1x32 .f32 := k0_pay143 b.pfc b.content (k0_pay141 (k0_pay126 b.sims) b.bestTd b.ctd b.gW1 b.gB1 b.gW2 b.gB2) b.rpW b.rpB
def rates : Vec F S1x12 .f32 := k0_pay1 b.content b.rnW b.rnB
def pick : Vec F S64x128 .f32 := k0_pay129 b.sims

end Blocks

/-- The hidden layer's stretches agree with it, and read back are it. -/
theorem hidden_pieces (c : Dev nD) (arg28 : Memref sig .tc .vmem S512x288 .f32) (arg30 : Memref sig .tc .vmem S1x256 .f32) (arg31 : Memref sig .tc .vmem S1x32 .f32) (fh1 : HbBuf0 (F := F) c hbM0_1) (fh2 : HbBuf0 (F := F) c hbM0_2) (fh4 : HbBuf0 (F := F) c hbM0_4) : ∀ q ∈ (bodyRun.sl.HS21_4 c arg28 arg30 arg31 fh1 fh2 fh4), ∀ y, q.2 y = lanes (N := 512) (n := 288) (L := 512) (k0_pay5 (k0_pay2 (fh1 : Vec F S1x256 .f32) fh2)) fh4 (q.1.emb y) := by
  unfold bodyRun.sl.HS21_4 bodyRun.sl.r_2 bodyRun.sl.r bodyRun.sl.r_1
  rw [load_v140, load_v141]
  refine List.forall_mem_cons.2 ⟨lanes_agree (k0_pay5 (k0_pay2 (fh1 : Vec F S1x256 .f32) fh2)) fh4 3 384 rfl _ (load_v200 c arg28 fh4) inb_S1x512_S1x128_0_384, ?_⟩
  refine List.forall_mem_cons.2 ⟨lanes_agree (k0_pay5 (k0_pay2 (fh1 : Vec F S1x256 .f32) fh2)) fh4 2 256 rfl _ (load_v188 c arg28 fh4) inb_S1x512_S1x128_0_256, ?_⟩
  refine List.forall_mem_cons.2 ⟨lanes_agree (k0_pay5 (k0_pay2 (fh1 : Vec F S1x256 .f32) fh2)) fh4 1 128 rfl _ (load_v176 c arg28 fh4) inb_S1x512_S1x128_0_128, ?_⟩
  refine List.forall_mem_cons.2 ⟨lanes_agree (k0_pay5 (k0_pay2 (fh1 : Vec F S1x256 .f32) fh2)) fh4 0 0 rfl _ (load_v164 c arg28 fh4) inb_S1x512_S1x128_0_0, ?_⟩
  exact fun _ h => absurd h List.not_mem_nil

theorem load_v212 (c : Dev nD) (arg28 : Memref sig .tc .vmem S512x288 .f32) (arg30 : Memref sig .tc .vmem S1x256 .f32) (arg31 : Memref sig .tc .vmem S1x32 .f32) (arg48 : Memref sig .tc .vmem S1x512 .f32) (fh1 : HbBuf0 (F := F) c hbM0_1) (fh2 : HbBuf0 (F := F) c hbM0_2) (fh4 : HbBuf0 (F := F) c hbM0_4) : (bodyRun.sl.v212 c arg28 arg30 arg31 arg48 fh1 fh2 fh4) = lanes (N := 512) (n := 288) (L := 512) (k0_pay5 (k0_pay2 (fh1 : Vec F S1x256 .f32) fh2)) fh4 := by
  unfold bodyRun.sl.v212
  rw [readCov_pieces _ _ _ _ (hidden_pieces c arg28 arg30 arg31 fh1 fh2 fh4)
    (fun x => View.cover_of_tiledL (s := S1x512) _ ![1, 128] (by sl_kernel_rfl) _)]
  exact funext fun x => congrArg _ (funext fun a => Fin.ext (by fin_cases a <;> simp [LoadRect.idx, Rect.toLoadRect, Rect.unit]))

/-- So too the key's. -/
theorem key_pieces (c : Dev nD) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg48 : Memref sig .tc .vmem S1x512 .f32) (fh1 : HbBuf0 (F := F) c hbM0_1) (fh2 : HbBuf0 (F := F) c hbM0_2) (fh4 : HbBuf0 (F := F) c hbM0_4) (fh5 : HbBuf0 (F := F) c hbM0_5) (fh6 : HbBuf0 (F := F) c hbM0_6) : ∀ q ∈ (bodyRun.sl.HS22_2 c arg28 arg29 arg30 arg31 arg33 arg48 fh1 fh2 fh4 fh5 fh6), ∀ y, q.2 y = lanes (N := 256) (n := 512) (L := 256) (k0_pay10 (lanes (N := 512) (n := 288) (L := 512) (k0_pay5 (k0_pay2 (fh1 : Vec F S1x256 .f32) fh2)) fh4) fh5) fh6 (q.1.emb y) := by
  unfold bodyRun.sl.HS22_2 bodyRun.sl.r_3
  rw [load_v212, load_v213]
  refine List.forall_mem_cons.2 ⟨lanes_agree (k0_pay10 (lanes (N := 512) (n := 288) (L := 512) (k0_pay5 (k0_pay2 (fh1 : Vec F S1x256 .f32) fh2)) fh4) fh5) fh6 1 128 rfl _ (load_v241 c arg29 fh6) inb_S1x256_S1x128_0_128, ?_⟩
  refine List.forall_mem_cons.2 ⟨lanes_agree (k0_pay10 (lanes (N := 512) (n := 288) (L := 512) (k0_pay5 (k0_pay2 (fh1 : Vec F S1x256 .f32) fh2)) fh4) fh5) fh6 0 0 rfl _ (load_v229 c arg29 fh6) inb_S1x256_S1x128_0_0, ?_⟩
  exact fun _ h => absurd h List.not_mem_nil

theorem load_v253 (c : Dev nD) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg48 : Memref sig .tc .vmem S1x512 .f32) (arg49 : Memref sig .tc .vmem S1x256 .f32) (fh1 : HbBuf0 (F := F) c hbM0_1) (fh2 : HbBuf0 (F := F) c hbM0_2) (fh4 : HbBuf0 (F := F) c hbM0_4) (fh5 : HbBuf0 (F := F) c hbM0_5) (fh6 : HbBuf0 (F := F) c hbM0_6) : (bodyRun.sl.v253 c arg28 arg29 arg30 arg31 arg33 arg48 arg49 fh1 fh2 fh4 fh5 fh6) = lanes (N := 256) (n := 512) (L := 256) (k0_pay10 (lanes (N := 512) (n := 288) (L := 512) (k0_pay5 (k0_pay2 (fh1 : Vec F S1x256 .f32) fh2)) fh4) fh5) fh6 := by
  unfold bodyRun.sl.v253
  rw [readCov_pieces _ _ _ _ (key_pieces c arg28 arg29 arg30 arg31 arg33 arg48 fh1 fh2 fh4 fh5 fh6)
    (fun x => View.cover_of_tiledL (s := S1x256) _ ![1, 128] (by sl_kernel_rfl) _)]
  exact funext fun x => congrArg _ (funext fun a => Fin.ext (by fin_cases a <;> simp [LoadRect.idx, Rect.toLoadRect, Rect.unit]))

theorem load_v1433 (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg47 : Memref sig .tc .vmem S64x128 .f32) (arg48 : Memref sig .tc .vmem S1x512 .f32) (arg49 : Memref sig .tc .vmem S1x256 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.v1433 c arg27 arg28 arg29 arg30 arg31 arg33 arg34 arg47 arg48 arg49 fh0 fh1 fh2 fh4 fh5 fh6 fh7) = Blocks.sims (⟨fh0, fh1, fh2, fh3, fh4, fh5, fh6, fh7, fh8, fh9, fh10, fh11, fh12, fh13, fh14, fh15, fh16, fh17, fh18, fh19, fh20, fh21, fh22⟩ : Blocks F) := by
  rw [sims_read]
  unfold bodyRun.sl.r_4
  rw [load_v253, load_v254]
  rfl

theorem load_v1450 (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg47 : Memref sig .tc .vmem S64x128 .f32) (arg48 : Memref sig .tc .vmem S1x512 .f32) (arg49 : Memref sig .tc .vmem S1x256 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.v1450 c arg27 arg28 arg29 arg30 arg31 arg33 arg34 arg47 arg48 arg49 fh0 fh1 fh2 fh4 fh5 fh6 fh7) = Blocks.slot (⟨fh0, fh1, fh2, fh3, fh4, fh5, fh6, fh7, fh8, fh9, fh10, fh11, fh12, fh13, fh14, fh15, fh16, fh17, fh18, fh19, fh20, fh21, fh22⟩ : Blocks F) := by
  unfold bodyRun.sl.v1450
  rw [load_v1433 c arg27 arg28 arg29 arg30 arg31 arg33 arg34 arg47 arg48 arg49 fh0 fh1 fh2 fh3 fh4 fh5 fh6 fh7 fh8 fh9 fh10 fh11 fh12 fh13 fh14 fh15 fh16 fh17 fh18 fh19 fh20 fh21 fh22]
  rfl

/-- A slot the body goes on with is a row of the store. -/
theorem slot_lt (w : BitVec 32) (h : k0_chk1 w) : w.toNat < 8192 := by
  have := h.2 0
  simp [k0_off2] at this
  omega

/-- Where the slot's rows lie in their stores: a leading axis of one is put back as a zero. -/
theorem reshape_front {n : Nat} {d : Fin n → Nat}
    (h : (⟨n, d⟩ : Shape).numel = (⟨n + 1, Matrix.vecCons 1 d⟩ : Shape).numel) (x : (⟨n, d⟩ : Shape).Idx) :
    Shape.reshapeEquiv h x = Fin.cons ⟨0, Nat.one_pos⟩ x :=
  Shape.reshapeEquiv_eq_of_rowMajor h (by
    show ((Shape.rowMajorPi (Matrix.vecCons 1 d) (Fin.cons ⟨0, Nat.one_pos⟩ x) : Fin _) : Nat) = (Shape.rowMajorPi d x : Nat)
    rw [Shape.rowMajorPi_succ_val]
    show 0 * _ + (Shape.rowMajorPi d x : Nat) = _
    rw [Nat.zero_mul, Nat.zero_add])

theorem episode_index (w : BitVec 32) (hlt : w.toNat < 8192) (inb) (hs) (y : S8x44.Idx) :
    (((Memref.whole main_arg9).slice (Rect.unit (s := S8192x8x44) (k0_off1 w) S1x8x44.size inb) hs).squeeze S8x44 squeezes_S1x8x44_S8x44).view.emb y
      = ix3 (Fin.ofNat 8192 w.toNat) (y 0) (y 1) := by
  have h : (((Memref.whole main_arg9).slice (Rect.unit (s := S8192x8x44) (k0_off1 w) S1x8x44.size inb) hs).squeeze S8x44 squeezes_S1x8x44_S8x44).view.emb y
      = (Rect.unit (s := S8192x8x44) (k0_off1 w) S1x8x44.size inb).emb (Shape.reshapeEquiv squeezes_S1x8x44_S8x44.numel_eq y) := rfl
  rw [h, reshape_front]
  have hm : w.toNat = (Fin.ofNat 8192 w.toNat).val := (Nat.mod_eq_of_lt hlt).symm
  funext a
  refine Fin.ext ?_
  fin_cases a
  · show w.toNat + 1 * 0 = (Fin.ofNat 8192 w.toNat).val
    omega
  · show 0 + 1 * (y 0).val = (y 0).val
    omega
  · show 0 + 1 * (y 1).val = (y 1).val
    omega

theorem td_index (w : BitVec 32) (hlt : w.toNat < 8192) (inb) (hs) (y : S1x8.Idx) :
    ((Memref.whole main_arg10).slice (Rect.unit (s := S8192x8) (k0_off2 w) S1x8.size inb) hs).view.emb y
      = ix2 (Fin.ofNat 8192 w.toNat) (y 1) := by
  have hm : w.toNat = (Fin.ofNat 8192 w.toNat).val := (Nat.mod_eq_of_lt hlt).symm
  have hy : (y 0).val = 0 := Nat.lt_one_iff.mp (y 0).isLt
  funext a
  refine Fin.ext ?_
  fin_cases a
  · show w.toNat + 1 * (y 0).val = (Fin.ofNat 8192 w.toNat).val
    omega
  · show 0 + 1 * (y 1).val = (y 1).val
    omega

theorem ts_index (w : BitVec 32) (hlt : w.toNat < 8192) (inb) (hs) (y : S1x8.Idx) :
    ((Memref.whole main_arg11).slice (Rect.unit (s := S8192x8) (k0_off2 w) S1x8.size inb) hs).view.emb y
      = ix2 (Fin.ofNat 8192 w.toNat) (y 1) := td_index w hlt inb hs y

theorem load_v1476 (hchk : SlotInRange (F := F)) (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg47 : Memref sig .tc .vmem S64x128 .f32) (arg48 : Memref sig .tc .vmem S1x512 .f32) (arg49 : Memref sig .tc .vmem S1x256 .f32) (arg50 : Memref sig .tc .vmem S8x44 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.v1476 hchk c arg27 arg28 arg29 arg30 arg31 arg33 arg34 arg47 arg48 arg49 arg50 fh0 fh1 fh2 fh4 fh5 fh6 fh7 fh20) = Blocks.eps (⟨fh0, fh1, fh2, fh3, fh4, fh5, fh6, fh7, fh8, fh9, fh10, fh11, fh12, fh13, fh14, fh15, fh16, fh17, fh18, fh19, fh20, fh21, fh22⟩ : Blocks F) := by
  refine (whole_read _ _ _ (funext fun a => by fin_cases a <;> rfl) _).trans ?_
  unfold bodyRun.sl.dma219 Blocks.eps
  have hs := load_v1450 c arg27 arg28 arg29 arg30 arg31 arg33 arg34 arg47 arg48 arg49 fh0 fh1 fh2 fh3 fh4 fh5 fh6 fh7 fh8 fh9 fh10 fh11 fh12 fh13 fh14 fh15 fh16 fh17 fh18 fh19 fh20 fh21 fh22
  have hlt := slot_lt _ (hchk (bodyRun.sl.v1433 c arg27 arg28 arg29 arg30 arg31 arg33 arg34 arg47 arg48 arg49 fh0 fh1 fh2 fh4 fh5 fh6 fh7))
  rw [← hs]
  funext y
  exact congrArg (fh20 : Vec F S8192x8x44 .f32) (episode_index _ hlt _ _ y)

theorem load_v1498 (hchk : SlotInRange (F := F)) (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg47 : Memref sig .tc .vmem S64x128 .f32) (arg48 : Memref sig .tc .vmem S1x512 .f32) (arg49 : Memref sig .tc .vmem S1x256 .f32) (arg51 : Memref sig .tc .vmem S1x8 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.v1498 hchk c arg27 arg28 arg29 arg30 arg31 arg33 arg34 arg47 arg48 arg49 arg51 fh0 fh1 fh2 fh4 fh5 fh6 fh7 fh21) = Blocks.td (⟨fh0, fh1, fh2, fh3, fh4, fh5, fh6, fh7, fh8, fh9, fh10, fh11, fh12, fh13, fh14, fh15, fh16, fh17, fh18, fh19, fh20, fh21, fh22⟩ : Blocks F) := by
  refine (whole_read _ _ _ (funext fun a => by fin_cases a <;> rfl) _).trans ?_
  unfold bodyRun.sl.dma219_1 Blocks.td
  have hs := load_v1450 c arg27 arg28 arg29 arg30 arg31 arg33 arg34 arg47 arg48 arg49 fh0 fh1 fh2 fh3 fh4 fh5 fh6 fh7 fh8 fh9 fh10 fh11 fh12 fh13 fh14 fh15 fh16 fh17 fh18 fh19 fh20 fh21 fh22
  have hlt := slot_lt _ (hchk (bodyRun.sl.v1433 c arg27 arg28 arg29 arg30 arg31 arg33 arg34 arg47 arg48 arg49 fh0 fh1 fh2 fh4 fh5 fh6 fh7))
  rw [← hs]
  funext y
  exact congrArg (fh21 : Vec F S8192x8 .f32) (td_index _ hlt _ _ y)

theorem load_v1499 (hchk : SlotInRange (F := F)) (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg47 : Memref sig .tc .vmem S64x128 .f32) (arg48 : Memref sig .tc .vmem S1x512 .f32) (arg49 : Memref sig .tc .vmem S1x256 .f32) (arg52 : Memref sig .tc .vmem S1x8 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.v1499 hchk c arg27 arg28 arg29 arg30 arg31 arg33 arg34 arg47 arg48 arg49 arg52 fh0 fh1 fh2 fh4 fh5 fh6 fh7 fh22) = Blocks.ts (⟨fh0, fh1, fh2, fh3, fh4, fh5, fh6, fh7, fh8, fh9, fh10, fh11, fh12, fh13, fh14, fh15, fh16, fh17, fh18, fh19, fh20, fh21, fh22⟩ : Blocks F) := by
  refine (whole_read _ _ _ (funext fun a => by fin_cases a <;> rfl) _).trans ?_
  unfold bodyRun.sl.dma219_2 Blocks.ts
  have hs := load_v1450 c arg27 arg28 arg29 arg30 arg31 arg33 arg34 arg47 arg48 arg49 fh0 fh1 fh2 fh3 fh4 fh5 fh6 fh7 fh8 fh9 fh10 fh11 fh12 fh13 fh14 fh15 fh16 fh17 fh18 fh19 fh20 fh21 fh22
  have hlt := slot_lt _ (hchk (bodyRun.sl.v1433 c arg27 arg28 arg29 arg30 arg31 arg33 arg34 arg47 arg48 arg49 fh0 fh1 fh2 fh4 fh5 fh6 fh7))
  rw [← hs]
  funext y
  exact congrArg (fh22 : Vec F S8192x8 .f32) (ts_index _ hlt _ _ y)

end Cert.KernelIdeal.Hand

end
-- ==== Proof.Plain.lean ====
/- What both programs compute, over plain families of extended reals. -/
module

public import proofs.«01_k».proof.Proof.First

@[expose] public section

noncomputable section

namespace Cert.Plain

open Idealize.ShloMosaic Cert.First

/-- The first place where a family is greatest. -/
def first {n : ℕ} [NeZero n] (x : Fin n → EReal) : Fin n := Classical.epsilon (IsFirst x)

theorem first_eq {n : ℕ} [NeZero n] {x : Fin n → EReal} {k : Fin n} (h : IsFirst x k) : first x = k :=
  IsFirst.unique (Classical.epsilon_spec ⟨k, h⟩) h

/-- The least norm divided by. -/
def tiny : EReal := Ideal.ofBits FTy.f32 730643660#32

/-- A vector's sum of squares. -/
def squares {n : ℕ} (v : Fin n → EReal) : EReal := ∑ x, v x * v x

/-- The norm divided by. -/
def scale {n : ℕ} (v : Fin n → EReal) : EReal := max (Ideal.sqrt (squares v)) tiny

/-- A vector divided by its norm. -/
def unit {n : ℕ} (v : Fin n → EReal) (i : Fin n) : EReal := Ideal.div (v i) (scale v)

/-- One of three. -/
def pick3 {α : Type} (a b c : α) (i : Fin 3) : α := if i.val = 0 then a else if i.val = 1 then b else c

/-- The magnitude. -/
def mag (x : EReal) : EReal := max x (-x)

/-- The operands, without their layouts. -/
structure Given where
  act : Fin 256 → EReal
  pfc : Fin 32 → EReal
  ctd : EReal
  protos : Fin 8192 → Fin 256 → EReal
  kW1 : Fin 512 → Fin 288 → EReal
  kB1 : Fin 512 → EReal
  kW2 : Fin 256 → Fin 512 → EReal
  kB2 : Fin 256 → EReal
  eps : Fin 8192 → Fin 8 → Fin 44 → EReal
  tds : Fin 8192 → Fin 8 → EReal
  stamps : Fin 8192 → Fin 8 → EReal
  sW1 : Fin 8 → Fin 3 → EReal
  sB1 : Fin 8 → EReal
  sW2 : Fin 8 → EReal
  sB2 : EReal
  gW1 : Fin 16 → Fin 3 → EReal
  gB1 : Fin 16 → EReal
  gW2 : Fin 16 → EReal
  gB2 : EReal
  rpW : Fin 32 → Fin 44 → EReal
  rpB : Fin 32 → EReal
  rnW : Fin 12 → Fin 44 → EReal
  rnB : Fin 12 → EReal

namespace Given

variable (g : Given)

/-- Activation and state, one after the other. -/
def comb (k : Fin 288) : EReal := if h : k.val < 256 then g.act ⟨k.val, h⟩ else g.pfc ⟨k.val - 256, by omega⟩

/-- The hidden layer. -/
def hid (j : Fin 512) : EReal := max (∑ k, g.comb k * g.kW1 j k + g.kB1 j) 0

/-- The key. -/
def key (j : Fin 256) : EReal := ∑ k, g.hid k * g.kW2 j k + g.kB2 j

/-- A slot's similarity to the key. -/
def sims (n : Fin 8192) : EReal := ∑ d, unit (g.protos n) d * unit g.key d

/-- The slot picked. -/
def slot : Fin 8192 := first g.sims

/-- An episode's similarity to the state. -/
def epSim (e : Fin 8) : EReal := ∑ d : Fin 32, unit (fun d : Fin 32 => g.eps g.slot e ⟨d.val, by omega⟩) d * unit g.pfc d

/-- An episode's age. -/
def age (e : Fin 8) : EReal := Ideal.ofBits FTy.f32 1120403456#32 - g.stamps g.slot e

/-- An episode's recency. -/
def recency (e : Fin 8) : EReal := 1 - Ideal.div (g.age e) (max (Finset.fold max ⊥ g.age Finset.univ) 1)

/-- What the scorer reads of an episode. -/
def feat (e : Fin 8) : Fin 3 → EReal :=
  pick3 (g.epSim e) (max (mag (g.tds g.slot e)) (Ideal.ofBits FTy.f32 897988541#32)) (g.recency e)

/-- An episode's relevance. -/
def rel (e : Fin 8) : EReal := ∑ k, max (∑ i, g.feat e i * g.sW1 k i + g.sB1 k) 0 * g.sW2 k + g.sB2

/-- The episode picked. -/
def best : Fin 8 := first g.rel

/-- Its content. -/
def content (d : Fin 44) : EReal := g.eps g.slot g.best d

/-- The gate's hidden layer. -/
def gate (k : Fin 16) : EReal :=
  Ideal.tanh (∑ i, pick3 (g.sims g.slot) (mag g.ctd) (g.tds g.slot g.best) i * g.gW1 k i + g.gB1 k)

/-- The gate. -/
def alpha : EReal := Ideal.tanh (∑ k, g.gate k * g.gW2 k + g.gB2)

/-- The new state. -/
def newPfc (l : Fin 32) : EReal := g.pfc l + g.alpha * (∑ d, g.content d * g.rpW l d + g.rpB l)

/-- A rate, kept between a tenth and `hi`. -/
def rate (hi : EReal) (r : Fin 12) : EReal :=
  min hi (max (Ideal.ofBits FTy.f32 1036831949#32) (∑ d, g.content d * g.rnW r d + g.rnB r))

/-- The slot picked, as a one. -/
def oneHot (n : Fin 8192) : EReal := if n = g.slot then 1 else 0

end Given

/-! ### Finite values -/

/-- Neither infinity. -/
def Finite (x : EReal) : Prop := ∃ r : ℝ, x = r

theorem Finite.mul {x y : EReal} : Finite x → Finite y → Finite (x * y)
  | ⟨a, ha⟩, ⟨b, hb⟩ => ⟨a * b, by rw [ha, hb, EReal.coe_mul]⟩

theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

theorem Finite.sum {ι : Type} [Fintype ι] {f : ι → EReal} (h : ∀ i, Finite (f i)) : Finite (∑ i, f i) := by
  choose r hr using h
  exact ⟨∑ i, r i, by rw [coe_sum]; exact Finset.sum_congr rfl fun i _ => hr i⟩

theorem tiny_spec : ∃ t : ℝ, 0 < t ∧ tiny = t := by
  have e : tiny = ((9223372 * (2 : ℝ) ^ (-63 : ℤ) : ℝ) : EReal) := by
    simp [tiny, Ideal.ofBits, Ideal.ieee]
  exact ⟨_, by positivity, e⟩

theorem mul_self_nonneg' (x : EReal) : 0 ≤ x * x := by
  induction x with
  | bot => simp
  | top => simp
  | coe r => rw [← EReal.coe_mul]; exact_mod_cast mul_self_nonneg r

/-- A finite vector's norm is finite and positive; another's is infinite. -/
theorem scale_cases {n : ℕ} (v : Fin n → EReal) :
    (∃ (r : Fin n → ℝ) (d : ℝ), 0 < d ∧ (∀ i, v i = r i) ∧ scale v = d) ∨ scale v = ⊤ := by
  by_cases h : ∀ i, Finite (v i)
  · choose r hr using h
    obtain ⟨t, ht, e⟩ := tiny_spec
    refine Or.inl ⟨r, max (Real.sqrt (∑ i, r i * r i)) t, lt_max_of_lt_right ht, hr, ?_⟩
    have hs : squares v = ((∑ i, r i * r i : ℝ) : EReal) := by
      rw [coe_sum]; exact Finset.sum_congr rfl fun i _ => by rw [hr, EReal.coe_mul]
    have hq : Ideal.sqrt ((∑ i, r i * r i : ℝ) : EReal) = ((Real.sqrt (∑ i, r i * r i) : ℝ) : EReal) :=
      if_neg (not_lt.mpr (Finset.sum_nonneg fun i _ => mul_self_nonneg _))
    unfold scale
    rw [hs, hq, e]
    exact (EReal.coe_strictMono.monotone.map_max).symm
  · right
    push Not at h
    obtain ⟨i, hi⟩ := h
    have hv : v i * v i = ⊤ := by
      unfold Finite at hi
      generalize v i = x at hi
      induction x with
      | bot => simp
      | top => simp
      | coe r => exact absurd ⟨r, rfl⟩ hi
    have hs : squares v = ⊤ := top_le_iff.mp (hv.symm.le.trans
      (Finset.single_le_sum (f := fun i => v i * v i) (fun i _ => mul_self_nonneg' _) (Finset.mem_univ i)))
    unfold scale
    rw [hs]
    exact max_eq_left le_top

theorem div_top (x : EReal) : Ideal.div x ⊤ = 0 := by
  unfold Ideal.div
  rw [if_neg (by simp), EReal.inv_top, mul_zero]

theorem div_coe (x : EReal) {d : ℝ} (h : 0 < d) : Ideal.div x d = x * ((d⁻¹ : ℝ) : EReal) := by
  unfold Ideal.div
  rw [if_neg (by exact_mod_cast h.ne'), EReal.coe_inv]

/-- A vector divided by its norm is finite. -/
theorem unit_finite {n : ℕ} (v : Fin n → EReal) (i : Fin n) : Finite (unit v i) := by
  unfold unit
  rcases scale_cases v with ⟨r, d, hd, hr, e⟩ | e
  · rw [e, div_coe _ hd, hr]
    exact ⟨r i * d⁻¹, by rw [EReal.coe_mul]⟩
  · rw [e, div_top]
    exact ⟨0, rfl⟩

/-- Dividing a product sum by the norm is dividing its vector first. -/
theorem div_sum {n : ℕ} (v u : Fin n → EReal) (hu : ∀ i, Finite (u i)) :
    Ideal.div (∑ i, v i * u i) (scale v) = ∑ i, unit v i * u i := by
  choose s hs using hu
  unfold unit
  rcases scale_cases v with ⟨r, d, hd, hr, e⟩ | e
  · rw [e, div_coe _ hd]
    have h1 : ∑ i, v i * u i = ((∑ i, r i * s i : ℝ) : EReal) := by
      rw [coe_sum]; exact Finset.sum_congr rfl fun i _ => by rw [hr, hs, EReal.coe_mul]
    have h2 : ∑ i, Ideal.div (v i) d * u i = ((∑ i, r i * d⁻¹ * s i : ℝ) : EReal) := by
      rw [coe_sum]; exact Finset.sum_congr rfl fun i _ => by rw [div_coe _ hd, hr, hs, EReal.coe_mul, EReal.coe_mul]
    rw [h1, h2, ← EReal.coe_mul, Finset.sum_mul]
    exact congrArg _ (Finset.sum_congr rfl fun i _ => by ring)
  · rw [e, div_top]
    exact (Finset.sum_eq_zero fun i _ => by rw [div_top, zero_mul]).symm

theorem Given.sims_finite (g : Given) (n : Fin 8192) : Finite (g.sims n) :=
  Finite.sum fun d => (unit_finite _ d).mul (unit_finite _ d)

/-- Finite values taken away and added back. -/
theorem sub_add_finite (a : EReal) {x : EReal} (h : Finite x) : a - x + x = a := by
  obtain ⟨r, rfl⟩ := h
  induction a with
  | bot => simp
  | top => rfl
  | coe a => rw [← EReal.coe_sub, ← EReal.coe_add, sub_add_cancel]

/-- The softmax of finite scores is finite. -/
theorem softmax_finite {n : ℕ} [NeZero n] (t : Fin n → EReal) (h : ∀ i, Finite (t i)) (M : EReal) (hM : ∃ i, M = t i) (k : Fin n) :
    Finite (Ideal.div (Ideal.exp (t k - M)) (∑ i, Ideal.exp (t i - M))) := by
  choose r hr using h
  obtain ⟨i, rfl⟩ := hM
  have he : ∀ j, Ideal.exp (t j - t i) = ((Real.exp (r j - r i) : ℝ) : EReal) := fun j => by
    rw [hr, hr, ← EReal.coe_sub]; rfl
  have hs : ∑ j, Ideal.exp (t j - t i) = ((∑ j, Real.exp (r j - r i) : ℝ) : EReal) := by
    rw [coe_sum]; exact Finset.sum_congr rfl fun j _ => he j
  rw [hs, he, div_coe _ (Finset.sum_pos (fun j _ => Real.exp_pos _) ⟨i, Finset.mem_univ i⟩)]
  exact ⟨_, (EReal.coe_mul _ _).symm⟩

/-! ### Picking out -/

/-- Small words are equal when the numbers are. -/
theorem select_eq {α : Type} {a b : ℕ} (ha : a < 2 ^ 32) (hb : b < 2 ^ 32) (x y : α) :
    Scalar.select (IntOp.cmpi .eq (BitVec.ofNat 32 a) (BitVec.ofNat 32 b)) x y = if a = b then x else y := by
  have h : (BitVec.ofNat 32 a = BitVec.ofNat 32 b) ↔ a = b :=
    ⟨fun e => by have := congrArg BitVec.toNat e; rwa [BitVec.toNat_ofNat, BitVec.toNat_ofNat, Nat.mod_eq_of_lt ha, Nat.mod_eq_of_lt hb] at this, fun e => by rw [e]⟩
  by_cases e : a = b
  · rw [if_pos e]; subst e; simp [Scalar.select, IntOp.cmpi]
  · have hb : (BitVec.ofNat 32 a == BitVec.ofNat 32 b) = false := beq_eq_false_iff_ne.mpr fun e' => e (h.mp e')
    rw [if_neg e]; simp [Scalar.select, IntOp.cmpi, hb]

/-- A sum of which a selection leaves one term. -/
theorem sum_select {n : ℕ} (hn : n ≤ 2 ^ 32) (k : Fin n) (f : Fin n → EReal) :
    ∑ x : Fin n, Scalar.select (IntOp.cmpi .eq (BitVec.ofNat 32 x.val) (BitVec.ofNat 32 k.val)) (f x) 0 = f k := by
  rw [Finset.sum_eq_single k]
  · rw [select_eq (by omega) (by omega), if_pos rfl]
  · intro x _ hx
    rw [select_eq (by omega) (by omega), if_neg fun e => hx (Fin.ext e)]
  · exact fun h => absurd (Finset.mem_univ k) h

theorem sum_select' {n : ℕ} (hn : n ≤ 2 ^ 32) (k : Fin n) (f : Fin n → EReal) :
    ∑ x : Fin n, Scalar.select (IntOp.cmpi .eq (BitVec.ofNat 32 k.val) (BitVec.ofNat 32 x.val)) (f x) 0 = f k :=
  (Finset.sum_congr rfl fun x _ => by
    rw [select_eq (by omega) (by omega), select_eq (by omega) (by omega)]; simp only [eq_comm]).trans (sum_select hn k f)

/-- A choice among three by two comparisons. -/
theorem select_pick3 {α : Type} (a b c : α) (i : Fin 3) :
    Scalar.select (IntOp.cmpi .eq (BitVec.ofNat 32 i.val) 0#32) a (Scalar.select (IntOp.cmpi .eq (BitVec.ofNat 32 i.val) 1#32) b c) = pick3 a b c i := by
  fin_cases i <;> rfl

/-- A maximum does not mind a leading axis of one. -/
theorem fold_max_swap {ι κ : Type} [Fintype ι] [Fintype κ] (p : ι → κ) (hp : Function.Surjective p) (b : EReal) (f : κ → EReal) :
    Finset.fold max b (fun i => f (p i)) Finset.univ = Finset.fold max b f Finset.univ := by
  refine le_antisymm ?_ ?_
  · refine (Finset.fold_max_le _).mpr ⟨(Finset.le_fold_max _).mpr (Or.inl le_rfl), fun i _ => (Finset.le_fold_max _).mpr (Or.inr ⟨p i, Finset.mem_univ _, le_rfl⟩)⟩
  · refine (Finset.fold_max_le _).mpr ⟨(Finset.le_fold_max _).mpr (Or.inl le_rfl), fun k _ => ?_⟩
    obtain ⟨i, rfl⟩ := hp k
    exact (Finset.le_fold_max _).mpr (Or.inr ⟨i, Finset.mem_univ _, le_rfl⟩)

end Cert.Plain

end
-- ==== Proof.KernelForms.lean ====
/- The kernel's results over plain families. -/
module

public import proofs.«01_k».proof.Proof.Stored
public import proofs.«01_k».proof.Proof.Plain
public import proofs.«01_k».proof.Proof.Slot

@[expose] public section

set_option maxRecDepth 16384

noncomputable section

namespace Cert.KernelIdeal.Hand

open Cert.KernelIdeal Cert.KernelIdeal.Gen Cert.First Cert.Plain
open Idealize.ShloMosaic Idealize.ShloMosaic.TcCoe Idealize.ShloMosaic.Tactic

/-- The operands without their layouts. -/
def plain (b : Blocks Ideal) : Given where
  act k := b.act (ix2 0 k)
  pfc k := b.pfc (ix2 0 k)
  ctd := b.ctd (ix2 0 0)
  protos n d := b.protos (ix2 n d)
  kW1 j k := b.kpW1 (ix2 j k)
  kB1 j := b.kpB1 (ix2 0 j)
  kW2 j k := b.kpW2 (ix2 j k)
  kB2 j := b.kpB2 (ix2 0 j)
  eps n e d := b.episodes (ix3 n e d)
  tds n e := b.tds (ix2 n e)
  stamps n e := b.stamps (ix2 n e)
  sW1 k i := b.scW1 (ix2 k i)
  sB1 k := b.scB1 (ix2 0 k)
  sW2 k := b.scW2 (ix2 0 k)
  sB2 := b.scB2 (ix2 0 0)
  gW1 k i := b.gW1 (ix2 k i)
  gB1 k := b.gB1 (ix2 0 k)
  gW2 k := b.gW2 (ix2 0 k)
  gB2 := b.gB2 (ix2 0 0)
  rpW l d := b.rpW (ix2 l d)
  rpB l := b.rpB (ix2 0 l)
  rnW r d := b.rnW (ix2 r d)
  rnB r := b.rnB (ix2 0 r)

variable (b : Blocks Ideal)

theorem comb_form (k : Fin 288) (i : Fin 128) : k0_pay2 b.act b.pfc (ix2 k i) = (plain b).comb k := by
  pointwise [k0_pay2]
  unfold Given.comb plain
  split
  · rename_i h
    exact sum_select' (by norm_num) (⟨k.val, h⟩ : Fin 256) fun x => b.act (ix2 0 x)
  · rename_i h
    exact sum_select' (by norm_num) (⟨k.val - 256, by omega⟩ : Fin 32) fun x => b.pfc (ix2 0 x)

/-- A lane of a row computed 128 at a time reads its own row of the matrix. -/
theorem lanes_at {α β : Type} {N n L : ℕ} [NeZero N] (hL : L ≤ N) (g : ((⟨2, ![128, n]⟩ : Shape).Idx → α) → S1x128.Idx → β)
    (f : (Fin n → α) → β) (hg : ∀ X (i : Fin 128), g X (ix2 0 i) = f fun k => X (ix2 i k))
    (W : (⟨2, ![N, n]⟩ : Shape).Idx → α) (j : Fin L) :
    lanes (L := L) g W (ix2 0 j) = f fun k => W (ix2 ⟨j.val, by omega⟩ k) := by
  unfold lanes
  rw [hg]
  refine congrArg f (funext fun k => congrArg W (funext fun a => ?_))
  fin_cases a
  · refine Fin.ext ?_
    have := j.isLt
    show (128 * (j.val / 128) + j.val % 128) % N = j.val
    rw [Nat.div_add_mod, Nat.mod_eq_of_lt (by omega)]
  · rfl

theorem hidden_form (j : Fin 512) : max (b.hidden (ix2 0 j) + b.kpB1 (ix2 0 j)) 0 = (plain b).hid j := by
  have h := lanes_at (le_refl 512) (k0_pay5 (F := Ideal) (k0_pay2 b.act b.pfc)) (fun w => ∑ k, w k * (plain b).comb k)
    (fun X i => by
      pointwise [k0_pay5]
      rw [sum_select (by norm_num)]
      exact Finset.sum_congr rfl fun k _ => by rw [comb_form]) b.kpW1 j
  unfold Blocks.hidden
  rw [h]
  unfold Given.hid
  refine congrArg (fun x => max (x + _) 0) (Finset.sum_congr rfl fun k _ => mul_comm _ _)

theorem key_form (j : Fin 256) : b.key (ix2 0 j) + b.kpB2 (ix2 0 j) = (plain b).key j := by
  have h := lanes_at (le_refl 256) (k0_pay10 (F := Ideal) b.hidden b.kpB1) (fun w => ∑ k, w k * (plain b).hid k)
    (fun X i => by
      pointwise [k0_pay10, k0_pay9]
      rw [sum_select (by norm_num)]
      exact Finset.sum_congr rfl fun k _ => by rw [sum_select' (by norm_num), hidden_form]) b.kpW2 j
  unfold Blocks.key
  rw [h]
  unfold Given.key
  refine congrArg (· + _) (Finset.sum_congr rfl fun k _ => mul_comm _ _)

theorem unit_form (d : Fin 256) (i : Fin 128) : k0_pay15 b.key b.kpB2 (ix2 d i) = unit (plain b).key d := by
  have h : ∀ x, (plain b).key x = b.key (ix2 0 x) + b.kpB2 (ix2 0 x) := fun x => (key_form b x).symm
  unfold unit scale squares
  simp only [h]
  pointwise [k0_pay15]
  exact sum_select' (by norm_num) d fun x => Ideal.div (b.key (ix2 0 x) + b.kpB2 (ix2 0 x)) _

/-- A row's lane: the product of the unit key with the prototype, over the prototype's norm. -/
theorem lane_form (kn : FVec Ideal S256x128 .f32) (u : Fin 256 → EReal) (hu : ∀ d i, kn (ix2 d i) = u d) (X : Vec Ideal S128x256 .f32) (i : Fin 128) :
    k0_pay19 (F := Ideal) kn k0_pay16 k0_pay17 k0_pay18 X (ix2 0 i) = Ideal.div (∑ d, X (ix2 i d) * u d) (scale fun d => X (ix2 i d)) := by
  unfold scale squares
  pointwise [k0_pay19, k0_pay16, k0_pay17, k0_pay18]
  rw [sum_select (by norm_num), sum_select (by norm_num)]
  simp only [hu]
  rfl

/-- The similarities, in a row. -/
theorem sims_form : rowOf b.sims = (plain b).sims := by
  funext n
  refine (lane_form _ (unit (plain b).key) (unit_form b) (chunk b.protos ⟨n.val / 128, by omega⟩) ⟨n.val % 128, by omega⟩).trans ?_
  have e : (fun d => chunk b.protos ⟨n.val / 128, by omega⟩ (ix2 (⟨n.val % 128, by omega⟩ : Fin 128) d)) = (plain b).protos n := by
    funext d
    refine congrArg b.protos (funext fun a => ?_)
    fin_cases a
    · exact Fin.ext (by show 128 * (n.val / 128) + n.val % 128 = n.val; omega)
    · rfl
  exact (div_sum _ _ fun d => unit_finite _ d).trans (by rw [e]; rfl)

/-- The slot's word names the slot. -/
theorem slot_form : b.slot = BitVec.ofNat 32 (plain b).slot.val ∧ k0_pay126 b.sims = (plain b).sims (plain b).slot := by
  obtain ⟨k, h1, h2, h3⟩ := slot_first b.sims
  rw [sims_form] at h1 h2
  have e : (plain b).slot = k := first_eq h1
  rw [e]
  exact ⟨h3, h2.symm⟩

theorem slot_row : Fin.ofNat 8192 b.slot.toNat = (plain b).slot := by
  rw [(slot_form b).1]
  refine Fin.ext ?_
  have := (plain b).slot.isLt
  show (BitVec.ofNat 32 (plain b).slot.val).toNat % 8192 = _
  rw [BitVec.toNat_ofNat]
  omega

theorem eps_form (e : Fin 8) (d : Fin 44) : b.eps (ix2 e d) = (plain b).eps (plain b).slot e d := by
  unfold Blocks.eps
  rw [slot_row]
  rfl

theorem td_form (e : Fin 8) : b.td (ix2 0 e) = (plain b).tds (plain b).slot e := by
  unfold Blocks.td
  rw [slot_row]
  rfl

theorem ts_form (e : Fin 8) : b.ts (ix2 0 e) = (plain b).stamps (plain b).slot e := by
  unfold Blocks.ts
  rw [slot_row]
  rfl

theorem epSim_form (e : Fin 8) : k0_pay130 b.pfc b.eps (ix2 e 0) = (plain b).epSim e := by
  pointwise [k0_pay130]
  simp only [eps_form]
  rfl

theorem tdColumn_form (e : Fin 8) : k0_pay131 b.td (ix2 e 0) = (plain b).tds (plain b).slot e := by
  pointwise [k0_pay131]
  rw [sum_select' (by norm_num)]
  exact td_form b e

theorem mag_form (e : Fin 8) (i : Fin 3) : k0_pay136 b.td (ix2 e i) = max (mag ((plain b).tds (plain b).slot e)) (Ideal.ofBits FTy.f32 897988541#32) := by
  pointwise [k0_pay136, k0_pay132, tdColumn_form]
  rfl

theorem recency_form (e : Fin 8) (i : Fin 3) : k0_pay137 b.ts (ix2 e i) = (plain b).recency e := by
  pointwise [k0_pay137]
  rw [sum_select' (by norm_num), ofBits_negInf]
  simp only [ts_form]
  show 1 - Ideal.div ((plain b).age e) (max (Finset.fold max ⊥ (fun x : Fin 1 × Fin 8 => (plain b).age x.2) Finset.univ) 1) = _
  rw [fold_max_swap (fun x : Fin 1 × Fin 8 => x.2) (fun k => ⟨(0, k), rfl⟩) ⊥ (plain b).age]
  rfl

/-- The mask of the episode picked. -/
theorem mask_form (e : Fin 8) :
    k0_pay138 k0_pay132 k0_pay133 (k0_pay134 (k0_pay130 b.pfc b.eps)) k0_pay135 (k0_pay136 b.td) (k0_pay137 b.ts) b.scW1 b.scB1 b.scW2 b.scB2 (ix2 e 0)
      = IntOp.cmpi .eq (BitVec.ofNat 32 e.val) (BitVec.ofNat 32 (plain b).best.val) := by
  have hr : ∀ x : Fin 8, ∑ k, max (∑ i, pick3 ((plain b).epSim x) (max (mag ((plain b).tds (plain b).slot x)) (Ideal.ofBits FTy.f32 897988541#32))
      ((plain b).recency x) i * b.scW1 (ix2 k i) + b.scB1 (ix2 0 k)) 0 * b.scW2 (ix2 0 k) + b.scB2 (ix2 0 0) = (plain b).rel x := fun x => rfl
  pointwise [k0_pay138, k0_pay132, k0_pay133, k0_pay134, k0_pay135]
  rw [ofBits_negInf]
  simp only [epSim_form, mag_form, recency_form, select_pick3, hr]
  obtain ⟨hM, k, hat⟩ := fold_max_spec (plain b).rel
  obtain ⟨k, h1, -, h3⟩ := fold_first (by norm_num) (plain b).rel (fun x : Fin 8 × Fin 1 => x.1) (fun k => ⟨(k, 0), rfl⟩) _ hM ⟨k, hat⟩
  rw [fold_max_swap (fun x : Fin 8 × Fin 1 => x.1) (fun k => ⟨(k, 0), rfl⟩) ⊥ (plain b).rel, h3]
  unfold Given.best
  rw [first_eq h1]

theorem content_form (d : Fin 44) : b.content (ix2 0 d) = (plain b).content d := by
  unfold Blocks.content
  pointwise [k0_pay139]
  simp only [mask_form, eps_form]
  exact sum_select (by norm_num) (plain b).best fun x => (plain b).eps (plain b).slot x d

theorem bestTd_form (e : Fin 8) : b.bestTd (ix3 0 e 0) =
    Scalar.select (IntOp.cmpi .eq (BitVec.ofNat 32 e.val) (BitVec.ofNat 32 (plain b).best.val)) ((plain b).tds (plain b).slot e) 0 := by
  unfold Blocks.bestTd
  pointwise [k0_pay140]
  rw [mask_form, tdColumn_form]

theorem gate_form : k0_pay141 (k0_pay126 b.sims) b.bestTd b.ctd b.gW1 b.gB1 b.gW2 b.gB2 = (plain b).alpha := by
  have hr : ∀ k, Ideal.tanh (∑ i, pick3 ((plain b).sims (plain b).slot) (mag (b.ctd (ix2 0 0))) ((plain b).tds (plain b).slot (plain b).best) i
      * b.gW1 (ix2 k i) + b.gB1 (ix2 0 k)) = (plain b).gate k := fun k => rfl
  have ht : ∑ x : Fin 8, ∑ y : Fin 1, b.bestTd (ix3 0 x y) = (plain b).tds (plain b).slot (plain b).best := by
    simp only [Fin.sum_univ_one, Fin.isValue, bestTd_form]
    exact sum_select (by norm_num) (plain b).best fun x => (plain b).tds (plain b).slot x
  pointwise [k0_pay141]
  rw [ht, (slot_form b).2]
  simp only [select_pick3, Fin.sum_univ_one]
  rfl

theorem alpha_form : b.alpha (ix2 0 0) = (plain b).alpha := by
  unfold Blocks.alpha
  pointwise [k0_pay142]
  rw [gate_form]

theorem newPfc_form (l : Fin 32) : b.newPfc (ix2 0 l) = (plain b).newPfc l := by
  unfold Blocks.newPfc
  pointwise [k0_pay143]
  rw [gate_form]
  simp only [content_form]
  rfl

theorem rates_form (r : Fin 12) : b.rates (ix2 0 r) = (plain b).rate (if r.val < 8 then 1 else Ideal.ofBits FTy.f32 1056964608#32) r := by
  unfold Blocks.rates
  pointwise [k0_pay1]
  simp only [content_form]
  unfold Given.rate
  refine congrArg (min · _) ?_
  fin_cases r <;> rfl

/-- A comparison's outcome as a number. -/
theorem indicator {n : ℕ} (hn : n ≤ 2 ^ 32) (j k : Fin n) :
    (FloatOps.sitofp .f32 (BitVec.setWidth 32 (IntOp.cmpi .eq (BitVec.ofNat 32 j.val) (BitVec.ofNat 32 k.val))) : Ideal .f32)
      = if j = k then 1 else 0 := by
  by_cases e : j = k
  · subst e; rw [if_pos rfl]
    have h : IntOp.cmpi .eq (BitVec.ofNat 32 j.val) (BitVec.ofNat 32 j.val) = 1#1 := by simp [IntOp.cmpi]
    rw [h]
    show (((BitVec.setWidth 32 1#1).toInt : ℝ) : EReal) = 1
    norm_num
  · rw [if_neg e]
    have h : IntOp.cmpi .eq (BitVec.ofNat 32 j.val) (BitVec.ofNat 32 k.val) = 0#1 := by
      have hb : (BitVec.ofNat 32 j.val == BitVec.ofNat 32 k.val) = false := beq_eq_false_iff_ne.mpr fun h => e (Fin.ext (by
        have := congrArg BitVec.toNat h
        rwa [BitVec.toNat_ofNat, BitVec.toNat_ofNat, Nat.mod_eq_of_lt (by omega), Nat.mod_eq_of_lt (by omega)] at this))
      simp [IntOp.cmpi, hb]
    rw [h]
    show (((BitVec.setWidth 32 0#1).toInt : ℝ) : EReal) = 0
    norm_num

theorem pick_form (p : Fin 64 × Fin 128) : b.pick (ix2 p.1 p.2) = (plain b).oneHot (flat p) := by
  unfold Blocks.pick
  pointwise [k0_pay129, k0_pay127]
  have h : k0_pay128 b.sims (ix3 0 0 0) = BitVec.ofNat 32 (plain b).slot.val := (slot_form b).1
  rw [place_word, h]
  exact indicator (by norm_num) (flat p) (plain b).slot

end Cert.KernelIdeal.Hand

end
-- ==== Proof.Results.lean ====
/- The four results a grid point stores, as the block functions of the arrays it reads. -/
module

public import proofs.«01_k».proof.Proof.LaunchData
public import proofs.«01_k».proof.Proof.Stored

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The gate, before it is written out. -/
def Blocks.gate (b : Blocks F) := k0_pay141 (k0_pay126 b.sims) b.bestTd b.ctd b.gW1 b.gB1 b.gW2 b.gB2

/-- The values the tail shares. -/
theorem load_r_46 (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg47 : Memref sig .tc .vmem S64x128 .f32) (arg48 : Memref sig .tc .vmem S1x512 .f32) (arg49 : Memref sig .tc .vmem S1x256 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.r_46 c arg27 arg28 arg29 arg30 arg31 arg33 arg34 arg47 arg48 arg49 fh0 fh1 fh2 fh4 fh5 fh6 fh7) = k0_pay126 (Blocks.sims (⟨fh0, fh1, fh2, fh3, fh4, fh5, fh6, fh7, fh8, fh9, fh10, fh11, fh12, fh13, fh14, fh15, fh16, fh17, fh18, fh19, fh20, fh21, fh22⟩ : Blocks F)) := by
  unfold bodyRun.sl.r_46
  rw [load_v1433 c arg27 arg28 arg29 arg30 arg31 arg33 arg34 arg47 arg48 arg49 fh0 fh1 fh2 fh3 fh4 fh5 fh6 fh7 fh8 fh9 fh10 fh11 fh12 fh13 fh14 fh15 fh16 fh17 fh18 fh19 fh20 fh21 fh22]

theorem load_r_47 (hchk : SlotInRange (F := F)) (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg47 : Memref sig .tc .vmem S64x128 .f32) (arg48 : Memref sig .tc .vmem S1x512 .f32) (arg49 : Memref sig .tc .vmem S1x256 .f32) (arg50 : Memref sig .tc .vmem S8x44 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.r_47 hchk c arg27 arg28 arg29 arg30 arg31 arg33 arg34 arg47 arg48 arg49 arg50 fh0 fh1 fh2 fh4 fh5 fh6 fh7 fh20) = k0_pay130 (Blocks.pfc (⟨fh0, fh1, fh2, fh3, fh4, fh5, fh6, fh7, fh8, fh9, fh10, fh11, fh12, fh13, fh14, fh15, fh16, fh17, fh18, fh19, fh20, fh21, fh22⟩ : Blocks F)) (Blocks.eps (⟨fh0, fh1, fh2, fh3, fh4, fh5, fh6, fh7, fh8, fh9, fh10, fh11, fh12, fh13, fh14, fh15, fh16, fh17, fh18, fh19, fh20, fh21, fh22⟩ : Blocks F)) := by
  unfold bodyRun.sl.r_47
  rw [load_v141, load_v1476 hchk c arg27 arg28 arg29 arg30 arg31 arg33 arg34 arg47 arg48 arg49 arg50 fh0 fh1 fh2 fh3 fh4 fh5 fh6 fh7 fh8 fh9 fh10 fh11 fh12 fh13 fh14 fh15 fh16 fh17 fh18 fh19 fh20 fh21 fh22]

theorem load_r_48 (hchk : SlotInRange (F := F)) (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg47 : Memref sig .tc .vmem S64x128 .f32) (arg48 : Memref sig .tc .vmem S1x512 .f32) (arg49 : Memref sig .tc .vmem S1x256 .f32) (arg51 : Memref sig .tc .vmem S1x8 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.r_48 hchk c arg27 arg28 arg29 arg30 arg31 arg33 arg34 arg47 arg48 arg49 arg51 fh0 fh1 fh2 fh4 fh5 fh6 fh7 fh21) = k0_pay131 (Blocks.td (⟨fh0, fh1, fh2, fh3, fh4, fh5, fh6, fh7, fh8, fh9, fh10, fh11, fh12, fh13, fh14, fh15, fh16, fh17, fh18, fh19, fh20, fh21, fh22⟩ : Blocks F)) := by
  unfold bodyRun.sl.r_48
  rw [load_v1498 hchk c arg27 arg28 arg29 arg30 arg31 arg33 arg34 arg47 arg48 arg49 arg51 fh0 fh1 fh2 fh3 fh4 fh5 fh6 fh7 fh8 fh9 fh10 fh11 fh12 fh13 fh14 fh15 fh16 fh17 fh18 fh19 fh20 fh21 fh22]

theorem load_r_49 (hchk : SlotInRange (F := F)) (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg47 : Memref sig .tc .vmem S64x128 .f32) (arg48 : Memref sig .tc .vmem S1x512 .f32) (arg49 : Memref sig .tc .vmem S1x256 .f32) (arg50 : Memref sig .tc .vmem S8x44 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.r_49 hchk c arg27 arg28 arg29 arg30 arg31 arg33 arg34 arg47 arg48 arg49 arg50 fh0 fh1 fh2 fh4 fh5 fh6 fh7 fh20) = k0_pay134 (k0_pay130 (Blocks.pfc (⟨fh0, fh1, fh2, fh3, fh4, fh5, fh6, fh7, fh8, fh9, fh10, fh11, fh12, fh13, fh14, fh15, fh16, fh17, fh18, fh19, fh20, fh21, fh22⟩ : Blocks F)) (Blocks.eps (⟨fh0, fh1, fh2, fh3, fh4, fh5, fh6, fh7, fh8, fh9, fh10, fh11, fh12, fh13, fh14, fh15, fh16, fh17, fh18, fh19, fh20, fh21, fh22⟩ : Blocks F))) := by
  unfold bodyRun.sl.r_49
  rw [load_r_47 hchk c arg27 arg28 arg29 arg30 arg31 arg33 arg34 arg47 arg48 arg49 arg50 fh0 fh1 fh2 fh3 fh4 fh5 fh6 fh7 fh8 fh9 fh10 fh11 fh12 fh13 fh14 fh15 fh16 fh17 fh18 fh19 fh20 fh21 fh22]

theorem load_r_50 (hchk : SlotInRange (F := F)) (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg47 : Memref sig .tc .vmem S64x128 .f32) (arg48 : Memref sig .tc .vmem S1x512 .f32) (arg49 : Memref sig .tc .vmem S1x256 .f32) (arg51 : Memref sig .tc .vmem S1x8 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.r_50 hchk c arg27 arg28 arg29 arg30 arg31 arg33 arg34 arg47 arg48 arg49 arg51 fh0 fh1 fh2 fh4 fh5 fh6 fh7 fh21) = k0_pay136 (Blocks.td (⟨fh0, fh1, fh2, fh3, fh4, fh5, fh6, fh7, fh8, fh9, fh10, fh11, fh12, fh13, fh14, fh15, fh16, fh17, fh18, fh19, fh20, fh21, fh22⟩ : Blocks F)) := by
  unfold bodyRun.sl.r_50
  rw [load_v1498 hchk c arg27 arg28 arg29 arg30 arg31 arg33 arg34 arg47 arg48 arg49 arg51 fh0 fh1 fh2 fh3 fh4 fh5 fh6 fh7 fh8 fh9 fh10 fh11 fh12 fh13 fh14 fh15 fh16 fh17 fh18 fh19 fh20 fh21 fh22]

theorem load_r_51 (hchk : SlotInRange (F := F)) (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg47 : Memref sig .tc .vmem S64x128 .f32) (arg48 : Memref sig .tc .vmem S1x512 .f32) (arg49 : Memref sig .tc .vmem S1x256 .f32) (arg52 : Memref sig .tc .vmem S1x8 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.r_51 hchk c arg27 arg28 arg29 arg30 arg31 arg33 arg34 arg47 arg48 arg49 arg52 fh0 fh1 fh2 fh4 fh5 fh6 fh7 fh22) = k0_pay137 (Blocks.ts (⟨fh0, fh1, fh2, fh3, fh4, fh5, fh6, fh7, fh8, fh9, fh10, fh11, fh12, fh13, fh14, fh15, fh16, fh17, fh18, fh19, fh20, fh21, fh22⟩ : Blocks F)) := by
  unfold bodyRun.sl.r_51
  rw [load_v1499 hchk c arg27 arg28 arg29 arg30 arg31 arg33 arg34 arg47 arg48 arg49 arg52 fh0 fh1 fh2 fh3 fh4 fh5 fh6 fh7 fh8 fh9 fh10 fh11 fh12 fh13 fh14 fh15 fh16 fh17 fh18 fh19 fh20 fh21 fh22]

theorem load_r_52 (hchk : SlotInRange (F := F)) (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg35 : Memref sig .tc .vmem S8x3 .f32) (arg36 : Memref sig .tc .vmem S1x8 .f32) (arg37 : Memref sig .tc .vmem S1x8 .f32) (arg38 : Memref sig .tc .vmem S1x1 .f32) (arg47 : Memref sig .tc .vmem S64x128 .f32) (arg48 : Memref sig .tc .vmem S1x512 .f32) (arg49 : Memref sig .tc .vmem S1x256 .f32) (arg50 : Memref sig .tc .vmem S8x44 .f32) (arg51 : Memref sig .tc .vmem S1x8 .f32) (arg52 : Memref sig .tc .vmem S1x8 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.r_52 hchk c arg27 arg28 arg29 arg30 arg31 arg33 arg34 arg35 arg36 arg37 arg38 arg47 arg48 arg49 arg50 arg51 arg52 fh0 fh1 fh2 fh4 fh5 fh6 fh7 fh8 fh9 fh10 fh11 fh20 fh21 fh22) = Blocks.content (⟨fh0, fh1, fh2, fh3, fh4, fh5, fh6, fh7, fh8, fh9, fh10, fh11, fh12, fh13, fh14, fh15, fh16, fh17, fh18, fh19, fh20, fh21, fh22⟩ : Blocks F) := by
  unfold bodyRun.sl.r_52
  rw [load_v1476 hchk c arg27 arg28 arg29 arg30 arg31 arg33 arg34 arg47 arg48 arg49 arg50 fh0 fh1 fh2 fh3 fh4 fh5 fh6 fh7 fh8 fh9 fh10 fh11 fh12 fh13 fh14 fh15 fh16 fh17 fh18 fh19 fh20 fh21 fh22, load_r_49 hchk c arg27 arg28 arg29 arg30 arg31 arg33 arg34 arg47 arg48 arg49 arg50 fh0 fh1 fh2 fh3 fh4 fh5 fh6 fh7 fh8 fh9 fh10 fh11 fh12 fh13 fh14 fh15 fh16 fh17 fh18 fh19 fh20 fh21 fh22, load_r_50 hchk c arg27 arg28 arg29 arg30 arg31 arg33 arg34 arg47 arg48 arg49 arg51 fh0 fh1 fh2 fh3 fh4 fh5 fh6 fh7 fh8 fh9 fh10 fh11 fh12 fh13 fh14 fh15 fh16 fh17 fh18 fh19 fh20 fh21 fh22, load_r_51 hchk c arg27 arg28 arg29 arg30 arg31 arg33 arg34 arg47 arg48 arg49 arg52 fh0 fh1 fh2 fh3 fh4 fh5 fh6 fh7 fh8 fh9 fh10 fh11 fh12 fh13 fh14 fh15 fh16 fh17 fh18 fh19 fh20 fh21 fh22, load_v1546, load_v1548, load_v1553, load_v1558]
  rfl

theorem load_r_53 (hchk : SlotInRange (F := F)) (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg33 : Memref sig .tc .vmem S1x512 .f32) (arg34 : Memref sig .tc .vmem S1x256 .f32) (arg35 : Memref sig .tc .vmem S8x3 .f32) (arg36 : Memref sig .tc .vmem S1x8 .f32) (arg37 : Memref sig .tc .vmem S1x8 .f32) (arg38 : Memref sig .tc .vmem S1x1 .f32) (arg47 : Memref sig .tc .vmem S64x128 .f32) (arg48 : Memref sig .tc .vmem S1x512 .f32) (arg49 : Memref sig .tc .vmem S1x256 .f32) (arg50 : Memref sig .tc .vmem S8x44 .f32) (arg51 : Memref sig .tc .vmem S1x8 .f32) (arg52 : Memref sig .tc .vmem S1x8 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.r_53 hchk c arg27 arg28 arg29 arg30 arg31 arg33 arg34 arg35 arg36 arg37 arg38 arg47 arg48 arg49 arg50 arg51 arg52 fh0 fh1 fh2 fh4 fh5 fh6 fh7 fh8 fh9 fh10 fh11 fh20 fh21 fh22) = Blocks.bestTd (⟨fh0, fh1, fh2, fh3, fh4, fh5, fh6, fh7, fh8, fh9, fh10, fh11, fh12, fh13, fh14, fh15, fh16, fh17, fh18, fh19, fh20, fh21, fh22⟩ : Blocks F) := by
  unfold bodyRun.sl.r_53
  rw [load_r_48 hchk c arg27 arg28 arg29 arg30 arg31 arg33 arg34 arg47 arg48 arg49 arg51 fh0 fh1 fh2 fh3 fh4 fh5 fh6 fh7 fh8 fh9 fh10 fh11 fh12 fh13 fh14 fh15 fh16 fh17 fh18 fh19 fh20 fh21 fh22, load_r_49 hchk c arg27 arg28 arg29 arg30 arg31 arg33 arg34 arg47 arg48 arg49 arg50 fh0 fh1 fh2 fh3 fh4 fh5 fh6 fh7 fh8 fh9 fh10 fh11 fh12 fh13 fh14 fh15 fh16 fh17 fh18 fh19 fh20 fh21 fh22, load_r_50 hchk c arg27 arg28 arg29 arg30 arg31 arg33 arg34 arg47 arg48 arg49 arg51 fh0 fh1 fh2 fh3 fh4 fh5 fh6 fh7 fh8 fh9 fh10 fh11 fh12 fh13 fh14 fh15 fh16 fh17 fh18 fh19 fh20 fh21 fh22, load_r_51 hchk c arg27 arg28 arg29 arg30 arg31 arg33 arg34 arg47 arg48 arg49 arg52 fh0 fh1 fh2 fh3 fh4 fh5 fh6 fh7 fh8 fh9 fh10 fh11 fh12 fh13 fh14 fh15 fh16 fh17 fh18 fh19 fh20 fh21 fh22, load_v1546, load_v1548, load_v1553, load_v1558]
  rfl

theorem load_r_54 (hchk : SlotInRange (F := F)) (c : Dev nD) (arg27 : Memref sig .tc .vmem S8192x256 .f32) (arg28 : Memref sig .tc .vmem S512x288 .f32) (arg29 : Memref sig .tc .vmem S256x512 .f32) (arg30 : Memref sig .tc .vmem S1x256 .f32) (arg31 : Memref sig .tc .vmem S1x32 .f32) (arg32 : Memref sig .tc .vmem S1x1 .f32) (arg33 : Memref sig .tc .vmem S1x512 .f32) (arg34 : Memref sig .tc .vmem S1x256 .f32) (arg35 : Memref sig .tc .vmem S8x3 .f32) (arg36 : Memref sig .tc .vmem S1x8 .f32) (arg37 : Memref sig .tc .vmem S1x8 .f32) (arg38 : Memref sig .tc .vmem S1x1 .f32) (arg39 : Memref sig .tc .vmem S16x3 .f32) (arg40 : Memref sig .tc .vmem S1x16 .f32) (arg41 : Memref sig .tc .vmem S1x16 .f32) (arg42 : Memref sig .tc .vmem S1x1 .f32) (arg47 : Memref sig .tc .vmem S64x128 .f32) (arg48 : Memref sig .tc .vmem S1x512 .f32) (arg49 : Memref sig .tc .vmem S1x256 .f32) (arg50 : Memref sig .tc .vmem S8x44 .f32) (arg51 : Memref sig .tc .vmem S1x8 .f32) (arg52 : Memref sig .tc .vmem S1x8 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) : (bodyRun.sl.r_54 hchk c arg27 arg28 arg29 arg30 arg31 arg32 arg33 arg34 arg35 arg36 arg37 arg38 arg39 arg40 arg41 arg42 arg47 arg48 arg49 arg50 arg51 arg52 fh0 fh1 fh2 fh3 fh4 fh5 fh6 fh7 fh8 fh9 fh10 fh11 fh12 fh13 fh14 fh15 fh20 fh21 fh22) = Blocks.gate (⟨fh0, fh1, fh2, fh3, fh4, fh5, fh6, fh7, fh8, fh9, fh10, fh11, fh12, fh13, fh14, fh15, fh16, fh17, fh18, fh19, fh20, fh21, fh22⟩ : Blocks F) := by
  unfold bodyRun.sl.r_54
  rw [load_r_46 c arg27 arg28 arg29 arg30 arg31 arg33 arg34 arg47 arg48 arg49 fh0 fh1 fh2 fh3 fh4 fh5 fh6 fh7 fh8 fh9 fh10 fh11 fh12 fh13 fh14 fh15 fh16 fh17 fh18 fh19 fh20 fh21 fh22, load_r_53 hchk c arg27 arg28 arg29 arg30 arg31 arg33 arg34 arg35 arg36 arg37 arg38 arg47 arg48 arg49 arg50 arg51 arg52 fh0 fh1 fh2 fh3 fh4 fh5 fh6 fh7 fh8 fh9 fh10 fh11 fh12 fh13 fh14 fh15 fh16 fh17 fh18 fh19 fh20 fh21 fh22, load_v1588, load_v1605, load_v1607, load_v1610, load_v1616]
  rfl

/-- Result 0. -/
theorem out_newPfc (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) :
    out0_A_0 hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 fh0 fh1 fh2 fh3 fh4 fh5 fh6 fh7 fh8 fh9 fh10 fh11 fh12 fh13 fh14 fh15 fh16 fh17 fh18 fh19 fh20 fh21 fh22 = Blocks.newPfc (⟨fh0, fh1, fh2, fh3, fh4, fh5, fh6, fh7, fh8, fh9, fh10, fh11, fh12, fh13, fh14, fh15, fh16, fh17, fh18, fh19, fh20, fh21, fh22⟩ : Blocks F) := by
  unfold out0_A_0
  refine (View.read_writes_junk_eq_canon _ _).trans ?_
  refine (View.canon_unit_zero (Val := Elt F) (e := .f32) (S := S1x32) (off := ![0, 0]) (funext fun a => by fin_cases a <;> rfl) inb_S1x32_S1x32_0_0 (k0_pay143 (bodyRun.sl.v141 c arg31 fh2) (bodyRun.sl.r_52 hchk c arg27 arg28 arg29 arg30 arg31 arg33 arg34 arg35 arg36 arg37 arg38 arg47 arg48 arg49 arg50 arg51 arg52 fh0 fh1 fh2 fh4 fh5 fh6 fh7 fh8 fh9 fh10 fh11 fh20 fh21 fh22) (bodyRun.sl.r_54 hchk c arg27 arg28 arg29 arg30 arg31 arg32 arg33 arg34 arg35 arg36 arg37 arg38 arg39 arg40 arg41 arg42 arg47 arg48 arg49 arg50 arg51 arg52 fh0 fh1 fh2 fh3 fh4 fh5 fh6 fh7 fh8 fh9 fh10 fh11 fh12 fh13 fh14 fh15 fh20 fh21 fh22) (bodyRun.sl.v1624 c arg43 fh16) (bodyRun.sl.v1626 c arg44 fh17))).trans ?_
  rw [load_v141, load_r_52 hchk c arg27 arg28 arg29 arg30 arg31 arg33 arg34 arg35 arg36 arg37 arg38 arg47 arg48 arg49 arg50 arg51 arg52 fh0 fh1 fh2 fh3 fh4 fh5 fh6 fh7 fh8 fh9 fh10 fh11 fh12 fh13 fh14 fh15 fh16 fh17 fh18 fh19 fh20 fh21 fh22, load_r_54 hchk c arg27 arg28 arg29 arg30 arg31 arg32 arg33 arg34 arg35 arg36 arg37 arg38 arg39 arg40 arg41 arg42 arg47 arg48 arg49 arg50 arg51 arg52 fh0 fh1 fh2 fh3 fh4 fh5 fh6 fh7 fh8 fh9 fh10 fh11 fh12 fh13 fh14 fh15 fh16 fh17 fh18 fh19 fh20 fh21 fh22, load_v1624, load_v1626]
  rfl

/-- Result 1. -/
theorem out_alpha (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) :
    out0_A_1 hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 fh0 fh1 fh2 fh3 fh4 fh5 fh6 fh7 fh8 fh9 fh10 fh11 fh12 fh13 fh14 fh15 fh16 fh17 fh18 fh19 fh20 fh21 fh22 = Blocks.alpha (⟨fh0, fh1, fh2, fh3, fh4, fh5, fh6, fh7, fh8, fh9, fh10, fh11, fh12, fh13, fh14, fh15, fh16, fh17, fh18, fh19, fh20, fh21, fh22⟩ : Blocks F) := by
  unfold out0_A_1
  refine (View.read_writes_junk_eq_canon _ _).trans ?_
  refine (View.canon_unit_zero (Val := Elt F) (e := .f32) (S := S1x1) (off := ![0, 0]) (funext fun a => by fin_cases a <;> rfl) inb_S1x1_S1x1_0_0 (k0_pay142 (bodyRun.sl.r_46 c arg27 arg28 arg29 arg30 arg31 arg33 arg34 arg47 arg48 arg49 fh0 fh1 fh2 fh4 fh5 fh6 fh7) (bodyRun.sl.r_53 hchk c arg27 arg28 arg29 arg30 arg31 arg33 arg34 arg35 arg36 arg37 arg38 arg47 arg48 arg49 arg50 arg51 arg52 fh0 fh1 fh2 fh4 fh5 fh6 fh7 fh8 fh9 fh10 fh11 fh20 fh21 fh22) (bodyRun.sl.v1588 c arg32 fh3) (bodyRun.sl.v1605 c arg39 fh12) (bodyRun.sl.v1607 c arg40 fh13) (bodyRun.sl.v1610 c arg41 fh14) (bodyRun.sl.v1616 c arg42 fh15))).trans ?_
  rw [load_r_46 c arg27 arg28 arg29 arg30 arg31 arg33 arg34 arg47 arg48 arg49 fh0 fh1 fh2 fh3 fh4 fh5 fh6 fh7 fh8 fh9 fh10 fh11 fh12 fh13 fh14 fh15 fh16 fh17 fh18 fh19 fh20 fh21 fh22, load_r_53 hchk c arg27 arg28 arg29 arg30 arg31 arg33 arg34 arg35 arg36 arg37 arg38 arg47 arg48 arg49 arg50 arg51 arg52 fh0 fh1 fh2 fh3 fh4 fh5 fh6 fh7 fh8 fh9 fh10 fh11 fh12 fh13 fh14 fh15 fh16 fh17 fh18 fh19 fh20 fh21 fh22, load_v1588, load_v1605, load_v1607, load_v1610, load_v1616]
  rfl

/-- Result 2. -/
theorem out_rates (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) :
    out0_A_2 hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 fh0 fh1 fh2 fh3 fh4 fh5 fh6 fh7 fh8 fh9 fh10 fh11 fh12 fh13 fh14 fh15 fh16 fh17 fh18 fh19 fh20 fh21 fh22 = Blocks.rates (⟨fh0, fh1, fh2, fh3, fh4, fh5, fh6, fh7, fh8, fh9, fh10, fh11, fh12, fh13, fh14, fh15, fh16, fh17, fh18, fh19, fh20, fh21, fh22⟩ : Blocks F) := by
  unfold out0_A_2
  refine (View.read_writes_junk_eq_canon _ _).trans ?_
  refine (View.canon_unit_zero (Val := Elt F) (e := .f32) (S := S1x12) (off := ![0, 0]) (funext fun a => by fin_cases a <;> rfl) inb_S1x12_S1x12_0_0 (k0_pay1 (bodyRun.sl.r_52 hchk c arg27 arg28 arg29 arg30 arg31 arg33 arg34 arg35 arg36 arg37 arg38 arg47 arg48 arg49 arg50 arg51 arg52 fh0 fh1 fh2 fh4 fh5 fh6 fh7 fh8 fh9 fh10 fh11 fh20 fh21 fh22) (bodyRun.sl.v1632 c arg45 fh18) (bodyRun.sl.v1634 c arg46 fh19))).trans ?_
  rw [load_r_52 hchk c arg27 arg28 arg29 arg30 arg31 arg33 arg34 arg35 arg36 arg37 arg38 arg47 arg48 arg49 arg50 arg51 arg52 fh0 fh1 fh2 fh3 fh4 fh5 fh6 fh7 fh8 fh9 fh10 fh11 fh12 fh13 fh14 fh15 fh16 fh17 fh18 fh19 fh20 fh21 fh22, load_v1632, load_v1634]
  rfl

/-- Result 3. -/
theorem out_pick (hchk : SlotInRange (F := F)) (c : Dev nD) (arg23 : Memref sig .tc .vmem S1x32 .f32) (harg23 : arg23.IsWhole) (arg24 : Memref sig .tc .vmem S1x1 .f32) (harg24 : arg24.IsWhole) (arg25 : Memref sig .tc .vmem S1x12 .f32) (harg25 : arg25.IsWhole) (arg26 : Memref sig .tc .vmem S64x128 .f32) (harg26 : arg26.IsWhole) (arg27 : Memref sig .tc .vmem S8192x256 .f32) (harg27 : arg27.IsWhole) (arg28 : Memref sig .tc .vmem S512x288 .f32) (harg28 : arg28.IsWhole) (arg29 : Memref sig .tc .vmem S256x512 .f32) (harg29 : arg29.IsWhole) (arg30 : Memref sig .tc .vmem S1x256 .f32) (harg30 : arg30.IsWhole) (arg31 : Memref sig .tc .vmem S1x32 .f32) (harg31 : arg31.IsWhole) (arg32 : Memref sig .tc .vmem S1x1 .f32) (harg32 : arg32.IsWhole) (arg33 : Memref sig .tc .vmem S1x512 .f32) (harg33 : arg33.IsWhole) (arg34 : Memref sig .tc .vmem S1x256 .f32) (harg34 : arg34.IsWhole) (arg35 : Memref sig .tc .vmem S8x3 .f32) (harg35 : arg35.IsWhole) (arg36 : Memref sig .tc .vmem S1x8 .f32) (harg36 : arg36.IsWhole) (arg37 : Memref sig .tc .vmem S1x8 .f32) (harg37 : arg37.IsWhole) (arg38 : Memref sig .tc .vmem S1x1 .f32) (harg38 : arg38.IsWhole) (arg39 : Memref sig .tc .vmem S16x3 .f32) (harg39 : arg39.IsWhole) (arg40 : Memref sig .tc .vmem S1x16 .f32) (harg40 : arg40.IsWhole) (arg41 : Memref sig .tc .vmem S1x16 .f32) (harg41 : arg41.IsWhole) (arg42 : Memref sig .tc .vmem S1x1 .f32) (harg42 : arg42.IsWhole) (arg43 : Memref sig .tc .vmem S32x44 .f32) (harg43 : arg43.IsWhole) (arg44 : Memref sig .tc .vmem S1x32 .f32) (harg44 : arg44.IsWhole) (arg45 : Memref sig .tc .vmem S12x44 .f32) (harg45 : arg45.IsWhole) (arg46 : Memref sig .tc .vmem S1x12 .f32) (harg46 : arg46.IsWhole) (arg47 : Memref sig .tc .vmem S64x128 .f32) (harg47 : arg47.IsWhole) (arg48 : Memref sig .tc .vmem S1x512 .f32) (harg48 : arg48.IsWhole) (arg49 : Memref sig .tc .vmem S1x256 .f32) (harg49 : arg49.IsWhole) (arg50 : Memref sig .tc .vmem S8x44 .f32) (harg50 : arg50.IsWhole) (arg51 : Memref sig .tc .vmem S1x8 .f32) (harg51 : arg51.IsWhole) (arg52 : Memref sig .tc .vmem S1x8 .f32) (harg52 : arg52.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) :
    out0_A_3 hchk c arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 fh0 fh1 fh2 fh3 fh4 fh5 fh6 fh7 fh8 fh9 fh10 fh11 fh12 fh13 fh14 fh15 fh16 fh17 fh18 fh19 fh20 fh21 fh22 = Blocks.pick (⟨fh0, fh1, fh2, fh3, fh4, fh5, fh6, fh7, fh8, fh9, fh10, fh11, fh12, fh13, fh14, fh15, fh16, fh17, fh18, fh19, fh20, fh21, fh22⟩ : Blocks F) := by
  unfold out0_A_3
  refine (View.read_writes_junk_eq_canon _ _).trans ?_
  refine (View.canon_unit_zero (Val := Elt F) (e := .f32) (S := S64x128) (off := ![0, 0]) (funext fun a => by fin_cases a <;> rfl) inb_S64x128_S64x128_0_0 (k0_pay129 (bodyRun.sl.v1433 c arg27 arg28 arg29 arg30 arg31 arg33 arg34 arg47 arg48 arg49 fh0 fh1 fh2 fh4 fh5 fh6 fh7))).trans ?_
  rw [load_v1433 c arg27 arg28 arg29 arg30 arg31 arg33 arg34 arg47 arg48 arg49 fh0 fh1 fh2 fh3 fh4 fh5 fh6 fh7 fh8 fh9 fh10 fh11 fh12 fh13 fh14 fh15 fh16 fh17 fh18 fh19 fh20 fh21 fh22]
  rfl

end Cert.KernelIdeal.Hand

end
-- ==== Proof.KernelValue.lean ====
/- The kernel program's result: the four results joined, as functions of the arrays at launch. -/
module

public import proofs.«01_k».proof.Proof.Results
public import proofs.«01_k».proof.Proof.Slot
public import Idealize.ShloMosaic.Lib.Pipeline.ValueKit.Geometry
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The arrays the body reads, as the launch finds them. -/
def found (c : Dev nD) : Blocks Ideal :=
  ⟨V m c main_arg3, V m c main_v0, V m c main_arg1, V m c main_v1, V m c main_arg5, V m c main_v2, V m c main_arg7, V m c main_v3, V m c main_arg12, V m c main_v4, V m c main_arg14, V m c main_v5, V m c main_arg16, V m c main_v6, V m c main_arg18, V m c main_v7, V m c main_arg20, V m c main_v8, V m c main_arg22, V m c main_v9, V m c main_arg9, V m c main_arg10, V m c main_arg11⟩

/-- The one grid point. -/
def point : Fin cfg0.N := ⟨0, by decide +kernel⟩

/-- Result 0 after the launch. -/
theorem array_newPfc (c : Dev nD) : (dats m slot_in_range 0 c).arrAt 0 cfg0.N = (found m c).newPfc := by
  funext i
  refine (Pipeline.Dat.arrAt_emb_eq_after_last (dats m slot_in_range 0 c) 0 point (by decide +kernel) i).trans ?_
  rw [after0_0]
  unfold outsAt0
  dsimp only
  rw [out_newPfc]
  rfl

/-- Result 1 after the launch. -/
theorem array_alpha (c : Dev nD) : (dats m slot_in_range 0 c).arrAt 1 cfg0.N = (found m c).alpha := by
  funext i
  refine (Pipeline.Dat.arrAt_emb_eq_after_last (dats m slot_in_range 0 c) 1 point (by decide +kernel) i).trans ?_
  rw [after0_1]
  unfold outsAt0
  dsimp only
  rw [out_alpha]
  rfl

/-- Result 2 after the launch. -/
theorem array_rates (c : Dev nD) : (dats m slot_in_range 0 c).arrAt 2 cfg0.N = (found m c).rates := by
  funext i
  refine (Pipeline.Dat.arrAt_emb_eq_after_last (dats m slot_in_range 0 c) 2 point (by decide +kernel) i).trans ?_
  rw [after0_2]
  unfold outsAt0
  dsimp only
  rw [out_rates]
  rfl

/-- Result 3 after the launch. -/
theorem array_pick (c : Dev nD) : (dats m slot_in_range 0 c).arrAt 3 cfg0.N = (found m c).pick := by
  funext i
  refine (Pipeline.Dat.arrAt_emb_eq_after_last (dats m slot_in_range 0 c) 3 point (by decide +kernel) i).trans ?_
  rw [after0_3]
  unfold outsAt0
  dsimp only
  rw [out_pick]
  rfl

/-- The four results, flattened and joined. -/
def joined (b : Blocks Ideal) : Vec Ideal S8237 .f32 :=
  concatenate S8237 0 [⟨S32, shapeCast S32 b.newPfc shapeCasts_S1x32_S32⟩, ⟨S1, shapeCast S1 b.alpha shapeCasts_S1x1_S1⟩,
    ⟨S8192, shapeCast S8192 b.pick shapeCasts_S64x128_S8192⟩, ⟨S12, shapeCast S12 b.rates shapeCasts_S1x12_S12⟩]
    concatenates_S32_S1_S8192_S12_S8237_d0

/-- The four results joined, result by result. -/
theorem joined_congr {a a' : Vec Ideal S32 .f32} {b b' : Vec Ideal S1 .f32} {d d' : Vec Ideal S8192 .f32} {e e' : Vec Ideal S12 .f32}
    (ha : a = a') (hb : b = b') (hd : d = d') (he : e = e') :
    concatenate S8237 0 [⟨S32, a⟩, ⟨S1, b⟩, ⟨S8192, d⟩, ⟨S12, e⟩] concatenates_S32_S1_S8192_S12_S8237_d0
      = concatenate S8237 0 [⟨S32, a'⟩, ⟨S1, b'⟩, ⟨S8192, d'⟩, ⟨S12, e'⟩] concatenates_S32_S1_S8192_S12_S8237_d0 := by
  subst ha hb hd he; rfl

/-- The buffers when the launch is over. -/
def landed (c : Dev nD) : Valuation τ sig (Elt Ideal) :=
  Pipeline.withArrays spec0 c (V0 m c) fun w => (dats m slot_in_range 0 c).arrAt w cfg0.N

theorem arrays_distinct : Function.Injective (Pipeline.arrRef spec0) := by decide

theorem landed_at (c : Dev nD) (w : Fin cfg0.W) :
    landed m c (Proc.devRef .tc (Pipeline.arrRef spec0 w)) = (dats m slot_in_range 0 c).arrAt w cfg0.N :=
  Pipeline.withArrays_arr spec0 arrays_distinct c (V0 m c) (fun w => (dats m slot_in_range 0 c).arrAt w cfg0.N) w

theorem tail_newPfc (c : Dev nD) : StableHlo.upto [hostOps1].flatten (landed m c) 4 (Proc.devRef .tc main_v11)
    = shapeCast S32 (found m c).newPfc shapeCasts_S1x32_S32 := by
  have h : landed m c (Proc.devRef .tc main_v10_0) = (found m c).newPfc := (landed_at m c 0).trans (array_newPfc m c)
  rw [← h]
  after_reads_simp
  rfl

theorem tail_alpha (c : Dev nD) : StableHlo.upto [hostOps1].flatten (landed m c) 4 (Proc.devRef .tc main_v12)
    = shapeCast S1 (found m c).alpha shapeCasts_S1x1_S1 := by
  have h : landed m c (Proc.devRef .tc main_v10_1) = (found m c).alpha := (landed_at m c 1).trans (array_alpha m c)
  rw [← h]
  after_reads_simp
  rfl

theorem tail_pick (c : Dev nD) : StableHlo.upto [hostOps1].flatten (landed m c) 4 (Proc.devRef .tc main_v13)
    = shapeCast S8192 (found m c).pick shapeCasts_S64x128_S8192 := by
  have h : landed m c (Proc.devRef .tc main_v10_3) = (found m c).pick := (landed_at m c 3).trans (array_pick m c)
  rw [← h]
  after_reads_simp
  rfl

theorem tail_rates (c : Dev nD) : StableHlo.upto [hostOps1].flatten (landed m c) 4 (Proc.devRef .tc main_v14)
    = shapeCast S12 (found m c).rates shapeCasts_S1x12_S12 := by
  have h : landed m c (Proc.devRef .tc main_v10_2) = (found m c).rates := (landed_at m c 2).trans (array_rates m c)
  rw [← h]
  after_reads_simp
  rfl

/-- What the program's result holds. -/
theorem tail_value (c : Dev nD) :
    Pipeline.afterTail₀ cfgs (dats m slot_in_range) 0 (V0 m) [hostOps1] c main_v15 = joined (found m c) := by
  show StableHlo.after [hostOps1].flatten (landed m c) (Proc.devRef .tc main_v15) = _
  after_reads_simp
  exact joined_congr (tail_newPfc m c) (tail_alpha m c) (tail_pick m c) (tail_rates m c)

/-! The arrays the host reshapes before the launch. -/

theorem found_v0 (c : Dev nD) : V m c main_v0 = shapeCast S1x256 (m ((c : Thread nD τ).loc main_arg0) : Vec Ideal S256 .f32) shapeCasts_S256_S1x256 := by
  show StableHlo.after [hostOps0].flatten (fun b => m (c, b)) (Proc.devRef .tc main_v0) = _
  after_reads_simp
  rfl

theorem found_v1 (c : Dev nD) : V m c main_v1 = shapeCast S1x1 (m ((c : Thread nD τ).loc main_arg2) : Vec Ideal S1 .f32) shapeCasts_S1_S1x1 := by
  show StableHlo.after [hostOps0].flatten (fun b => m (c, b)) (Proc.devRef .tc main_v1) = _
  after_reads_simp
  rfl

theorem found_v2 (c : Dev nD) : V m c main_v2 = shapeCast S1x512 (m ((c : Thread nD τ).loc main_arg6) : Vec Ideal S512 .f32) shapeCasts_S512_S1x512 := by
  show StableHlo.after [hostOps0].flatten (fun b => m (c, b)) (Proc.devRef .tc main_v2) = _
  after_reads_simp
  rfl

theorem found_v3 (c : Dev nD) : V m c main_v3 = shapeCast S1x256 (m ((c : Thread nD τ).loc main_arg8) : Vec Ideal S256 .f32) shapeCasts_S256_S1x256 := by
  show StableHlo.after [hostOps0].flatten (fun b => m (c, b)) (Proc.devRef .tc main_v3) = _
  after_reads_simp
  rfl

theorem found_v4 (c : Dev nD) : V m c main_v4 = shapeCast S1x8 (m ((c : Thread nD τ).loc main_arg13) : Vec Ideal S8 .f32) shapeCasts_S8_S1x8 := by
  show StableHlo.after [hostOps0].flatten (fun b => m (c, b)) (Proc.devRef .tc main_v4) = _
  after_reads_simp
  rfl

theorem found_v5 (c : Dev nD) : V m c main_v5 = shapeCast S1x1 (m ((c : Thread nD τ).loc main_arg15) : Vec Ideal S1 .f32) shapeCasts_S1_S1x1 := by
  show StableHlo.after [hostOps0].flatten (fun b => m (c, b)) (Proc.devRef .tc main_v5) = _
  after_reads_simp
  rfl

theorem found_v6 (c : Dev nD) : V m c main_v6 = shapeCast S1x16 (m ((c : Thread nD τ).loc main_arg17) : Vec Ideal S16 .f32) shapeCasts_S16_S1x16 := by
  show StableHlo.after [hostOps0].flatten (fun b => m (c, b)) (Proc.devRef .tc main_v6) = _
  after_reads_simp
  rfl

theorem found_v7 (c : Dev nD) : V m c main_v7 = shapeCast S1x1 (m ((c : Thread nD τ).loc main_arg19) : Vec Ideal S1 .f32) shapeCasts_S1_S1x1 := by
  show StableHlo.after [hostOps0].flatten (fun b => m (c, b)) (Proc.devRef .tc main_v7) = _
  after_reads_simp
  rfl

theorem found_v8 (c : Dev nD) : V m c main_v8 = shapeCast S1x32 (m ((c : Thread nD τ).loc main_arg21) : Vec Ideal S32 .f32) shapeCasts_S32_S1x32 := by
  show StableHlo.after [hostOps0].flatten (fun b => m (c, b)) (Proc.devRef .tc main_v8) = _
  after_reads_simp
  rfl

theorem found_v9 (c : Dev nD) : V m c main_v9 = shapeCast S1x12 (m ((c : Thread nD τ).loc main_arg23) : Vec Ideal S12 .f32) shapeCasts_S12_S1x12 := by
  show StableHlo.after [hostOps0].flatten (fun b => m (c, b)) (Proc.devRef .tc main_v9) = _
  after_reads_simp
  rfl

end Cert.KernelIdeal.Hand

end
-- ==== Proof.Whole.lean ====
/- The whole result over plain families: new state, gate, slot picked and rates, one after the other. -/
module

public import proofs.«01_k».proof.Proof.Plain

@[expose] public section

noncomputable section

namespace Cert.Plain

open Idealize.ShloMosaic Cert.First

/-- What a rate is kept below. -/
def Given.most (r : ℕ) : EReal := if r < 8 then 1 else Ideal.ofBits FTy.f32 1056964608#32

theorem Given.most_low {r : ℕ} (h : r < 8) : Given.most r = 1 := if_pos h
theorem Given.most_high {r : ℕ} (h : ¬r < 8) : Given.most r = Ideal.ofBits FTy.f32 1056964608#32 := if_neg h

/-- The result at a place. -/
def Given.whole (g : Given) (n : Fin 8237) : EReal :=
  if h : n.val < 32 then g.newPfc ⟨n.val, h⟩
  else if n.val - 32 < 1 then g.alpha
  else if h : n.val - 32 - 1 < 8192 then g.oneHot ⟨n.val - 32 - 1, h⟩
  else g.rate (Given.most (n.val - 32 - 1 - 8192)) ⟨n.val - 32 - 1 - 8192, by omega⟩

theorem Given.rate_congr (g : Given) {a b : EReal} {r s : Fin 12} (h : a = b) (e : r.val = s.val) : g.rate a r = g.rate b s := by
  rw [h, Fin.ext e]

/-- The exponential is finite below the top. -/
theorem exp_finite {x : EReal} (h : x < ⊤) : Finite (Ideal.exp x) := by
  induction x with
  | bot => exact ⟨0, rfl⟩
  | top => exact absurd h (lt_irrefl _)
  | coe r => exact ⟨Real.exp r, rfl⟩

end Cert.Plain

end
-- ==== Proof.KernelResult.lean ====
/- The kernel program's result over plain families. -/
module

public import proofs.«01_k».proof.Proof.KernelForms
public import proofs.«01_k».proof.Proof.KernelValue
public import proofs.«01_k».proof.Proof.Whole

@[expose] public section

set_option maxRecDepth 16384

noncomputable section

namespace Cert.KernelIdeal.Hand

open Cert.KernelIdeal Cert.KernelIdeal.Gen Cert.First Cert.Plain
open Idealize.ShloMosaic Idealize.ShloMosaic.TcCoe Idealize.ShloMosaic.Tactic

/-- The four results joined, at a place. -/
theorem joined_form (b : Blocks Ideal) (n : Fin 8237) : joined b (ix1 n) = (plain b).whole n := by
  pointwise [joined]
  unfold Given.whole
  split
  · exact newPfc_form b _
  split
  · exact alpha_form b
  split
  · exact (pick_form b (⟨_, _⟩, ⟨_, _⟩)).trans (congrArg (plain b).oneHot (Fin.ext (Nat.div_add_mod _ 128)))
  · exact (rates_form b _).trans (Given.rate_congr _ rfl rfl)

end Cert.KernelIdeal.Hand

end
-- ==== Proof.RefEqs.lean ====
/- The reference's equations: what each of its buffers finally holds, from those it was computed from. -/
module

public import proofs.«01_k».proof.Proof.RefRun

@[expose] public section

set_option maxRecDepth 16384

noncomputable section

namespace Cert.ReferenceIdeal.Line

open Cert.ReferenceIdeal Cert.ReferenceIdeal.Gen Cert.Line Idealize.ShloMosaic Idealize.ShloMosaic.TcCoe Idealize.SL.Sem Idealize.ShloMosaic.StableHlo

variable {F : FTy → Type} [FloatOps F] (m : (ℓ : Loc nD τ sig) → Buf (Elt F) ℓ) (c : Dev nD)

theorem vec1 {T : Type} {a : T} (g : Fin 1 → T) (h : g 0 = a) : g = ![a] := funext fun k => by fin_cases k; exact h
theorem vec2 {T : Type} {a b : T} (g : Fin 2 → T) (h : g 0 = a) (h' : g 1 = b) : g = ![a, b] :=
  funext fun k => by fin_cases k <;> assumption
theorem vec3 {T : Type} {a b d : T} (g : Fin 3 → T) (h : g 0 = a) (h' : g 1 = b) (h'' : g 2 = d) : g = ![a, b, d] :=
  funext fun k => by fin_cases k <;> assumption

/-- The final contents of one buffer. -/
abbrev W (b : Ref sig .tc) : b.ty.Contents (Elt F) := final m c (Proc.devRef .tc b)

theorem fixed_of_mem {op : HloOp τ sig (Elt F)} (h : op ∈ (ops : List (HloOp τ sig (Elt F)))) :
    op.result (final m c) = final m c := List.forall_iff_forall_mem.mp (final_fixed m c) op h

theorem fixed0 (k : ℕ) {op : HloOp τ sig (Elt F)} (h : (ops0 : List (HloOp τ sig (Elt F)))[k]? = some op) (b : DevRef τ sig) :
    final m c b = op.result (final m c) b :=
  (congrFun (fixed_of_mem m c (List.mem_append_left _ (List.mem_of_getElem? h))) b).symm
theorem fixed1 (k : ℕ) {op : HloOp τ sig (Elt F)} (h : (ops1 : List (HloOp τ sig (Elt F)))[k]? = some op) (b : DevRef τ sig) :
    final m c b = op.result (final m c) b :=
  (congrFun (fixed_of_mem m c (List.mem_append_right _ (List.mem_append_left _ (List.mem_of_getElem? h)))) b).symm
theorem fixed2 (k : ℕ) {op : HloOp τ sig (Elt F)} (h : (ops2 : List (HloOp τ sig (Elt F)))[k]? = some op) (b : DevRef τ sig) :
    final m c b = op.result (final m c) b :=
  (congrFun (fixed_of_mem m c (List.mem_append_right _ (List.mem_append_right _ (List.mem_append_left _ (List.mem_of_getElem? h))))) b).symm
theorem fixed3 (k : ℕ) {op : HloOp τ sig (Elt F)} (h : (ops3 : List (HloOp τ sig (Elt F)))[k]? = some op) (b : DevRef τ sig) :
    final m c b = op.result (final m c) b :=
  (congrFun (fixed_of_mem m c (List.mem_append_right _ (List.mem_append_right _ (List.mem_append_right _ (List.mem_of_getElem? h))))) b).symm

theorem eq_v0 : W m c main_v0 = shapeCast S32 (W m c main_arg1) shapeCasts_S1x32_S32 := (fixed0 m c 0 rfl _).trans (reshape_result ..)
theorem eq_v1 : W m c main_v1 = (fun a b => concatenate S288 0 [⟨S256, a⟩, ⟨S32, b⟩] concatenates_S256_S32_S288_d0) (W m c main_arg0) (W m c main_v0) := (fixed0 m c 1 rfl _).trans (binary_result ..)
theorem eq_v2 : W m c main_v2 = ((transpose S288x512 [1, 0] · transposes_S512x288_S288x512_1_0) : (⟨S512x288, .f32⟩ : BufTy).Contents (Elt F) → (⟨S288x512, .f32⟩ : BufTy).Contents (Elt F)) (W m c main_arg5) := (fixed0 m c 2 rfl _).trans (unary_result ..)
theorem eq_v3 : W m c main_v3 = ((fun l r => Host.dotGeneral dot_S288_S288x512_S512_0_0_n_1_n_n none l r) : (⟨S288, .f32⟩ : BufTy).Contents (Elt F) → (⟨S288x512, .f32⟩ : BufTy).Contents (Elt F) → (⟨S512, .f32⟩ : BufTy).Contents (Elt F)) (W m c main_v1) (W m c main_v2) := (fixed0 m c 3 rfl _).trans (binary_result ..)
theorem eq_v4 : W m c main_v4 = (addf : (⟨S512, .f32⟩ : BufTy).Contents (Elt F) → (⟨S512, .f32⟩ : BufTy).Contents (Elt F) → (⟨S512, .f32⟩ : BufTy).Contents (Elt F)) (W m c main_v3) (W m c main_arg6) := (fixed0 m c 4 rfl _).trans (binary_result ..)
theorem eq_call0_cst : W m c main_call0_cst = (constant S_ .f32 0x00000000#32) := (fixed0 m c 5 rfl _).trans (nullary_result ..)
theorem eq_call0_v0 : W m c main_call0_v0 = (broadcastInDim S512 ![] bcast_S_S512) (W m c main_call0_cst) := (fixed0 m c 6 rfl _).trans (unary_result ..)
theorem eq_v5 : W m c main_v5 = maximumf (W m c main_v4) (W m c main_call0_v0) := (fixed0 m c 7 rfl _).trans (binary_result ..)
theorem eq_v6 : W m c main_v6 = ((transpose S512x256 [1, 0] · transposes_S256x512_S512x256_1_0) : (⟨S256x512, .f32⟩ : BufTy).Contents (Elt F) → (⟨S512x256, .f32⟩ : BufTy).Contents (Elt F)) (W m c main_arg7) := (fixed0 m c 8 rfl _).trans (unary_result ..)
theorem eq_v7 : W m c main_v7 = ((fun l r => Host.dotGeneral dot_S512_S512x256_S256_0_0_n_1_n_n none l r) : (⟨S512, .f32⟩ : BufTy).Contents (Elt F) → (⟨S512x256, .f32⟩ : BufTy).Contents (Elt F) → (⟨S256, .f32⟩ : BufTy).Contents (Elt F)) (W m c main_v5) (W m c main_v6) := (fixed0 m c 9 rfl _).trans (binary_result ..)
theorem eq_v8 : W m c main_v8 = (addf : (⟨S256, .f32⟩ : BufTy).Contents (Elt F) → (⟨S256, .f32⟩ : BufTy).Contents (Elt F) → (⟨S256, .f32⟩ : BufTy).Contents (Elt F)) (W m c main_v7) (W m c main_arg8) := (fixed0 m c 10 rfl _).trans (binary_result ..)
theorem eq_v9 : W m c main_v9 = (broadcastInDim S1x256 ![1] bcast_S256_S1x256_1 : (⟨S256, .f32⟩ : BufTy).Contents (Elt F) → (⟨S1x256, .f32⟩ : BufTy).Contents (Elt F)) (W m c main_v8) := (fixed0 m c 11 rfl _).trans (unary_result ..)
theorem eq_call1_v0 : W m c main_call1_v0 = mulf (W m c main_v9) (W m c main_v9) := (fixed0 m c 12 rfl _).trans (binary_result ..)
theorem eq_call1_cst : W m c main_call1_cst = (constant S_ .f32 0x00000000#32) := (fixed0 m c 13 rfl _).trans (nullary_result ..)
theorem eq_call1_v1 : W m c main_call1_v1 = (fun x v => Host.reduceAdd x v reducesTo_S1x256_S1_d1 h_S_) (W m c main_call1_v0) (W m c main_call1_cst) := (fixed0 m c 14 rfl _).trans (binary_result ..)
theorem eq_call1_v2 : W m c main_call1_v2 = (broadcastInDim S1x1 ![0] bcast_S1_S1x1_0) (W m c main_call1_v1) := (fixed0 m c 15 rfl _).trans (unary_result ..)
theorem eq_v10 : W m c main_v10 = Host.sqrt (W m c main_call1_v2) := (fixed0 m c 16 rfl _).trans (unary_result ..)
theorem eq_cst : W m c main_cst = (constant S_ .f32 0x2B8CBCCC#32) := (fixed0 m c 17 rfl _).trans (nullary_result ..)
theorem eq_call2_v0 : W m c main_call2_v0 = id (W m c main_cst) := (fixed0 m c 18 rfl _).trans (unary_result ..)
theorem eq_call2_v1 : W m c main_call2_v1 = (broadcastInDim S1x1 ![] bcast_S_S1x1) (W m c main_call2_v0) := (fixed0 m c 19 rfl _).trans (unary_result ..)
theorem eq_v11 : W m c main_v11 = maximumf (W m c main_call2_v1) (W m c main_v10) := (fixed0 m c 20 rfl _).trans (binary_result ..)
theorem eq_v12 : W m c main_v12 = (broadcastInDim S1x256 ![0, 1] bcast_S1x1_S1x256_0_1 : (⟨S1x1, .f32⟩ : BufTy).Contents (Elt F) → (⟨S1x256, .f32⟩ : BufTy).Contents (Elt F)) (W m c main_v11) := (fixed0 m c 21 rfl _).trans (unary_result ..)
theorem eq_v13 : W m c main_v13 = (Host.divf : (⟨S1x256, .f32⟩ : BufTy).Contents (Elt F) → (⟨S1x256, .f32⟩ : BufTy).Contents (Elt F) → (⟨S1x256, .f32⟩ : BufTy).Contents (Elt F)) (W m c main_v9) (W m c main_v12) := (fixed0 m c 22 rfl _).trans (binary_result ..)
theorem eq_v14 : W m c main_v14 = shapeCast S256 (W m c main_v13) shapeCasts_S1x256_S256 := (fixed0 m c 23 rfl _).trans (reshape_result ..)
theorem eq_call3_v0 : W m c main_call3_v0 = mulf (W m c main_arg3) (W m c main_arg3) := (fixed0 m c 24 rfl _).trans (binary_result ..)
theorem eq_call3_cst : W m c main_call3_cst = (constant S_ .f32 0x00000000#32) := (fixed0 m c 25 rfl _).trans (nullary_result ..)
theorem eq_call3_v1 : W m c main_call3_v1 = (fun x v => Host.reduceAdd x v reducesTo_S8192x256_S8192_d1 h_S_) (W m c main_call3_v0) (W m c main_call3_cst) := (fixed0 m c 26 rfl _).trans (binary_result ..)
theorem eq_call3_v2 : W m c main_call3_v2 = (broadcastInDim S8192x1 ![0] bcast_S8192_S8192x1_0) (W m c main_call3_v1) := (fixed0 m c 27 rfl _).trans (unary_result ..)
theorem eq_v15 : W m c main_v15 = Host.sqrt (W m c main_call3_v2) := (fixed0 m c 28 rfl _).trans (unary_result ..)
theorem eq_cst_0 : W m c main_cst_0 = (constant S_ .f32 0x2B8CBCCC#32) := (fixed0 m c 29 rfl _).trans (nullary_result ..)
theorem eq_call4_v0 : W m c main_call4_v0 = id (W m c main_cst_0) := (fixed0 m c 30 rfl _).trans (unary_result ..)
theorem eq_call4_v1 : W m c main_call4_v1 = (broadcastInDim S8192x1 ![] bcast_S_S8192x1) (W m c main_call4_v0) := (fixed0 m c 31 rfl _).trans (unary_result ..)
theorem eq_v16 : W m c main_v16 = maximumf (W m c main_call4_v1) (W m c main_v15) := (fixed0 m c 32 rfl _).trans (binary_result ..)
theorem eq_v17 : W m c main_v17 = (broadcastInDim S8192x256 ![0, 1] bcast_S8192x1_S8192x256_0_1 : (⟨S8192x1, .f32⟩ : BufTy).Contents (Elt F) → (⟨S8192x256, .f32⟩ : BufTy).Contents (Elt F)) (W m c main_v16) := (fixed0 m c 33 rfl _).trans (unary_result ..)
theorem eq_v18 : W m c main_v18 = (Host.divf : (⟨S8192x256, .f32⟩ : BufTy).Contents (Elt F) → (⟨S8192x256, .f32⟩ : BufTy).Contents (Elt F) → (⟨S8192x256, .f32⟩ : BufTy).Contents (Elt F)) (W m c main_arg3) (W m c main_v17) := (fixed0 m c 34 rfl _).trans (binary_result ..)
theorem eq_v19 : W m c main_v19 = ((fun l r => Host.dotGeneral dot_S8192x256_S256_S8192_1_0_0_n_n_n none l r) : (⟨S8192x256, .f32⟩ : BufTy).Contents (Elt F) → (⟨S256, .f32⟩ : BufTy).Contents (Elt F) → (⟨S8192, .f32⟩ : BufTy).Contents (Elt F)) (W m c main_v18) (W m c main_v14) := (fixed0 m c 35 rfl _).trans (binary_result ..)
theorem eq_v20 : W m c main_v20 = (Host.exp : (⟨S_, .f32⟩ : BufTy).Contents (Elt F) → (⟨S_, .f32⟩ : BufTy).Contents (Elt F)) (W m c main_arg4) := (fixed0 m c 36 rfl _).trans (unary_result ..)
theorem eq_v21 : W m c main_v21 = (broadcastInDim S8192 ![] bcast_S_S8192 : (⟨S_, .f32⟩ : BufTy).Contents (Elt F) → (⟨S8192, .f32⟩ : BufTy).Contents (Elt F)) (W m c main_v20) := (fixed0 m c 37 rfl _).trans (unary_result ..)
theorem eq_v22 : W m c main_v22 = (mulf : (⟨S8192, .f32⟩ : BufTy).Contents (Elt F) → (⟨S8192, .f32⟩ : BufTy).Contents (Elt F) → (⟨S8192, .f32⟩ : BufTy).Contents (Elt F)) (W m c main_v19) (W m c main_v21) := (fixed0 m c 38 rfl _).trans (binary_result ..)
theorem eq_cst_1 : W m c main_cst_1 = (constant S_ .f32 0xFF800000#32) := (fixed0 m c 39 rfl _).trans (nullary_result ..)
theorem eq_v23 : W m c main_v23 = ((fun x v => Host.reduce FloatOps.maximumf x v reducesTo_S8192_S_d0 h_S_) : (⟨S8192, .f32⟩ : BufTy).Contents (Elt F) → (⟨S_, .f32⟩ : BufTy).Contents (Elt F) → (⟨S_, .f32⟩ : BufTy).Contents (Elt F)) (W m c main_v22) (W m c main_cst_1) := (fixed0 m c 40 rfl _).trans (binary_result ..)
theorem eq_cst_2 : W m c main_cst_2 = (constant S_ .f32 0xFF800000#32) := (fixed0 m c 41 rfl _).trans (nullary_result ..)
theorem eq_v24 : W m c main_v24 = (maximumf : (⟨S_, .f32⟩ : BufTy).Contents (Elt F) → (⟨S_, .f32⟩ : BufTy).Contents (Elt F) → (⟨S_, .f32⟩ : BufTy).Contents (Elt F)) (W m c main_cst_2) (W m c main_v23) := (fixed0 m c 42 rfl _).trans (binary_result ..)
theorem eq_v25 : W m c main_v25 = (broadcastInDim S1 ![] bcast_S_S1 : (⟨S_, .f32⟩ : BufTy).Contents (Elt F) → (⟨S1, .f32⟩ : BufTy).Contents (Elt F)) (W m c main_v24) := (fixed0 m c 43 rfl _).trans (unary_result ..)
theorem eq_v26 : W m c main_v26 = (broadcastInDim S8192 ![0] bcast_S1_S8192_0 : (⟨S1, .f32⟩ : BufTy).Contents (Elt F) → (⟨S8192, .f32⟩ : BufTy).Contents (Elt F)) (W m c main_v25) := (fixed0 m c 44 rfl _).trans (unary_result ..)
theorem eq_v27 : W m c main_v27 = (subf : (⟨S8192, .f32⟩ : BufTy).Contents (Elt F) → (⟨S8192, .f32⟩ : BufTy).Contents (Elt F) → (⟨S8192, .f32⟩ : BufTy).Contents (Elt F)) (W m c main_v22) (W m c main_v26) := (fixed0 m c 45 rfl _).trans (binary_result ..)
theorem eq_v28 : W m c main_v28 = (Host.exp : (⟨S8192, .f32⟩ : BufTy).Contents (Elt F) → (⟨S8192, .f32⟩ : BufTy).Contents (Elt F)) (W m c main_v27) := (fixed0 m c 46 rfl _).trans (unary_result ..)
theorem eq_cst_3 : W m c main_cst_3 = (constant S_ .f32 0x00000000#32) := (fixed0 m c 47 rfl _).trans (nullary_result ..)
theorem eq_v29 : W m c main_v29 = ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (W m c main_v28) (W m c main_cst_3) := (fixed0 m c 48 rfl _).trans (binary_result ..)
theorem eq_v30 : W m c main_v30 = (broadcastInDim S1 ![] bcast_S_S1 : (⟨S_, .f32⟩ : BufTy).Contents (Elt F) → (⟨S1, .f32⟩ : BufTy).Contents (Elt F)) (W m c main_v29) := (fixed0 m c 49 rfl _).trans (unary_result ..)
theorem eq_v31 : W m c main_v31 = (broadcastInDim S8192 ![0] bcast_S1_S8192_0 : (⟨S1, .f32⟩ : BufTy).Contents (Elt F) → (⟨S8192, .f32⟩ : BufTy).Contents (Elt F)) (W m c main_v30) := (fixed0 m c 50 rfl _).trans (unary_result ..)
theorem eq_v32 : W m c main_v32 = (Host.divf : (⟨S8192, .f32⟩ : BufTy).Contents (Elt F) → (⟨S8192, .f32⟩ : BufTy).Contents (Elt F) → (⟨S8192, .f32⟩ : BufTy).Contents (Elt F)) (W m c main_v28) (W m c main_v31) := (fixed0 m c 51 rfl _).trans (binary_result ..)
theorem eq_call5_v0 : W m c main_call5_v0 = (iotaInDim S8192 32 0) := (fixed0 m c 52 rfl _).trans (nullary_result ..)
theorem eq_call5_cst : W m c main_call5_cst = (constant S_ .f32 0xFF800000#32) := (fixed0 m c 53 rfl _).trans (nullary_result ..)
theorem eq_call5_c : W m c main_call5_c = (constantI S_ 32 0#32) := (fixed0 m c 54 rfl _).trans (nullary_result ..)
theorem eq_call5_v1_0 : W m c main_call5_v1_0 = (fun x y u v j => (Host.argReduce reducer_argmax_f32_i32 x y u v reducesTo_S8192_S_d0 h_S_ j).1) (W m c main_v19) (W m c main_call5_v0) (W m c main_call5_cst) (W m c main_call5_c) := (fixed0 m c 55 rfl _).trans (quaternary_result ..)
theorem eq_v33 : W m c main_v33 = (fun x y u v j => (Host.argReduce reducer_argmax_f32_i32 x y u v reducesTo_S8192_S_d0 h_S_ j).2) (W m c main_v19) (W m c main_call5_v0) (W m c main_call5_cst) (W m c main_call5_c) := (fixed0 m c 56 rfl _).trans (quaternary_result ..)
theorem eq_call6_v0 : W m c main_call6_v0 = (broadcastInDim S1 ![] bcast_S_S1) (W m c main_v33) := (fixed0 m c 57 rfl _).trans (unary_result ..)
theorem eq_call6_v1 : W m c main_call6_v1 = (iotaInDim S8192 32 0) := (fixed0 m c 58 rfl _).trans (nullary_result ..)
theorem eq_call6_v2 : W m c main_call6_v2 = (broadcastInDim S8192 ![0] bcast_S1_S8192_0) (W m c main_call6_v0) := (fixed0 m c 59 rfl _).trans (unary_result ..)
theorem eq_call6_v3 : W m c main_call6_v3 = (cmpi .eq) (W m c main_call6_v2) (W m c main_call6_v1) := by
  refine (fixed0 m c 60 rfl _).trans ((binary_result ..).trans ?_)
  rfl
theorem eq_v34 : W m c main_v34 = (uitofp .f32) (W m c main_call6_v3) := (fixed0 m c 61 rfl _).trans (unary_result ..)
theorem eq_v35 : W m c main_v35 = (subf : (⟨S8192, .f32⟩ : BufTy).Contents (Elt F) → (⟨S8192, .f32⟩ : BufTy).Contents (Elt F) → (⟨S8192, .f32⟩ : BufTy).Contents (Elt F)) (W m c main_v34) (W m c main_v32) := (fixed0 m c 62 rfl _).trans (binary_result ..)
theorem eq_v36 : W m c main_v36 = (addf : (⟨S8192, .f32⟩ : BufTy).Contents (Elt F) → (⟨S8192, .f32⟩ : BufTy).Contents (Elt F) → (⟨S8192, .f32⟩ : BufTy).Contents (Elt F)) (W m c main_v35) (W m c main_v32) := (fixed0 m c 63 rfl _).trans (binary_result ..)
theorem eq_c : W m c main_c = (constantI S_ 32 0#32) := (fixed0 m c 64 rfl _).trans (nullary_result ..)
theorem eq_v37 : W m c main_v37 = (cmpi .slt : (⟨S_, .i32⟩ : BufTy).Contents (Elt F) → (⟨S_, .i32⟩ : BufTy).Contents (Elt F) → (⟨S_, .i1⟩ : BufTy).Contents (Elt F)) (W m c main_v33) (W m c main_c) := (fixed0 m c 65 rfl _).trans (binary_result ..)
theorem eq_c_4 : W m c main_c_4 = (constantI S_ 32 8192#32) := (fixed0 m c 66 rfl _).trans (nullary_result ..)
theorem eq_v38 : W m c main_v38 = (addi : (⟨S_, .i32⟩ : BufTy).Contents (Elt F) → (⟨S_, .i32⟩ : BufTy).Contents (Elt F) → (⟨S_, .i32⟩ : BufTy).Contents (Elt F)) (W m c main_v33) (W m c main_c_4) := (fixed0 m c 67 rfl _).trans (binary_result ..)
theorem eq_v39 : W m c main_v39 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W m c main_v37) (W m c main_v38) (W m c main_v33) := (fixed0 m c 68 rfl _).trans (ternary_result ..)
theorem eq_c_5 : W m c main_c_5 = (constantI S_ 32 0#32) := (fixed0 m c 69 rfl _).trans (nullary_result ..)
theorem eq_c_6 : W m c main_c_6 = (constantI S_ 32 0#32) := (fixed0 m c 70 rfl _).trans (nullary_result ..)
theorem eq_v40 : W m c main_v40 = (cmpi .slt : (⟨S_, .i32⟩ : BufTy).Contents (Elt F) → (⟨S_, .i32⟩ : BufTy).Contents (Elt F) → (⟨S_, .i1⟩ : BufTy).Contents (Elt F)) (W m c main_c_5) (W m c main_c_6) := (fixed0 m c 71 rfl _).trans (binary_result ..)
theorem eq_c_7 : W m c main_c_7 = (constantI S_ 32 0#32) := (fixed0 m c 72 rfl _).trans (nullary_result ..)
theorem eq_c_8 : W m c main_c_8 = (constantI S_ 32 8#32) := (fixed0 m c 73 rfl _).trans (nullary_result ..)
theorem eq_v41 : W m c main_v41 = (addi : (⟨S_, .i32⟩ : BufTy).Contents (Elt F) → (⟨S_, .i32⟩ : BufTy).Contents (Elt F) → (⟨S_, .i32⟩ : BufTy).Contents (Elt F)) (W m c main_c_7) (W m c main_c_8) := (fixed0 m c 74 rfl _).trans (binary_result ..)
theorem eq_c_9 : W m c main_c_9 = (constantI S_ 32 0#32) := (fixed0 m c 75 rfl _).trans (nullary_result ..)
theorem eq_v42 : W m c main_v42 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W m c main_v40) (W m c main_v41) (W m c main_c_9) := (fixed0 m c 76 rfl _).trans (ternary_result ..)
theorem eq_c_10 : W m c main_c_10 = (constantI S_ 32 0#32) := (fixed0 m c 77 rfl _).trans (nullary_result ..)
theorem eq_c_11 : W m c main_c_11 = (constantI S_ 32 0#32) := (fixed0 m c 78 rfl _).trans (nullary_result ..)
theorem eq_v43 : W m c main_v43 = (cmpi .slt : (⟨S_, .i32⟩ : BufTy).Contents (Elt F) → (⟨S_, .i32⟩ : BufTy).Contents (Elt F) → (⟨S_, .i1⟩ : BufTy).Contents (Elt F)) (W m c main_c_10) (W m c main_c_11) := (fixed0 m c 79 rfl _).trans (binary_result ..)
theorem eq_c_12 : W m c main_c_12 = (constantI S_ 32 0#32) := (fixed0 m c 80 rfl _).trans (nullary_result ..)
theorem eq_c_13 : W m c main_c_13 = (constantI S_ 32 44#32) := (fixed0 m c 81 rfl _).trans (nullary_result ..)
theorem eq_v44 : W m c main_v44 = (addi : (⟨S_, .i32⟩ : BufTy).Contents (Elt F) → (⟨S_, .i32⟩ : BufTy).Contents (Elt F) → (⟨S_, .i32⟩ : BufTy).Contents (Elt F)) (W m c main_c_12) (W m c main_c_13) := (fixed1 m c 0 rfl _).trans (binary_result ..)
theorem eq_c_14 : W m c main_c_14 = (constantI S_ 32 0#32) := (fixed1 m c 1 rfl _).trans (nullary_result ..)
theorem eq_v45 : W m c main_v45 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W m c main_v43) (W m c main_v44) (W m c main_c_14) := (fixed1 m c 2 rfl _).trans (ternary_result ..)
theorem eq_v46 : W m c main_v46 = ((fun x i => Host.dynamicSlice S1x8x44 x (fun k => (i k (Shape.Idx.first h_S_)).toInt) sliceFits_S8192x8x44_S1x8x44) : (⟨S8192x8x44, .f32⟩ : BufTy).Contents (Elt F) → (Fin 3 → (⟨S_, .i32⟩ : BufTy).Contents (Elt F)) → (⟨S1x8x44, .f32⟩ : BufTy).Contents (Elt F)) (W m c main_arg9) ![W m c main_v39, W m c main_v42, W m c main_v45] := by
  refine (fixed1 m c 3 rfl _).trans ((unaryIndexed_result ..).trans ?_)
  exact congrArg (((fun x i => Host.dynamicSlice S1x8x44 x (fun k => (i k (Shape.Idx.first h_S_)).toInt) sliceFits_S8192x8x44_S1x8x44) : (⟨S8192x8x44, .f32⟩ : BufTy).Contents (Elt F) → (Fin 3 → (⟨S_, .i32⟩ : BufTy).Contents (Elt F)) → (⟨S1x8x44, .f32⟩ : BufTy).Contents (Elt F)) (W m c main_arg9)) (vec3 _ rfl rfl rfl )
theorem eq_v47 : W m c main_v47 = shapeCast S8x44 (W m c main_v46) shapeCasts_S1x8x44_S8x44 := (fixed1 m c 4 rfl _).trans (reshape_result ..)
theorem eq_v48 : W m c main_v48 = ((extractStridedSlice S8x32 ![0, 0] · slices_S8x44_S8x32_0_0) : (⟨S8x44, .f32⟩ : BufTy).Contents (Elt F) → (⟨S8x32, .f32⟩ : BufTy).Contents (Elt F)) (W m c main_v47) := (fixed1 m c 5 rfl _).trans (unary_result ..)
theorem eq_v49 : W m c main_v49 = (broadcastInDim S1x32 ![1] bcast_S32_S1x32_1 : (⟨S32, .f32⟩ : BufTy).Contents (Elt F) → (⟨S1x32, .f32⟩ : BufTy).Contents (Elt F)) (W m c main_v0) := (fixed1 m c 6 rfl _).trans (unary_result ..)
theorem eq_call7_v0 : W m c main_call7_v0 = mulf (W m c main_v49) (W m c main_v49) := (fixed1 m c 7 rfl _).trans (binary_result ..)
theorem eq_call7_cst : W m c main_call7_cst = (constant S_ .f32 0x00000000#32) := (fixed1 m c 8 rfl _).trans (nullary_result ..)
theorem eq_call7_v1 : W m c main_call7_v1 = (fun x v => Host.reduceAdd x v reducesTo_S1x32_S1_d1 h_S_) (W m c main_call7_v0) (W m c main_call7_cst) := (fixed1 m c 9 rfl _).trans (binary_result ..)
theorem eq_call7_v2 : W m c main_call7_v2 = (broadcastInDim S1x1 ![0] bcast_S1_S1x1_0) (W m c main_call7_v1) := (fixed1 m c 10 rfl _).trans (unary_result ..)
theorem eq_v50 : W m c main_v50 = Host.sqrt (W m c main_call7_v2) := (fixed1 m c 11 rfl _).trans (unary_result ..)
theorem eq_cst_15 : W m c main_cst_15 = (constant S_ .f32 0x2B8CBCCC#32) := (fixed1 m c 12 rfl _).trans (nullary_result ..)
theorem eq_call8_v0 : W m c main_call8_v0 = id (W m c main_cst_15) := (fixed1 m c 13 rfl _).trans (unary_result ..)
theorem eq_call8_v1 : W m c main_call8_v1 = (broadcastInDim S1x1 ![] bcast_S_S1x1) (W m c main_call8_v0) := (fixed1 m c 14 rfl _).trans (unary_result ..)
theorem eq_v51 : W m c main_v51 = maximumf (W m c main_call8_v1) (W m c main_v50) := (fixed1 m c 15 rfl _).trans (binary_result ..)
theorem eq_v52 : W m c main_v52 = (broadcastInDim S1x32 ![0, 1] bcast_S1x1_S1x32_0_1 : (⟨S1x1, .f32⟩ : BufTy).Contents (Elt F) → (⟨S1x32, .f32⟩ : BufTy).Contents (Elt F)) (W m c main_v51) := (fixed1 m c 16 rfl _).trans (unary_result ..)
theorem eq_v53 : W m c main_v53 = (Host.divf : (⟨S1x32, .f32⟩ : BufTy).Contents (Elt F) → (⟨S1x32, .f32⟩ : BufTy).Contents (Elt F) → (⟨S1x32, .f32⟩ : BufTy).Contents (Elt F)) (W m c main_v49) (W m c main_v52) := (fixed1 m c 17 rfl _).trans (binary_result ..)
theorem eq_v54 : W m c main_v54 = shapeCast S32 (W m c main_v53) shapeCasts_S1x32_S32 := (fixed1 m c 18 rfl _).trans (reshape_result ..)
theorem eq_call9_v0 : W m c main_call9_v0 = mulf (W m c main_v48) (W m c main_v48) := (fixed1 m c 19 rfl _).trans (binary_result ..)
theorem eq_call9_cst : W m c main_call9_cst = (constant S_ .f32 0x00000000#32) := (fixed1 m c 20 rfl _).trans (nullary_result ..)
theorem eq_call9_v1 : W m c main_call9_v1 = (fun x v => Host.reduceAdd x v reducesTo_S8x32_S8_d1 h_S_) (W m c main_call9_v0) (W m c main_call9_cst) := (fixed1 m c 21 rfl _).trans (binary_result ..)
theorem eq_call9_v2 : W m c main_call9_v2 = (broadcastInDim S8x1 ![0] bcast_S8_S8x1_0) (W m c main_call9_v1) := (fixed1 m c 22 rfl _).trans (unary_result ..)
theorem eq_v55 : W m c main_v55 = Host.sqrt (W m c main_call9_v2) := (fixed1 m c 23 rfl _).trans (unary_result ..)
theorem eq_cst_16 : W m c main_cst_16 = (constant S_ .f32 0x2B8CBCCC#32) := (fixed1 m c 24 rfl _).trans (nullary_result ..)
theorem eq_call10_v0 : W m c main_call10_v0 = id (W m c main_cst_16) := (fixed1 m c 25 rfl _).trans (unary_result ..)
theorem eq_call10_v1 : W m c main_call10_v1 = (broadcastInDim S8x1 ![] bcast_S_S8x1) (W m c main_call10_v0) := (fixed1 m c 26 rfl _).trans (unary_result ..)
theorem eq_v56 : W m c main_v56 = maximumf (W m c main_call10_v1) (W m c main_v55) := (fixed1 m c 27 rfl _).trans (binary_result ..)
theorem eq_v57 : W m c main_v57 = (broadcastInDim S8x32 ![0, 1] bcast_S8x1_S8x32_0_1 : (⟨S8x1, .f32⟩ : BufTy).Contents (Elt F) → (⟨S8x32, .f32⟩ : BufTy).Contents (Elt F)) (W m c main_v56) := (fixed1 m c 28 rfl _).trans (unary_result ..)
theorem eq_v58 : W m c main_v58 = (Host.divf : (⟨S8x32, .f32⟩ : BufTy).Contents (Elt F) → (⟨S8x32, .f32⟩ : BufTy).Contents (Elt F) → (⟨S8x32, .f32⟩ : BufTy).Contents (Elt F)) (W m c main_v48) (W m c main_v57) := (fixed1 m c 29 rfl _).trans (binary_result ..)
theorem eq_v59 : W m c main_v59 = ((fun l r => Host.dotGeneral dot_S8x32_S32_S8_1_0_0_n_n_n none l r) : (⟨S8x32, .f32⟩ : BufTy).Contents (Elt F) → (⟨S32, .f32⟩ : BufTy).Contents (Elt F) → (⟨S8, .f32⟩ : BufTy).Contents (Elt F)) (W m c main_v58) (W m c main_v54) := (fixed1 m c 30 rfl _).trans (binary_result ..)
theorem eq_c_17 : W m c main_c_17 = (constantI S_ 32 0#32) := (fixed1 m c 31 rfl _).trans (nullary_result ..)
theorem eq_v60 : W m c main_v60 = (cmpi .slt : (⟨S_, .i32⟩ : BufTy).Contents (Elt F) → (⟨S_, .i32⟩ : BufTy).Contents (Elt F) → (⟨S_, .i1⟩ : BufTy).Contents (Elt F)) (W m c main_v33) (W m c main_c_17) := (fixed1 m c 32 rfl _).trans (binary_result ..)
theorem eq_c_18 : W m c main_c_18 = (constantI S_ 32 8192#32) := (fixed1 m c 33 rfl _).trans (nullary_result ..)
theorem eq_v61 : W m c main_v61 = (addi : (⟨S_, .i32⟩ : BufTy).Contents (Elt F) → (⟨S_, .i32⟩ : BufTy).Contents (Elt F) → (⟨S_, .i32⟩ : BufTy).Contents (Elt F)) (W m c main_v33) (W m c main_c_18) := (fixed1 m c 34 rfl _).trans (binary_result ..)
theorem eq_v62 : W m c main_v62 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W m c main_v60) (W m c main_v61) (W m c main_v33) := (fixed1 m c 35 rfl _).trans (ternary_result ..)
theorem eq_c_19 : W m c main_c_19 = (constantI S_ 32 0#32) := (fixed1 m c 36 rfl _).trans (nullary_result ..)
theorem eq_c_20 : W m c main_c_20 = (constantI S_ 32 0#32) := (fixed1 m c 37 rfl _).trans (nullary_result ..)
theorem eq_v63 : W m c main_v63 = (cmpi .slt : (⟨S_, .i32⟩ : BufTy).Contents (Elt F) → (⟨S_, .i32⟩ : BufTy).Contents (Elt F) → (⟨S_, .i1⟩ : BufTy).Contents (Elt F)) (W m c main_c_19) (W m c main_c_20) := (fixed1 m c 38 rfl _).trans (binary_result ..)
theorem eq_c_21 : W m c main_c_21 = (constantI S_ 32 0#32) := (fixed1 m c 39 rfl _).trans (nullary_result ..)
theorem eq_c_22 : W m c main_c_22 = (constantI S_ 32 8#32) := (fixed1 m c 40 rfl _).trans (nullary_result ..)
theorem eq_v64 : W m c main_v64 = (addi : (⟨S_, .i32⟩ : BufTy).Contents (Elt F) → (⟨S_, .i32⟩ : BufTy).Contents (Elt F) → (⟨S_, .i32⟩ : BufTy).Contents (Elt F)) (W m c main_c_21) (W m c main_c_22) := (fixed1 m c 41 rfl _).trans (binary_result ..)
theorem eq_c_23 : W m c main_c_23 = (constantI S_ 32 0#32) := (fixed1 m c 42 rfl _).trans (nullary_result ..)
theorem eq_v65 : W m c main_v65 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W m c main_v63) (W m c main_v64) (W m c main_c_23) := (fixed1 m c 43 rfl _).trans (ternary_result ..)
theorem eq_v66 : W m c main_v66 = ((fun x i => Host.dynamicSlice S1x8 x (fun k => (i k (Shape.Idx.first h_S_)).toInt) sliceFits_S8192x8_S1x8) : (⟨S8192x8, .f32⟩ : BufTy).Contents (Elt F) → (Fin 2 → (⟨S_, .i32⟩ : BufTy).Contents (Elt F)) → (⟨S1x8, .f32⟩ : BufTy).Contents (Elt F)) (W m c main_arg10) ![W m c main_v62, W m c main_v65] := by
  refine (fixed1 m c 44 rfl _).trans ((unaryIndexed_result ..).trans ?_)
  exact congrArg (((fun x i => Host.dynamicSlice S1x8 x (fun k => (i k (Shape.Idx.first h_S_)).toInt) sliceFits_S8192x8_S1x8) : (⟨S8192x8, .f32⟩ : BufTy).Contents (Elt F) → (Fin 2 → (⟨S_, .i32⟩ : BufTy).Contents (Elt F)) → (⟨S1x8, .f32⟩ : BufTy).Contents (Elt F)) (W m c main_arg10)) (vec2 _ rfl rfl )
theorem eq_v67 : W m c main_v67 = shapeCast S8 (W m c main_v66) shapeCasts_S1x8_S8 := (fixed1 m c 45 rfl _).trans (reshape_result ..)
theorem eq_c_24 : W m c main_c_24 = (constantI S_ 32 0#32) := (fixed1 m c 46 rfl _).trans (nullary_result ..)
theorem eq_v68 : W m c main_v68 = (cmpi .slt : (⟨S_, .i32⟩ : BufTy).Contents (Elt F) → (⟨S_, .i32⟩ : BufTy).Contents (Elt F) → (⟨S_, .i1⟩ : BufTy).Contents (Elt F)) (W m c main_v33) (W m c main_c_24) := (fixed1 m c 47 rfl _).trans (binary_result ..)
theorem eq_c_25 : W m c main_c_25 = (constantI S_ 32 8192#32) := (fixed1 m c 48 rfl _).trans (nullary_result ..)
theorem eq_v69 : W m c main_v69 = (addi : (⟨S_, .i32⟩ : BufTy).Contents (Elt F) → (⟨S_, .i32⟩ : BufTy).Contents (Elt F) → (⟨S_, .i32⟩ : BufTy).Contents (Elt F)) (W m c main_v33) (W m c main_c_25) := (fixed1 m c 49 rfl _).trans (binary_result ..)
theorem eq_v70 : W m c main_v70 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W m c main_v68) (W m c main_v69) (W m c main_v33) := (fixed1 m c 50 rfl _).trans (ternary_result ..)
theorem eq_c_26 : W m c main_c_26 = (constantI S_ 32 0#32) := (fixed1 m c 51 rfl _).trans (nullary_result ..)
theorem eq_c_27 : W m c main_c_27 = (constantI S_ 32 0#32) := (fixed1 m c 52 rfl _).trans (nullary_result ..)
theorem eq_v71 : W m c main_v71 = (cmpi .slt : (⟨S_, .i32⟩ : BufTy).Contents (Elt F) → (⟨S_, .i32⟩ : BufTy).Contents (Elt F) → (⟨S_, .i1⟩ : BufTy).Contents (Elt F)) (W m c main_c_26) (W m c main_c_27) := (fixed1 m c 53 rfl _).trans (binary_result ..)
theorem eq_c_28 : W m c main_c_28 = (constantI S_ 32 0#32) := (fixed1 m c 54 rfl _).trans (nullary_result ..)
theorem eq_c_29 : W m c main_c_29 = (constantI S_ 32 8#32) := (fixed1 m c 55 rfl _).trans (nullary_result ..)
theorem eq_v72 : W m c main_v72 = (addi : (⟨S_, .i32⟩ : BufTy).Contents (Elt F) → (⟨S_, .i32⟩ : BufTy).Contents (Elt F) → (⟨S_, .i32⟩ : BufTy).Contents (Elt F)) (W m c main_c_28) (W m c main_c_29) := (fixed1 m c 56 rfl _).trans (binary_result ..)
theorem eq_c_30 : W m c main_c_30 = (constantI S_ 32 0#32) := (fixed1 m c 57 rfl _).trans (nullary_result ..)
theorem eq_v73 : W m c main_v73 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W m c main_v71) (W m c main_v72) (W m c main_c_30) := (fixed1 m c 58 rfl _).trans (ternary_result ..)
theorem eq_v74 : W m c main_v74 = ((fun x i => Host.dynamicSlice S1x8 x (fun k => (i k (Shape.Idx.first h_S_)).toInt) sliceFits_S8192x8_S1x8) : (⟨S8192x8, .f32⟩ : BufTy).Contents (Elt F) → (Fin 2 → (⟨S_, .i32⟩ : BufTy).Contents (Elt F)) → (⟨S1x8, .f32⟩ : BufTy).Contents (Elt F)) (W m c main_arg11) ![W m c main_v70, W m c main_v73] := by
  refine (fixed1 m c 59 rfl _).trans ((unaryIndexed_result ..).trans ?_)
  exact congrArg (((fun x i => Host.dynamicSlice S1x8 x (fun k => (i k (Shape.Idx.first h_S_)).toInt) sliceFits_S8192x8_S1x8) : (⟨S8192x8, .f32⟩ : BufTy).Contents (Elt F) → (Fin 2 → (⟨S_, .i32⟩ : BufTy).Contents (Elt F)) → (⟨S1x8, .f32⟩ : BufTy).Contents (Elt F)) (W m c main_arg11)) (vec2 _ rfl rfl )
theorem eq_v75 : W m c main_v75 = shapeCast S8 (W m c main_v74) shapeCasts_S1x8_S8 := (fixed1 m c 60 rfl _).trans (reshape_result ..)
theorem eq_cst_31 : W m c main_cst_31 = (constant S_ .f32 0x42C80000#32) := (fixed1 m c 61 rfl _).trans (nullary_result ..)
theorem eq_v76 : W m c main_v76 = (broadcastInDim S8 ![] bcast_S_S8 : (⟨S_, .f32⟩ : BufTy).Contents (Elt F) → (⟨S8, .f32⟩ : BufTy).Contents (Elt F)) (W m c main_cst_31) := (fixed1 m c 62 rfl _).trans (unary_result ..)
theorem eq_v77 : W m c main_v77 = (subf : (⟨S8, .f32⟩ : BufTy).Contents (Elt F) → (⟨S8, .f32⟩ : BufTy).Contents (Elt F) → (⟨S8, .f32⟩ : BufTy).Contents (Elt F)) (W m c main_v76) (W m c main_v75) := (fixed1 m c 63 rfl _).trans (binary_result ..)
theorem eq_cst_32 : W m c main_cst_32 = (constant S_ .f32 0xFF800000#32) := (fixed1 m c 64 rfl _).trans (nullary_result ..)
theorem eq_v78 : W m c main_v78 = ((fun x v => Host.reduce FloatOps.maximumf x v reducesTo_S8_S_d0 h_S_) : (⟨S8, .f32⟩ : BufTy).Contents (Elt F) → (⟨S_, .f32⟩ : BufTy).Contents (Elt F) → (⟨S_, .f32⟩ : BufTy).Contents (Elt F)) (W m c main_v77) (W m c main_cst_32) := (fixed1 m c 65 rfl _).trans (binary_result ..)
theorem eq_cst_33 : W m c main_cst_33 = (constant S_ .f32 0x3F800000#32) := (fixed1 m c 66 rfl _).trans (nullary_result ..)
theorem eq_call11_v0 : W m c main_call11_v0 = id (W m c main_cst_33) := (fixed1 m c 67 rfl _).trans (unary_result ..)
theorem eq_v79 : W m c main_v79 = maximumf (W m c main_call11_v0) (W m c main_v78) := (fixed1 m c 68 rfl _).trans (binary_result ..)
theorem eq_v80 : W m c main_v80 = (broadcastInDim S8 ![] bcast_S_S8 : (⟨S_, .f32⟩ : BufTy).Contents (Elt F) → (⟨S8, .f32⟩ : BufTy).Contents (Elt F)) (W m c main_v79) := (fixed1 m c 69 rfl _).trans (unary_result ..)
theorem eq_v81 : W m c main_v81 = (Host.divf : (⟨S8, .f32⟩ : BufTy).Contents (Elt F) → (⟨S8, .f32⟩ : BufTy).Contents (Elt F) → (⟨S8, .f32⟩ : BufTy).Contents (Elt F)) (W m c main_v77) (W m c main_v80) := (fixed1 m c 70 rfl _).trans (binary_result ..)
theorem eq_cst_34 : W m c main_cst_34 = (constant S_ .f32 0x3F800000#32) := (fixed1 m c 71 rfl _).trans (nullary_result ..)
theorem eq_v82 : W m c main_v82 = (broadcastInDim S8 ![] bcast_S_S8 : (⟨S_, .f32⟩ : BufTy).Contents (Elt F) → (⟨S8, .f32⟩ : BufTy).Contents (Elt F)) (W m c main_cst_34) := (fixed1 m c 72 rfl _).trans (unary_result ..)
theorem eq_v83 : W m c main_v83 = (subf : (⟨S8, .f32⟩ : BufTy).Contents (Elt F) → (⟨S8, .f32⟩ : BufTy).Contents (Elt F) → (⟨S8, .f32⟩ : BufTy).Contents (Elt F)) (W m c main_v82) (W m c main_v81) := (fixed2 m c 0 rfl _).trans (binary_result ..)
theorem eq_v84 : W m c main_v84 = (Host.absf : (⟨S8, .f32⟩ : BufTy).Contents (Elt F) → (⟨S8, .f32⟩ : BufTy).Contents (Elt F)) (W m c main_v67) := (fixed2 m c 1 rfl _).trans (unary_result ..)
theorem eq_cst_35 : W m c main_cst_35 = (constant S_ .f32 0x358637BD#32) := (fixed2 m c 2 rfl _).trans (nullary_result ..)
theorem eq_call12_v0 : W m c main_call12_v0 = id (W m c main_cst_35) := (fixed2 m c 3 rfl _).trans (unary_result ..)
theorem eq_call12_v1 : W m c main_call12_v1 = (broadcastInDim S8 ![] bcast_S_S8) (W m c main_call12_v0) := (fixed2 m c 4 rfl _).trans (unary_result ..)
theorem eq_v85 : W m c main_v85 = maximumf (W m c main_call12_v1) (W m c main_v84) := (fixed2 m c 5 rfl _).trans (binary_result ..)
theorem eq_v86 : W m c main_v86 = (broadcastInDim S8x1 ![0] bcast_S8_S8x1_0 : (⟨S8, .f32⟩ : BufTy).Contents (Elt F) → (⟨S8x1, .f32⟩ : BufTy).Contents (Elt F)) (W m c main_v59) := (fixed2 m c 6 rfl _).trans (unary_result ..)
theorem eq_v87 : W m c main_v87 = (broadcastInDim S8x1 ![0] bcast_S8_S8x1_0 : (⟨S8, .f32⟩ : BufTy).Contents (Elt F) → (⟨S8x1, .f32⟩ : BufTy).Contents (Elt F)) (W m c main_v85) := (fixed2 m c 7 rfl _).trans (unary_result ..)
theorem eq_v88 : W m c main_v88 = (broadcastInDim S8x1 ![0] bcast_S8_S8x1_0 : (⟨S8, .f32⟩ : BufTy).Contents (Elt F) → (⟨S8x1, .f32⟩ : BufTy).Contents (Elt F)) (W m c main_v83) := (fixed2 m c 8 rfl _).trans (unary_result ..)
theorem eq_v89 : W m c main_v89 = (concatenate S8x3 1 [⟨S8x1, (W m c main_v86 : (⟨S8x1, .f32⟩ : BufTy).Contents (Elt F))⟩, ⟨S8x1, (W m c main_v87 : (⟨S8x1, .f32⟩ : BufTy).Contents (Elt F))⟩, ⟨S8x1, (W m c main_v88 : (⟨S8x1, .f32⟩ : BufTy).Contents (Elt F))⟩] concatenates_S8x1_S8x1_S8x1_S8x3_d1 : (⟨S8x3, .f32⟩ : BufTy).Contents (Elt F)) := (fixed2 m c 9 rfl _).trans (nary_result ..)
theorem eq_v90 : W m c main_v90 = ((transpose S3x8 [1, 0] · transposes_S8x3_S3x8_1_0) : (⟨S8x3, .f32⟩ : BufTy).Contents (Elt F) → (⟨S3x8, .f32⟩ : BufTy).Contents (Elt F)) (W m c main_arg12) := (fixed2 m c 10 rfl _).trans (unary_result ..)
theorem eq_v91 : W m c main_v91 = ((fun l r => Host.dotGeneral dot_S8x3_S3x8_S8x8_1_0_0_1_n_n none l r) : (⟨S8x3, .f32⟩ : BufTy).Contents (Elt F) → (⟨S3x8, .f32⟩ : BufTy).Contents (Elt F) → (⟨S8x8, .f32⟩ : BufTy).Contents (Elt F)) (W m c main_v89) (W m c main_v90) := (fixed2 m c 11 rfl _).trans (binary_result ..)
theorem eq_v92 : W m c main_v92 = (broadcastInDim S1x8 ![1] bcast_S8_S1x8_1 : (⟨S8, .f32⟩ : BufTy).Contents (Elt F) → (⟨S1x8, .f32⟩ : BufTy).Contents (Elt F)) (W m c main_arg13) := (fixed2 m c 12 rfl _).trans (unary_result ..)
theorem eq_v93 : W m c main_v93 = (broadcastInDim S8x8 ![0, 1] bcast_S1x8_S8x8_0_1 : (⟨S1x8, .f32⟩ : BufTy).Contents (Elt F) → (⟨S8x8, .f32⟩ : BufTy).Contents (Elt F)) (W m c main_v92) := (fixed2 m c 13 rfl _).trans (unary_result ..)
theorem eq_v94 : W m c main_v94 = (addf : (⟨S8x8, .f32⟩ : BufTy).Contents (Elt F) → (⟨S8x8, .f32⟩ : BufTy).Contents (Elt F) → (⟨S8x8, .f32⟩ : BufTy).Contents (Elt F)) (W m c main_v91) (W m c main_v93) := (fixed2 m c 14 rfl _).trans (binary_result ..)
theorem eq_call13_cst : W m c main_call13_cst = (constant S_ .f32 0x00000000#32) := (fixed2 m c 15 rfl _).trans (nullary_result ..)
theorem eq_call13_v0 : W m c main_call13_v0 = (broadcastInDim S8x8 ![] bcast_S_S8x8) (W m c main_call13_cst) := (fixed2 m c 16 rfl _).trans (unary_result ..)
theorem eq_v95 : W m c main_v95 = maximumf (W m c main_v94) (W m c main_call13_v0) := (fixed2 m c 17 rfl _).trans (binary_result ..)
theorem eq_v96 : W m c main_v96 = ((transpose S8x1 [1, 0] · transposes_S1x8_S8x1_1_0) : (⟨S1x8, .f32⟩ : BufTy).Contents (Elt F) → (⟨S8x1, .f32⟩ : BufTy).Contents (Elt F)) (W m c main_arg14) := (fixed2 m c 18 rfl _).trans (unary_result ..)
theorem eq_v97 : W m c main_v97 = ((fun l r => Host.dotGeneral dot_S8x8_S8x1_S8x1_1_0_0_1_n_n none l r) : (⟨S8x8, .f32⟩ : BufTy).Contents (Elt F) → (⟨S8x1, .f32⟩ : BufTy).Contents (Elt F) → (⟨S8x1, .f32⟩ : BufTy).Contents (Elt F)) (W m c main_v95) (W m c main_v96) := (fixed2 m c 19 rfl _).trans (binary_result ..)
theorem eq_v98 : W m c main_v98 = (broadcastInDim S1x1 ![1] bcast_S1_S1x1_1 : (⟨S1, .f32⟩ : BufTy).Contents (Elt F) → (⟨S1x1, .f32⟩ : BufTy).Contents (Elt F)) (W m c main_arg15) := (fixed2 m c 20 rfl _).trans (unary_result ..)
theorem eq_v99 : W m c main_v99 = (broadcastInDim S8x1 ![0, 1] bcast_S1x1_S8x1_0_1 : (⟨S1x1, .f32⟩ : BufTy).Contents (Elt F) → (⟨S8x1, .f32⟩ : BufTy).Contents (Elt F)) (W m c main_v98) := (fixed2 m c 21 rfl _).trans (unary_result ..)
theorem eq_v100 : W m c main_v100 = (addf : (⟨S8x1, .f32⟩ : BufTy).Contents (Elt F) → (⟨S8x1, .f32⟩ : BufTy).Contents (Elt F) → (⟨S8x1, .f32⟩ : BufTy).Contents (Elt F)) (W m c main_v97) (W m c main_v99) := (fixed2 m c 22 rfl _).trans (binary_result ..)
theorem eq_v101 : W m c main_v101 = shapeCast S8 (W m c main_v100) shapeCasts_S8x1_S8 := (fixed2 m c 23 rfl _).trans (reshape_result ..)
theorem eq_call14_v0 : W m c main_call14_v0 = (iotaInDim S8 32 0) := (fixed2 m c 24 rfl _).trans (nullary_result ..)
theorem eq_call14_cst : W m c main_call14_cst = (constant S_ .f32 0xFF800000#32) := (fixed2 m c 25 rfl _).trans (nullary_result ..)
theorem eq_call14_c : W m c main_call14_c = (constantI S_ 32 0#32) := (fixed2 m c 26 rfl _).trans (nullary_result ..)
theorem eq_call14_v1_0 : W m c main_call14_v1_0 = (fun x y u v j => (Host.argReduce reducer_argmax_f32_i32 x y u v reducesTo_S8_S_d0 h_S_ j).1) (W m c main_v101) (W m c main_call14_v0) (W m c main_call14_cst) (W m c main_call14_c) := (fixed2 m c 27 rfl _).trans (quaternary_result ..)
theorem eq_v102 : W m c main_v102 = (fun x y u v j => (Host.argReduce reducer_argmax_f32_i32 x y u v reducesTo_S8_S_d0 h_S_ j).2) (W m c main_v101) (W m c main_call14_v0) (W m c main_call14_cst) (W m c main_call14_c) := (fixed2 m c 28 rfl _).trans (quaternary_result ..)
theorem eq_c_36 : W m c main_c_36 = (constantI S_ 32 0#32) := (fixed2 m c 29 rfl _).trans (nullary_result ..)
theorem eq_v103 : W m c main_v103 = (cmpi .slt : (⟨S_, .i32⟩ : BufTy).Contents (Elt F) → (⟨S_, .i32⟩ : BufTy).Contents (Elt F) → (⟨S_, .i1⟩ : BufTy).Contents (Elt F)) (W m c main_v102) (W m c main_c_36) := (fixed2 m c 30 rfl _).trans (binary_result ..)
theorem eq_c_37 : W m c main_c_37 = (constantI S_ 32 8#32) := (fixed2 m c 31 rfl _).trans (nullary_result ..)
theorem eq_v104 : W m c main_v104 = (addi : (⟨S_, .i32⟩ : BufTy).Contents (Elt F) → (⟨S_, .i32⟩ : BufTy).Contents (Elt F) → (⟨S_, .i32⟩ : BufTy).Contents (Elt F)) (W m c main_v102) (W m c main_c_37) := (fixed2 m c 32 rfl _).trans (binary_result ..)
theorem eq_v105 : W m c main_v105 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W m c main_v103) (W m c main_v104) (W m c main_v102) := (fixed2 m c 33 rfl _).trans (ternary_result ..)
theorem eq_c_38 : W m c main_c_38 = (constantI S_ 32 0#32) := (fixed2 m c 34 rfl _).trans (nullary_result ..)
theorem eq_c_39 : W m c main_c_39 = (constantI S_ 32 0#32) := (fixed2 m c 35 rfl _).trans (nullary_result ..)
theorem eq_v106 : W m c main_v106 = (cmpi .slt : (⟨S_, .i32⟩ : BufTy).Contents (Elt F) → (⟨S_, .i32⟩ : BufTy).Contents (Elt F) → (⟨S_, .i1⟩ : BufTy).Contents (Elt F)) (W m c main_c_38) (W m c main_c_39) := (fixed2 m c 36 rfl _).trans (binary_result ..)
theorem eq_c_40 : W m c main_c_40 = (constantI S_ 32 0#32) := (fixed2 m c 37 rfl _).trans (nullary_result ..)
theorem eq_c_41 : W m c main_c_41 = (constantI S_ 32 44#32) := (fixed2 m c 38 rfl _).trans (nullary_result ..)
theorem eq_v107 : W m c main_v107 = (addi : (⟨S_, .i32⟩ : BufTy).Contents (Elt F) → (⟨S_, .i32⟩ : BufTy).Contents (Elt F) → (⟨S_, .i32⟩ : BufTy).Contents (Elt F)) (W m c main_c_40) (W m c main_c_41) := (fixed2 m c 39 rfl _).trans (binary_result ..)
theorem eq_c_42 : W m c main_c_42 = (constantI S_ 32 0#32) := (fixed2 m c 40 rfl _).trans (nullary_result ..)
theorem eq_v108 : W m c main_v108 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W m c main_v106) (W m c main_v107) (W m c main_c_42) := (fixed2 m c 41 rfl _).trans (ternary_result ..)
theorem eq_v109 : W m c main_v109 = ((fun x i => Host.dynamicSlice S1x44 x (fun k => (i k (Shape.Idx.first h_S_)).toInt) sliceFits_S8x44_S1x44) : (⟨S8x44, .f32⟩ : BufTy).Contents (Elt F) → (Fin 2 → (⟨S_, .i32⟩ : BufTy).Contents (Elt F)) → (⟨S1x44, .f32⟩ : BufTy).Contents (Elt F)) (W m c main_v47) ![W m c main_v105, W m c main_v108] := by
  refine (fixed2 m c 42 rfl _).trans ((unaryIndexed_result ..).trans ?_)
  exact congrArg (((fun x i => Host.dynamicSlice S1x44 x (fun k => (i k (Shape.Idx.first h_S_)).toInt) sliceFits_S8x44_S1x44) : (⟨S8x44, .f32⟩ : BufTy).Contents (Elt F) → (Fin 2 → (⟨S_, .i32⟩ : BufTy).Contents (Elt F)) → (⟨S1x44, .f32⟩ : BufTy).Contents (Elt F)) (W m c main_v47)) (vec2 _ rfl rfl )
theorem eq_v110 : W m c main_v110 = shapeCast S44 (W m c main_v109) shapeCasts_S1x44_S44 := (fixed2 m c 43 rfl _).trans (reshape_result ..)
theorem eq_c_43 : W m c main_c_43 = (constantI S_ 32 0#32) := (fixed2 m c 44 rfl _).trans (nullary_result ..)
theorem eq_v111 : W m c main_v111 = (cmpi .slt : (⟨S_, .i32⟩ : BufTy).Contents (Elt F) → (⟨S_, .i32⟩ : BufTy).Contents (Elt F) → (⟨S_, .i1⟩ : BufTy).Contents (Elt F)) (W m c main_v102) (W m c main_c_43) := (fixed2 m c 45 rfl _).trans (binary_result ..)
theorem eq_c_44 : W m c main_c_44 = (constantI S_ 32 8#32) := (fixed2 m c 46 rfl _).trans (nullary_result ..)
theorem eq_v112 : W m c main_v112 = (addi : (⟨S_, .i32⟩ : BufTy).Contents (Elt F) → (⟨S_, .i32⟩ : BufTy).Contents (Elt F) → (⟨S_, .i32⟩ : BufTy).Contents (Elt F)) (W m c main_v102) (W m c main_c_44) := (fixed2 m c 47 rfl _).trans (binary_result ..)
theorem eq_v113 : W m c main_v113 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W m c main_v111) (W m c main_v112) (W m c main_v102) := (fixed2 m c 48 rfl _).trans (ternary_result ..)
theorem eq_v114 : W m c main_v114 = ((fun x i => Host.dynamicSlice S1 x (fun k => (i k (Shape.Idx.first h_S_)).toInt) sliceFits_S8_S1) : (⟨S8, .f32⟩ : BufTy).Contents (Elt F) → (Fin 1 → (⟨S_, .i32⟩ : BufTy).Contents (Elt F)) → (⟨S1, .f32⟩ : BufTy).Contents (Elt F)) (W m c main_v67) ![W m c main_v113] := by
  refine (fixed2 m c 49 rfl _).trans ((unaryIndexed_result ..).trans ?_)
  exact congrArg (((fun x i => Host.dynamicSlice S1 x (fun k => (i k (Shape.Idx.first h_S_)).toInt) sliceFits_S8_S1) : (⟨S8, .f32⟩ : BufTy).Contents (Elt F) → (Fin 1 → (⟨S_, .i32⟩ : BufTy).Contents (Elt F)) → (⟨S1, .f32⟩ : BufTy).Contents (Elt F)) (W m c main_v67)) (vec1 _ rfl )
theorem eq_v115 : W m c main_v115 = shapeCast S_ (W m c main_v114) shapeCasts_S1_S_ := (fixed2 m c 50 rfl _).trans (reshape_result ..)
theorem eq_c_45 : W m c main_c_45 = (constantI S_ 32 0#32) := (fixed2 m c 51 rfl _).trans (nullary_result ..)
theorem eq_v116 : W m c main_v116 = (cmpi .slt : (⟨S_, .i32⟩ : BufTy).Contents (Elt F) → (⟨S_, .i32⟩ : BufTy).Contents (Elt F) → (⟨S_, .i1⟩ : BufTy).Contents (Elt F)) (W m c main_v33) (W m c main_c_45) := (fixed2 m c 52 rfl _).trans (binary_result ..)
theorem eq_c_46 : W m c main_c_46 = (constantI S_ 32 8192#32) := (fixed2 m c 53 rfl _).trans (nullary_result ..)
theorem eq_v117 : W m c main_v117 = (addi : (⟨S_, .i32⟩ : BufTy).Contents (Elt F) → (⟨S_, .i32⟩ : BufTy).Contents (Elt F) → (⟨S_, .i32⟩ : BufTy).Contents (Elt F)) (W m c main_v33) (W m c main_c_46) := (fixed2 m c 54 rfl _).trans (binary_result ..)
theorem eq_v118 : W m c main_v118 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (W m c main_v116) (W m c main_v117) (W m c main_v33) := (fixed2 m c 55 rfl _).trans (ternary_result ..)
theorem eq_v119 : W m c main_v119 = ((fun x i => Host.dynamicSlice S1 x (fun k => (i k (Shape.Idx.first h_S_)).toInt) sliceFits_S8192_S1) : (⟨S8192, .f32⟩ : BufTy).Contents (Elt F) → (Fin 1 → (⟨S_, .i32⟩ : BufTy).Contents (Elt F)) → (⟨S1, .f32⟩ : BufTy).Contents (Elt F)) (W m c main_v19) ![W m c main_v118] := by
  refine (fixed2 m c 56 rfl _).trans ((unaryIndexed_result ..).trans ?_)
  exact congrArg (((fun x i => Host.dynamicSlice S1 x (fun k => (i k (Shape.Idx.first h_S_)).toInt) sliceFits_S8192_S1) : (⟨S8192, .f32⟩ : BufTy).Contents (Elt F) → (Fin 1 → (⟨S_, .i32⟩ : BufTy).Contents (Elt F)) → (⟨S1, .f32⟩ : BufTy).Contents (Elt F)) (W m c main_v19)) (vec1 _ rfl )
theorem eq_v120 : W m c main_v120 = shapeCast S_ (W m c main_v119) shapeCasts_S1_S_ := (fixed2 m c 57 rfl _).trans (reshape_result ..)
theorem eq_v121 : W m c main_v121 = shapeCast S_ (W m c main_arg2) shapeCasts_S1_S_ := (fixed2 m c 58 rfl _).trans (reshape_result ..)
theorem eq_v122 : W m c main_v122 = (Host.absf : (⟨S_, .f32⟩ : BufTy).Contents (Elt F) → (⟨S_, .f32⟩ : BufTy).Contents (Elt F)) (W m c main_v121) := (fixed2 m c 59 rfl _).trans (unary_result ..)
theorem eq_v123 : W m c main_v123 = (broadcastInDim S1 ![] bcast_S_S1 : (⟨S_, .f32⟩ : BufTy).Contents (Elt F) → (⟨S1, .f32⟩ : BufTy).Contents (Elt F)) (W m c main_v120) := (fixed2 m c 60 rfl _).trans (unary_result ..)
theorem eq_v124 : W m c main_v124 = (broadcastInDim S1 ![] bcast_S_S1 : (⟨S_, .f32⟩ : BufTy).Contents (Elt F) → (⟨S1, .f32⟩ : BufTy).Contents (Elt F)) (W m c main_v122) := (fixed2 m c 61 rfl _).trans (unary_result ..)
theorem eq_v125 : W m c main_v125 = (broadcastInDim S1 ![] bcast_S_S1 : (⟨S_, .f32⟩ : BufTy).Contents (Elt F) → (⟨S1, .f32⟩ : BufTy).Contents (Elt F)) (W m c main_v115) := (fixed2 m c 62 rfl _).trans (unary_result ..)
theorem eq_v126 : W m c main_v126 = (concatenate S3 0 [⟨S1, (W m c main_v123 : (⟨S1, .f32⟩ : BufTy).Contents (Elt F))⟩, ⟨S1, (W m c main_v124 : (⟨S1, .f32⟩ : BufTy).Contents (Elt F))⟩, ⟨S1, (W m c main_v125 : (⟨S1, .f32⟩ : BufTy).Contents (Elt F))⟩] concatenates_S1_S1_S1_S3_d0 : (⟨S3, .f32⟩ : BufTy).Contents (Elt F)) := (fixed2 m c 63 rfl _).trans (nary_result ..)
theorem eq_v127 : W m c main_v127 = ((transpose S3x16 [1, 0] · transposes_S16x3_S3x16_1_0) : (⟨S16x3, .f32⟩ : BufTy).Contents (Elt F) → (⟨S3x16, .f32⟩ : BufTy).Contents (Elt F)) (W m c main_arg16) := (fixed2 m c 64 rfl _).trans (unary_result ..)
theorem eq_v128 : W m c main_v128 = ((fun l r => Host.dotGeneral dot_S3_S3x16_S16_0_0_n_1_n_n none l r) : (⟨S3, .f32⟩ : BufTy).Contents (Elt F) → (⟨S3x16, .f32⟩ : BufTy).Contents (Elt F) → (⟨S16, .f32⟩ : BufTy).Contents (Elt F)) (W m c main_v126) (W m c main_v127) := (fixed2 m c 65 rfl _).trans (binary_result ..)
theorem eq_v129 : W m c main_v129 = (addf : (⟨S16, .f32⟩ : BufTy).Contents (Elt F) → (⟨S16, .f32⟩ : BufTy).Contents (Elt F) → (⟨S16, .f32⟩ : BufTy).Contents (Elt F)) (W m c main_v128) (W m c main_arg17) := (fixed2 m c 66 rfl _).trans (binary_result ..)
theorem eq_v130 : W m c main_v130 = (Host.tanh : (⟨S16, .f32⟩ : BufTy).Contents (Elt F) → (⟨S16, .f32⟩ : BufTy).Contents (Elt F)) (W m c main_v129) := (fixed2 m c 67 rfl _).trans (unary_result ..)
theorem eq_v131 : W m c main_v131 = ((transpose S16x1 [1, 0] · transposes_S1x16_S16x1_1_0) : (⟨S1x16, .f32⟩ : BufTy).Contents (Elt F) → (⟨S16x1, .f32⟩ : BufTy).Contents (Elt F)) (W m c main_arg18) := (fixed3 m c 0 rfl _).trans (unary_result ..)
theorem eq_v132 : W m c main_v132 = ((fun l r => Host.dotGeneral dot_S16_S16x1_S1_0_0_n_1_n_n none l r) : (⟨S16, .f32⟩ : BufTy).Contents (Elt F) → (⟨S16x1, .f32⟩ : BufTy).Contents (Elt F) → (⟨S1, .f32⟩ : BufTy).Contents (Elt F)) (W m c main_v130) (W m c main_v131) := (fixed3 m c 1 rfl _).trans (binary_result ..)
theorem eq_v133 : W m c main_v133 = (addf : (⟨S1, .f32⟩ : BufTy).Contents (Elt F) → (⟨S1, .f32⟩ : BufTy).Contents (Elt F) → (⟨S1, .f32⟩ : BufTy).Contents (Elt F)) (W m c main_v132) (W m c main_arg19) := (fixed3 m c 2 rfl _).trans (binary_result ..)
theorem eq_v134 : W m c main_v134 = (Host.tanh : (⟨S1, .f32⟩ : BufTy).Contents (Elt F) → (⟨S1, .f32⟩ : BufTy).Contents (Elt F)) (W m c main_v133) := (fixed3 m c 3 rfl _).trans (unary_result ..)
theorem eq_v135 : W m c main_v135 = shapeCast S_ (W m c main_v134) shapeCasts_S1_S_ := (fixed3 m c 4 rfl _).trans (reshape_result ..)
theorem eq_v136 : W m c main_v136 = ((transpose S44x32 [1, 0] · transposes_S32x44_S44x32_1_0) : (⟨S32x44, .f32⟩ : BufTy).Contents (Elt F) → (⟨S44x32, .f32⟩ : BufTy).Contents (Elt F)) (W m c main_arg20) := (fixed3 m c 5 rfl _).trans (unary_result ..)
theorem eq_v137 : W m c main_v137 = ((fun l r => Host.dotGeneral dot_S44_S44x32_S32_0_0_n_1_n_n none l r) : (⟨S44, .f32⟩ : BufTy).Contents (Elt F) → (⟨S44x32, .f32⟩ : BufTy).Contents (Elt F) → (⟨S32, .f32⟩ : BufTy).Contents (Elt F)) (W m c main_v110) (W m c main_v136) := (fixed3 m c 6 rfl _).trans (binary_result ..)
theorem eq_v138 : W m c main_v138 = (addf : (⟨S32, .f32⟩ : BufTy).Contents (Elt F) → (⟨S32, .f32⟩ : BufTy).Contents (Elt F) → (⟨S32, .f32⟩ : BufTy).Contents (Elt F)) (W m c main_v137) (W m c main_arg21) := (fixed3 m c 7 rfl _).trans (binary_result ..)
theorem eq_v139 : W m c main_v139 = (broadcastInDim S32 ![] bcast_S_S32 : (⟨S_, .f32⟩ : BufTy).Contents (Elt F) → (⟨S32, .f32⟩ : BufTy).Contents (Elt F)) (W m c main_v135) := (fixed3 m c 8 rfl _).trans (unary_result ..)
theorem eq_v140 : W m c main_v140 = (mulf : (⟨S32, .f32⟩ : BufTy).Contents (Elt F) → (⟨S32, .f32⟩ : BufTy).Contents (Elt F) → (⟨S32, .f32⟩ : BufTy).Contents (Elt F)) (W m c main_v139) (W m c main_v138) := (fixed3 m c 9 rfl _).trans (binary_result ..)
theorem eq_v141 : W m c main_v141 = (addf : (⟨S32, .f32⟩ : BufTy).Contents (Elt F) → (⟨S32, .f32⟩ : BufTy).Contents (Elt F) → (⟨S32, .f32⟩ : BufTy).Contents (Elt F)) (W m c main_v0) (W m c main_v140) := (fixed3 m c 10 rfl _).trans (binary_result ..)
theorem eq_v142 : W m c main_v142 = ((transpose S44x12 [1, 0] · transposes_S12x44_S44x12_1_0) : (⟨S12x44, .f32⟩ : BufTy).Contents (Elt F) → (⟨S44x12, .f32⟩ : BufTy).Contents (Elt F)) (W m c main_arg22) := (fixed3 m c 11 rfl _).trans (unary_result ..)
theorem eq_v143 : W m c main_v143 = ((fun l r => Host.dotGeneral dot_S44_S44x12_S12_0_0_n_1_n_n none l r) : (⟨S44, .f32⟩ : BufTy).Contents (Elt F) → (⟨S44x12, .f32⟩ : BufTy).Contents (Elt F) → (⟨S12, .f32⟩ : BufTy).Contents (Elt F)) (W m c main_v110) (W m c main_v142) := (fixed3 m c 12 rfl _).trans (binary_result ..)
theorem eq_v144 : W m c main_v144 = (addf : (⟨S12, .f32⟩ : BufTy).Contents (Elt F) → (⟨S12, .f32⟩ : BufTy).Contents (Elt F) → (⟨S12, .f32⟩ : BufTy).Contents (Elt F)) (W m c main_v143) (W m c main_arg23) := (fixed3 m c 13 rfl _).trans (binary_result ..)
theorem eq_v145 : W m c main_v145 = shapeCast S3x4 (W m c main_v144) shapeCasts_S12_S3x4 := (fixed3 m c 14 rfl _).trans (reshape_result ..)
theorem eq_v146 : W m c main_v146 = ((extractStridedSlice S1x4 ![0, 0] · slices_S3x4_S1x4_0_0) : (⟨S3x4, .f32⟩ : BufTy).Contents (Elt F) → (⟨S1x4, .f32⟩ : BufTy).Contents (Elt F)) (W m c main_v145) := (fixed3 m c 15 rfl _).trans (unary_result ..)
theorem eq_v147 : W m c main_v147 = shapeCast S4 (W m c main_v146) shapeCasts_S1x4_S4 := (fixed3 m c 16 rfl _).trans (reshape_result ..)
theorem eq_cst_47 : W m c main_cst_47 = (constant S_ .f32 0x3DCCCCCD#32) := (fixed3 m c 17 rfl _).trans (nullary_result ..)
theorem eq_cst_48 : W m c main_cst_48 = (constant S_ .f32 0x3F800000#32) := (fixed3 m c 18 rfl _).trans (nullary_result ..)
theorem eq_call15_v0 : W m c main_call15_v0 = id (W m c main_cst_47) := (fixed3 m c 19 rfl _).trans (unary_result ..)
theorem eq_call15_v1 : W m c main_call15_v1 = (broadcastInDim S4 ![] bcast_S_S4) (W m c main_call15_v0) := (fixed3 m c 20 rfl _).trans (unary_result ..)
theorem eq_call15_v2 : W m c main_call15_v2 = maximumf (W m c main_call15_v1) (W m c main_v147) := (fixed3 m c 21 rfl _).trans (binary_result ..)
theorem eq_call15_v3 : W m c main_call15_v3 = id (W m c main_cst_48) := (fixed3 m c 22 rfl _).trans (unary_result ..)
theorem eq_call15_v4 : W m c main_call15_v4 = (broadcastInDim S4 ![] bcast_S_S4) (W m c main_call15_v3) := (fixed3 m c 23 rfl _).trans (unary_result ..)
theorem eq_v148 : W m c main_v148 = minimumf (W m c main_call15_v4) (W m c main_call15_v2) := (fixed3 m c 24 rfl _).trans (binary_result ..)
theorem eq_v149 : W m c main_v149 = ((extractStridedSlice S1x4 ![1, 0] · slices_S3x4_S1x4_1_0) : (⟨S3x4, .f32⟩ : BufTy).Contents (Elt F) → (⟨S1x4, .f32⟩ : BufTy).Contents (Elt F)) (W m c main_v145) := (fixed3 m c 25 rfl _).trans (unary_result ..)
theorem eq_v150 : W m c main_v150 = shapeCast S4 (W m c main_v149) shapeCasts_S1x4_S4 := (fixed3 m c 26 rfl _).trans (reshape_result ..)
theorem eq_cst_49 : W m c main_cst_49 = (constant S_ .f32 0x3DCCCCCD#32) := (fixed3 m c 27 rfl _).trans (nullary_result ..)
theorem eq_cst_50 : W m c main_cst_50 = (constant S_ .f32 0x3F800000#32) := (fixed3 m c 28 rfl _).trans (nullary_result ..)
theorem eq_call16_v0 : W m c main_call16_v0 = id (W m c main_cst_49) := (fixed3 m c 29 rfl _).trans (unary_result ..)
theorem eq_call16_v1 : W m c main_call16_v1 = (broadcastInDim S4 ![] bcast_S_S4) (W m c main_call16_v0) := (fixed3 m c 30 rfl _).trans (unary_result ..)
theorem eq_call16_v2 : W m c main_call16_v2 = maximumf (W m c main_call16_v1) (W m c main_v150) := (fixed3 m c 31 rfl _).trans (binary_result ..)
theorem eq_call16_v3 : W m c main_call16_v3 = id (W m c main_cst_50) := (fixed3 m c 32 rfl _).trans (unary_result ..)
theorem eq_call16_v4 : W m c main_call16_v4 = (broadcastInDim S4 ![] bcast_S_S4) (W m c main_call16_v3) := (fixed3 m c 33 rfl _).trans (unary_result ..)
theorem eq_v151 : W m c main_v151 = minimumf (W m c main_call16_v4) (W m c main_call16_v2) := (fixed3 m c 34 rfl _).trans (binary_result ..)
theorem eq_v152 : W m c main_v152 = ((extractStridedSlice S1x4 ![2, 0] · slices_S3x4_S1x4_2_0) : (⟨S3x4, .f32⟩ : BufTy).Contents (Elt F) → (⟨S1x4, .f32⟩ : BufTy).Contents (Elt F)) (W m c main_v145) := (fixed3 m c 35 rfl _).trans (unary_result ..)
theorem eq_v153 : W m c main_v153 = shapeCast S4 (W m c main_v152) shapeCasts_S1x4_S4 := (fixed3 m c 36 rfl _).trans (reshape_result ..)
theorem eq_cst_51 : W m c main_cst_51 = (constant S_ .f32 0x3DCCCCCD#32) := (fixed3 m c 37 rfl _).trans (nullary_result ..)
theorem eq_cst_52 : W m c main_cst_52 = (constant S_ .f32 0x3F000000#32) := (fixed3 m c 38 rfl _).trans (nullary_result ..)
theorem eq_call17_v0 : W m c main_call17_v0 = id (W m c main_cst_51) := (fixed3 m c 39 rfl _).trans (unary_result ..)
theorem eq_call17_v1 : W m c main_call17_v1 = (broadcastInDim S4 ![] bcast_S_S4) (W m c main_call17_v0) := (fixed3 m c 40 rfl _).trans (unary_result ..)
theorem eq_call17_v2 : W m c main_call17_v2 = maximumf (W m c main_call17_v1) (W m c main_v153) := (fixed3 m c 41 rfl _).trans (binary_result ..)
theorem eq_call17_v3 : W m c main_call17_v3 = id (W m c main_cst_52) := (fixed3 m c 42 rfl _).trans (unary_result ..)
theorem eq_call17_v4 : W m c main_call17_v4 = (broadcastInDim S4 ![] bcast_S_S4) (W m c main_call17_v3) := (fixed3 m c 43 rfl _).trans (unary_result ..)
theorem eq_v154 : W m c main_v154 = minimumf (W m c main_call17_v4) (W m c main_call17_v2) := (fixed3 m c 44 rfl _).trans (binary_result ..)
theorem eq_v155 : W m c main_v155 = (broadcastInDim S1 ![] bcast_S_S1 : (⟨S_, .f32⟩ : BufTy).Contents (Elt F) → (⟨S1, .f32⟩ : BufTy).Contents (Elt F)) (W m c main_v135) := (fixed3 m c 45 rfl _).trans (unary_result ..)
theorem eq_v156 : W m c main_v156 = (concatenate S8237 0 [⟨S32, (W m c main_v141 : (⟨S32, .f32⟩ : BufTy).Contents (Elt F))⟩, ⟨S1, (W m c main_v155 : (⟨S1, .f32⟩ : BufTy).Contents (Elt F))⟩, ⟨S8192, (W m c main_v36 : (⟨S8192, .f32⟩ : BufTy).Contents (Elt F))⟩, ⟨S4, (W m c main_v148 : (⟨S4, .f32⟩ : BufTy).Contents (Elt F))⟩, ⟨S4, (W m c main_v151 : (⟨S4, .f32⟩ : BufTy).Contents (Elt F))⟩, ⟨S4, (W m c main_v154 : (⟨S4, .f32⟩ : BufTy).Contents (Elt F))⟩] concatenates_S32_S1_S8192_S4_S4_S4_S8237_d0 : (⟨S8237, .f32⟩ : BufTy).Contents (Elt F)) := (fixed3 m c 46 rfl _).trans (nary_result ..)

end Cert.ReferenceIdeal.Line

end
-- ==== Proof.RefArgmax.lean ====
/- The reference's argmax: the word it keeps names the first place where the values are greatest. -/
module

public import proofs.«01_k».proof.Proof.RefEqs
public import proofs.«01_k».proof.Proof.Plain

@[expose] public section

noncomputable section

namespace Cert.ReferenceIdeal.Line

open Cert.ReferenceIdeal Cert.ReferenceIdeal.Gen Cert.First Cert.Plain Idealize.ShloMosaic

/-- Over the extended reals one step of the fold keeps the greater value, of equal ones the lesser position. -/
theorem reducer_eq (a b : EReal × BitVec 32) : reducer_argmax_f32_i32 (F := Ideal) a b = keep a b := by
  obtain ⟨x, u⟩ := a
  obtain ⟨y, w⟩ := b
  have e1 : (FloatOps.cmpf (F := Ideal) (φ := .f32) .ogt x y) = if y < x then 1#1 else 0#1 := by
    show Ideal.cmp .ogt x y = _
    by_cases h : y < x <;> simp [Ideal.cmp, h]
  have e2 : (FloatOps.cmpf (F := Ideal) (φ := .f32) .une x x) = 0#1 := by
    show Ideal.cmp .une x x = 0#1
    simp [Ideal.cmp]
  have e3 : (FloatOps.cmpf (F := Ideal) (φ := .f32) .oeq x y) = if x = y then 1#1 else 0#1 := by
    show Ideal.cmp .oeq x y = _
    by_cases h : x = y <;> simp [Ideal.cmp, h]
  have e4 : IntOp.cmpi .slt u w = if u.toInt < w.toInt then 1#1 else 0#1 := by
    by_cases h : u.toInt < w.toInt <;> simp [IntOp.cmpi, BitVec.slt, h]
  unfold reducer_argmax_f32_i32 keep
  dsimp only
  rw [e1, e2, e3, e4]
  by_cases h1 : y < x <;> by_cases h2 : x = y <;> by_cases h3 : u.toInt < w.toInt <;>
    simp [h1, h2, h3, IntOp.ori, IntOp.andi, Scalar.select]

/-- The word found by an argmax over a vector. -/
theorem argmax_word {n : ℕ} [NeZero n] (hn : n ≤ 2 ^ 30) (x : FVec Ideal ⟨1, ![n]⟩ .f32) (y : (⟨1, ![n]⟩ : Shape).Idx → BitVec 32)
    (hy : ∀ i, y i = BitVec.ofNat 32 (i 0).val) (u : FVec Ideal S_ .f32) (hu : ∀ i, u i = (⊥ : EReal))
    (v : S_.Idx → BitVec 32) (hv : ∀ i, v i = 0#32) (h : (⟨1, ![n]⟩ : Shape).ReducesTo [0] S_) (h0 : 0 < S_.numel) (j : S_.Idx) :
    (Host.argReduce (F := Ideal) reducer_argmax_f32_i32 x y u v h h0 j).2 =
      BitVec.ofNat 32 (first fun k : Fin n => (x (ix1 k) : EReal)).val := by
  rw [Ideal.argReduce_eq_reduce2, Host.reduce2_eq_foldl_fiber, hu, hv]
  have e : (reducer_argmax_f32_i32 : Ideal FTy.f32 × BitVec 32 → _ → _) = keep := funext fun a => funext fun b => reducer_eq a b
  rw [e]
  have hall : ∀ i, h.drop i = j := fun i => funext fun a => a.elim0
  obtain ⟨k, hk, hw⟩ := foldl_first hn (NeZero.pos n) (fun k : Fin n => (x (ix1 k) : EReal)) (Host.argReduceFiber x y h j) fun p => by
    unfold Host.argReduceFiber
    constructor
    · intro hp
      obtain ⟨i, _, rfl⟩ := List.mem_map.mp hp
      refine ⟨(Shape.rowMajor _).symm i 0, Prod.ext (congrArg x ?_) (hy _)⟩
      exact funext fun a => by fin_cases a; rfl
    · rintro ⟨k, rfl⟩
      refine List.mem_map.mpr ⟨Shape.rowMajor _ (ix1 k), List.mem_filter.mpr ⟨List.mem_finRange _, by simp [hall]⟩, ?_⟩
      rw [Equiv.symm_apply_apply]
      exact Prod.ext rfl (hy _)
  rw [first_eq hk]
  exact hw

/-- A position that is not negative needs no wrapping. -/
theorem unwrapped {k : ℕ} (hk : k < 2 ^ 31) (a : BitVec 32) :
    Scalar.select (IntOp.cmpi .slt (BitVec.ofNat 32 k) 0#32) a (BitVec.ofNat 32 k) = BitVec.ofNat 32 k := by
  have h : IntOp.cmpi .slt (BitVec.ofNat 32 k) 0#32 = 0#1 := by
    have := toInt_ofNat hk
    simp only [IntOp.cmpi, BitVec.slt, this]
    rw [decide_eq_false (by simp)]
    rfl
  rw [h]
  rfl

/-- The precision of a slice's start: the word of a small number, read signed. -/
theorem start_toInt {k : ℕ} (hk : k < 2 ^ 31) : (BitVec.ofNat 32 k).toInt = (k : ℤ) := toInt_ofNat hk

end Cert.ReferenceIdeal.Line
-- ==== Proof.RefForms.lean ====
/- The reference's stages over plain families. -/
module

public import proofs.«01_k».proof.Proof.RefArgmax

@[expose] public section

set_option maxRecDepth 16384

noncomputable section

namespace Cert.ReferenceIdeal.Line

open Cert.ReferenceIdeal Cert.ReferenceIdeal.Gen Cert.First Cert.Plain
open Idealize.ShloMosaic Idealize.ShloMosaic.TcCoe Idealize.ShloMosaic.Tactic

variable (m : (ℓ : Loc nD τ sig) → Buf (Elt Ideal) ℓ) (c : Dev nD)

/-- The arguments without their layouts. -/
def plain : Given where
  act k := W m c main_arg0 (ix1 k)
  pfc k := W m c main_arg1 (ix2 0 k)
  ctd := W m c main_arg2 (ix1 0)
  protos n d := W m c main_arg3 (ix2 n d)
  kW1 j k := W m c main_arg5 (ix2 j k)
  kB1 j := W m c main_arg6 (ix1 j)
  kW2 j k := W m c main_arg7 (ix2 j k)
  kB2 j := W m c main_arg8 (ix1 j)
  eps n e d := W m c main_arg9 (ix3 n e d)
  tds n e := W m c main_arg10 (ix2 n e)
  stamps n e := W m c main_arg11 (ix2 n e)
  sW1 k i := W m c main_arg12 (ix2 k i)
  sB1 k := W m c main_arg13 (ix1 k)
  sW2 k := W m c main_arg14 (ix2 0 k)
  sB2 := W m c main_arg15 (ix1 0)
  gW1 k i := W m c main_arg16 (ix2 k i)
  gB1 k := W m c main_arg17 (ix1 k)
  gW2 k := W m c main_arg18 (ix2 0 k)
  gB2 := W m c main_arg19 (ix1 0)
  rpW l d := W m c main_arg20 (ix2 l d)
  rpB l := W m c main_arg21 (ix1 l)
  rnW r d := W m c main_arg22 (ix2 r d)
  rnB r := W m c main_arg23 (ix1 r)

/-- A quotient by a norm, the norm's bound written first. -/
theorem unit_eq {n : ℕ} (v : Fin n → EReal) (i : Fin n) :
    Ideal.div (v i) (max tiny (Ideal.sqrt (∑ x, v x * v x))) = unit v i := by
  unfold unit scale squares
  rw [max_comm]

theorem comb_form : (W m c main_v1 : S288.Idx → EReal) = fun i => (plain m c).comb (i 0) := funext fun i => by
  idx_vars i
  rw [eq_v1, eq_v0]
  pointwise
  rfl

theorem hid_form : (W m c main_v5 : S512.Idx → EReal) = fun i => (plain m c).hid (i 0) := funext fun i => by
  idx_vars i
  rw [eq_v5, eq_call0_v0, eq_call0_cst, eq_v4, eq_v3, eq_v2, comb_form]
  pointwise
  rfl

theorem key_form : (W m c main_v8 : S256.Idx → EReal) = fun i => (plain m c).key (i 0) := funext fun i => by
  idx_vars i
  rw [eq_v8, eq_v7, eq_v6, hid_form]
  pointwise
  rfl

theorem unit_key : (W m c main_v14 : S256.Idx → EReal) = fun i => unit (plain m c).key (i 0) := funext fun i => by
  idx_vars i
  rw [eq_v14, eq_v13, eq_v12, eq_v11, eq_call2_v1, eq_call2_v0, eq_cst, eq_v10, eq_call1_v2, eq_call1_v1, eq_call1_cst, eq_call1_v0, eq_v9, key_form]
  pointwise
  exact unit_eq (plain m c).key _

theorem sims_form : (W m c main_v19 : S8192.Idx → EReal) = fun i => (plain m c).sims (i 0) := funext fun i => by
  idx_vars i
  rw [eq_v19, eq_v18, eq_v17, eq_v16, eq_call4_v1, eq_call4_v0, eq_cst_0, eq_v15, eq_call3_v2, eq_call3_v1, eq_call3_cst, eq_call3_v0, unit_key]
  pointwise
  exact Finset.sum_congr (M := EReal) rfl fun x _ => congrArg (fun z : EReal => z * _) (unit_eq ((plain m c).protos _) x)

/-- The word of the slot picked. -/
theorem slot_word : (W m c main_v33 : S_.Idx → BitVec 32) = fun _ => BitVec.ofNat 32 (plain m c).slot.val := funext fun i => by
  rw [eq_v33, eq_call5_c, eq_call5_cst, eq_call5_v0, sims_form]
  exact argmax_word (by norm_num) _ _ (fun _ => rfl) _ (fun _ => ofBits_negInf) _ (fun _ => rfl) _ _ i

/-! ### The slices' starts -/

/-- A start inside the operand. -/
theorem at_start {s t : Shape} {ht : t.rank = s.rank} {start : Fin s.rank → ℤ} (a : Fin s.rank) (k : ℕ) (hk : start a = k)
    (hle : k + t.size (a.cast ht.symm) ≤ s.size a) : Host.clampedStart s t ht start a = k :=
  Host.clampedStart_of_le ht start a k hk hle

/-- A start at the operand's beginning leaves a coordinate as it is. -/
theorem at_zero {s t : Shape} {ht : t.rank = s.rank} {start : Fin s.rank → ℤ} (a : Fin s.rank) (hk : start a = 0)
    (hle : t.size (a.cast ht.symm) ≤ s.size a) (i : ℕ) : Host.clampedStart s t ht start a + i = i := by
  rw [at_start a 0 hk (by omega), Nat.zero_add]

/-- A start of whole rows. -/
theorem at_row {s t : Shape} {ht : t.rank = s.rank} {start : Fin s.rank → ℤ} (a : Fin s.rank) {n : ℕ} (k : Fin n)
    (hk : start a = (k.val : ℤ)) (h1 : t.size (a.cast ht.symm) = 1) (hn : s.size a = n) : Host.clampedStart s t ht start a = k.val :=
  at_start a k.val hk (by have := k.isLt; omega)

/-- One of three operands put one after the other. -/
theorem pick3_eq {α : Type} (a b d : α) (i : Fin 3) :
    (if _h : i.val < 1 then a else if _h : i.val - 1 < 1 then b else d) = pick3 a b d i := by
  unfold pick3
  split_ifs <;> first | rfl | omega

/-- The bits of one. -/
theorem one_at : (id (constant (F := Ideal) S_ FTy.f32 1065353216#32) ix0 : EReal) = 1 := by
  show (constant (F := Ideal) S_ FTy.f32 1065353216#32) ix0 = (1 : EReal)
  pointwise

/-- One row of a matrix, its start given as words. -/
theorem slice2 {α : Type} {n k : ℕ} (x : (⟨2, ![n, k]⟩ : Shape).Idx → α) (start : Fin 2 → ℤ) (s : Fin n)
    (h0 : start 0 = (s.val : ℤ)) (h1 : start 1 = 0) (h : (⟨2, ![n, k]⟩ : Shape).Slices (fun _ => 0) ⟨2, ![1, k]⟩) (d : Fin k) :
    Host.dynamicSlice ⟨2, ![1, k]⟩ x start h (ix2 0 d) = x (ix2 s d) := by
  rw [Host.dynamicSlice_apply]
  refine congrArg x (funext fun a => ?_)
  fin_cases a
  · exact Fin.ext (congrArg (· + 0) (at_row (s := ⟨2, ![n, k]⟩) (t := ⟨2, ![1, k]⟩) (0 : Fin 2) s h0 rfl rfl))
  · exact Fin.ext (at_zero (s := ⟨2, ![n, k]⟩) (t := ⟨2, ![1, k]⟩) (1 : Fin 2) h1 le_rfl _)

/-- One matrix of a block. -/
theorem slice3 {α : Type} {n k l : ℕ} (x : (⟨3, ![n, k, l]⟩ : Shape).Idx → α) (start : Fin 3 → ℤ) (s : Fin n)
    (h0 : start 0 = (s.val : ℤ)) (h1 : start 1 = 0) (h2 : start 2 = 0)
    (h : (⟨3, ![n, k, l]⟩ : Shape).Slices (fun _ => 0) ⟨3, ![1, k, l]⟩) (e : Fin k) (d : Fin l) :
    Host.dynamicSlice ⟨3, ![1, k, l]⟩ x start h (ix3 0 e d) = x (ix3 s e d) := by
  rw [Host.dynamicSlice_apply]
  refine congrArg x (funext fun a => ?_)
  fin_cases a
  · exact Fin.ext (congrArg (· + 0) (at_row (s := ⟨3, ![n, k, l]⟩) (t := ⟨3, ![1, k, l]⟩) (0 : Fin 3) s h0 rfl rfl))
  · exact Fin.ext (at_zero (s := ⟨3, ![n, k, l]⟩) (t := ⟨3, ![1, k, l]⟩) (1 : Fin 3) h1 le_rfl _)
  · exact Fin.ext (at_zero (s := ⟨3, ![n, k, l]⟩) (t := ⟨3, ![1, k, l]⟩) (2 : Fin 3) h2 le_rfl _)

/-- One place of a vector. -/
theorem slice1 {α : Type} {n : ℕ} (x : (⟨1, ![n]⟩ : Shape).Idx → α) (start : Fin 1 → ℤ) (s : Fin n) (h0 : start 0 = (s.val : ℤ))
    (h : (⟨1, ![n]⟩ : Shape).Slices (fun _ => 0) ⟨1, ![1]⟩) : Host.dynamicSlice ⟨1, ![1]⟩ x start h (ix1 0) = x (ix1 s) := by
  rw [Host.dynamicSlice_apply]
  refine congrArg x (funext fun a => ?_)
  fin_cases a
  exact Fin.ext (congrArg (· + 0) (at_row (s := ⟨1, ![n]⟩) (t := ⟨1, ![1]⟩) (0 : Fin 1) s h0 rfl rfl))

theorem zero_int : (0#32 : BitVec 32).toInt = 0 := by decide

theorem slot_int : (BitVec.ofNat 32 (plain m c).slot.val).toInt = ((plain m c).slot.val : ℤ) :=
  toInt_ofNat ((plain m c).slot.isLt.trans (by norm_num))

theorem start_v39 : (W m c main_v39 : S_.Idx → BitVec 32) = fun _ => BitVec.ofNat 32 (plain m c).slot.val := by
  rw [eq_v39, eq_v38, eq_c_4, eq_v37, eq_c, slot_word]
  exact funext fun _ => unwrapped ((plain m c).slot.isLt.trans (by norm_num)) _
theorem start_v62 : (W m c main_v62 : S_.Idx → BitVec 32) = fun _ => BitVec.ofNat 32 (plain m c).slot.val := by
  rw [eq_v62, eq_v61, eq_c_18, eq_v60, eq_c_17, slot_word]
  exact funext fun _ => unwrapped ((plain m c).slot.isLt.trans (by norm_num)) _
theorem start_v70 : (W m c main_v70 : S_.Idx → BitVec 32) = fun _ => BitVec.ofNat 32 (plain m c).slot.val := by
  rw [eq_v70, eq_v69, eq_c_25, eq_v68, eq_c_24, slot_word]
  exact funext fun _ => unwrapped ((plain m c).slot.isLt.trans (by norm_num)) _
theorem start_v118 : (W m c main_v118 : S_.Idx → BitVec 32) = fun _ => BitVec.ofNat 32 (plain m c).slot.val := by
  rw [eq_v118, eq_v117, eq_c_46, eq_v116, eq_c_45, slot_word]
  exact funext fun _ => unwrapped ((plain m c).slot.isLt.trans (by norm_num)) _
theorem start_v42 : (W m c main_v42 : S_.Idx → BitVec 32) = fun _ => 0#32 := by
  rw [eq_v42, eq_c_9, eq_v41, eq_c_8, eq_c_7, eq_v40, eq_c_6, eq_c_5]
  rfl
theorem start_v45 : (W m c main_v45 : S_.Idx → BitVec 32) = fun _ => 0#32 := by
  rw [eq_v45, eq_c_14, eq_v44, eq_c_13, eq_c_12, eq_v43, eq_c_11, eq_c_10]
  rfl
theorem start_v65 : (W m c main_v65 : S_.Idx → BitVec 32) = fun _ => 0#32 := by
  rw [eq_v65, eq_c_23, eq_v64, eq_c_22, eq_c_21, eq_v63, eq_c_20, eq_c_19]
  rfl
theorem start_v73 : (W m c main_v73 : S_.Idx → BitVec 32) = fun _ => 0#32 := by
  rw [eq_v73, eq_c_30, eq_v72, eq_c_29, eq_c_28, eq_v71, eq_c_27, eq_c_26]
  rfl
theorem start_v108 : (W m c main_v108 : S_.Idx → BitVec 32) = fun _ => 0#32 := by
  rw [eq_v108, eq_c_42, eq_v107, eq_c_41, eq_c_40, eq_v106, eq_c_39, eq_c_38]
  rfl

theorem eps_form : (W m c main_v47 : S8x44.Idx → EReal) = fun i => (plain m c).eps (plain m c).slot (i 0) (i 1) := funext fun i => by
  idx_vars i
  rw [eq_v47]
  have h : (W m c main_v46) (ix3 0 i0 i1) = (W m c main_arg9) (ix3 (plain m c).slot i0 i1) := by
    rw [eq_v46, start_v39, start_v42, start_v45]
    exact slice3 _ _ _ (slot_int m c) zero_int zero_int _ i0 i1
  refine Eq.trans ?_ h
  pointwise

theorem td_form : (W m c main_v67 : S8.Idx → EReal) = fun i => (plain m c).tds (plain m c).slot (i 0) := funext fun i => by
  idx_vars i
  rw [eq_v67]
  have h : (W m c main_v66) (ix2 0 i0) = (W m c main_arg10) (ix2 (plain m c).slot i0) := by
    rw [eq_v66, start_v62, start_v65]
    exact slice2 _ _ _ (slot_int m c) zero_int _ i0
  refine Eq.trans ?_ h
  pointwise

theorem stamp_form : (W m c main_v75 : S8.Idx → EReal) = fun i => (plain m c).stamps (plain m c).slot (i 0) := funext fun i => by
  idx_vars i
  rw [eq_v75]
  have h : (W m c main_v74) (ix2 0 i0) = (W m c main_arg11) (ix2 (plain m c).slot i0) := by
    rw [eq_v74, start_v70, start_v73]
    exact slice2 _ _ _ (slot_int m c) zero_int _ i0
  refine Eq.trans ?_ h
  pointwise

theorem unit_pfc : (W m c main_v54 : S32.Idx → EReal) = fun i => unit (plain m c).pfc (i 0) := funext fun i => by
  idx_vars i
  rw [eq_v54, eq_v53, eq_v52, eq_v51, eq_call8_v1, eq_call8_v0, eq_cst_15, eq_v50, eq_call7_v2, eq_call7_v1, eq_call7_cst, eq_call7_v0, eq_v49, eq_v0]
  pointwise
  exact unit_eq (plain m c).pfc _

theorem epSim_form : (W m c main_v59 : S8.Idx → EReal) = fun i => (plain m c).epSim (i 0) := funext fun i => by
  idx_vars i
  rw [eq_v59, eq_v58, eq_v57, eq_v56, eq_call10_v1, eq_call10_v0, eq_cst_16, eq_v55, eq_call9_v2, eq_call9_v1, eq_call9_cst, eq_call9_v0, eq_v48, eps_form, unit_pfc]
  pointwise
  exact Finset.sum_congr (M := EReal) rfl fun x _ => congrArg (fun z : EReal => z * _) (unit_eq (fun d : Fin 32 => (plain m c).eps (plain m c).slot _ ⟨d.val, _⟩) x)

theorem recency_form : (W m c main_v83 : S8.Idx → EReal) = fun i => (plain m c).recency (i 0) := funext fun i => by
  idx_vars i
  rw [eq_v83, eq_v82, eq_cst_34, eq_v81, eq_v80, eq_v79, eq_call11_v0, eq_cst_33, eq_v78, eq_cst_32, eq_v77, eq_v76, eq_cst_31, stamp_form]
  pointwise
  rw [one_at, ofBits_negInf, max_comm]
  rfl

theorem mag_form : (W m c main_v85 : S8.Idx → EReal) = fun i => max (mag ((plain m c).tds (plain m c).slot (i 0))) (Ideal.ofBits FTy.f32 897988541#32) := funext fun i => by
  idx_vars i
  rw [eq_v85, eq_call12_v1, eq_call12_v0, eq_cst_35, eq_v84, td_form]
  pointwise
  exact max_comm (α := EReal) _ _

theorem feat_form : (W m c main_v89 : S8x3.Idx → EReal) = fun i => (plain m c).feat (i 0) (i 1) := funext fun i => by
  idx_vars i
  rw [eq_v89, eq_v88, eq_v87, eq_v86, epSim_form, mag_form, recency_form]
  pointwise
  exact pick3_eq _ _ _ _

theorem rel_form : (W m c main_v101 : S8.Idx → EReal) = fun i => (plain m c).rel (i 0) := funext fun i => by
  idx_vars i
  rw [eq_v101, eq_v100, eq_v99, eq_v98, eq_v97, eq_v96, eq_v95, eq_call13_v0, eq_call13_cst, eq_v94, eq_v93, eq_v92, eq_v91, eq_v90, feat_form]
  pointwise
  rfl

/-- The word of the episode picked. -/
theorem best_word : (W m c main_v102 : S_.Idx → BitVec 32) = fun _ => BitVec.ofNat 32 (plain m c).best.val := funext fun i => by
  rw [eq_v102, eq_call14_c, eq_call14_cst, eq_call14_v0, rel_form]
  exact argmax_word (by norm_num) _ _ (fun _ => rfl) _ (fun _ => ofBits_negInf) _ (fun _ => rfl) _ _ i

theorem best_int : (BitVec.ofNat 32 (plain m c).best.val).toInt = ((plain m c).best.val : ℤ) :=
  toInt_ofNat ((plain m c).best.isLt.trans (by norm_num))

theorem start_v105 : (W m c main_v105 : S_.Idx → BitVec 32) = fun _ => BitVec.ofNat 32 (plain m c).best.val := by
  rw [eq_v105, eq_v104, eq_c_37, eq_v103, eq_c_36, best_word]
  exact funext fun _ => unwrapped ((plain m c).best.isLt.trans (by norm_num)) _
theorem start_v113 : (W m c main_v113 : S_.Idx → BitVec 32) = fun _ => BitVec.ofNat 32 (plain m c).best.val := by
  rw [eq_v113, eq_v112, eq_c_44, eq_v111, eq_c_43, best_word]
  exact funext fun _ => unwrapped ((plain m c).best.isLt.trans (by norm_num)) _

theorem content_form : (W m c main_v110 : S44.Idx → EReal) = fun i => (plain m c).content (i 0) := funext fun i => by
  idx_vars i
  rw [eq_v110]
  have h : (W m c main_v109) (ix2 0 i0) = (plain m c).content i0 := by
    rw [eq_v109, start_v105, start_v108, eps_form]
    exact (slice2 _ _ _ (best_int m c) zero_int _ i0)
  refine Eq.trans ?_ h
  pointwise

theorem bestTd_form : (W m c main_v115 : S_.Idx → EReal) = fun _ => (plain m c).tds (plain m c).slot (plain m c).best := funext fun i => by
  rw [ValueIdx.eq_ix0 i]
  rw [eq_v115]
  have h : (W m c main_v114) (ix1 0) = (plain m c).tds (plain m c).slot (plain m c).best := by
    rw [eq_v114, start_v113, td_form]
    exact slice1 _ _ _ (best_int m c) _
  refine Eq.trans ?_ h
  pointwise

theorem bestSim_form : (W m c main_v120 : S_.Idx → EReal) = fun _ => (plain m c).sims (plain m c).slot := funext fun i => by
  rw [ValueIdx.eq_ix0 i]
  rw [eq_v120]
  have h : (W m c main_v119) (ix1 0) = (plain m c).sims (plain m c).slot := by
    rw [eq_v119, start_v118, sims_form]
    exact slice1 _ _ _ (slot_int m c) _
  refine Eq.trans ?_ h
  pointwise

theorem gateIn_form : (W m c main_v126 : S3.Idx → EReal) = fun i => pick3 ((plain m c).sims (plain m c).slot) (mag (plain m c).ctd) ((plain m c).tds (plain m c).slot (plain m c).best) (i 0) := funext fun i => by
  idx_vars i
  rw [eq_v126, eq_v125, eq_v124, eq_v123, eq_v122, eq_v121, bestSim_form, bestTd_form]
  pointwise
  exact pick3_eq _ _ _ _

theorem gate_form : (W m c main_v130 : S16.Idx → EReal) = fun i => (plain m c).gate (i 0) := funext fun i => by
  idx_vars i
  rw [eq_v130, eq_v129, eq_v128, eq_v127, gateIn_form]
  pointwise
  rfl

theorem alpha_form : (W m c main_v135 : S_.Idx → EReal) = fun _ => (plain m c).alpha := funext fun i => by
  rw [ValueIdx.eq_ix0 i, eq_v135, eq_v134, eq_v133, eq_v132, eq_v131, gate_form]
  pointwise
  rfl

theorem newPfc_form : (W m c main_v141 : S32.Idx → EReal) = fun i => (plain m c).newPfc (i 0) := funext fun i => by
  idx_vars i
  rw [eq_v141, eq_v140, eq_v139, eq_v138, eq_v137, eq_v136, eq_v0, alpha_form, content_form]
  pointwise
  rfl

theorem rate0_form : (W m c main_v148 : S4.Idx → EReal) = fun i => (plain m c).rate 1 ⟨(i 0).val, by have h : (i 0).val < 4 := (i 0).isLt; omega⟩ := funext fun i => by
  idx_vars i
  rw [eq_v148, eq_call15_v4, eq_call15_v3, eq_call15_v2, eq_call15_v1, eq_call15_v0, eq_cst_48, eq_cst_47, eq_v147, eq_v146, eq_v145, eq_v144, eq_v143, eq_v142, content_form]
  pointwise
  rw [one_at]
  rfl

theorem rate1_form : (W m c main_v151 : S4.Idx → EReal) = fun i => (plain m c).rate 1 ⟨4 + (i 0).val, by have h : (i 0).val < 4 := (i 0).isLt; omega⟩ := funext fun i => by
  idx_vars i
  rw [eq_v151, eq_call16_v4, eq_call16_v3, eq_call16_v2, eq_call16_v1, eq_call16_v0, eq_cst_50, eq_cst_49, eq_v150, eq_v149, eq_v145, eq_v144, eq_v143, eq_v142, content_form]
  pointwise
  rw [one_at]
  rfl

theorem rate2_form : (W m c main_v154 : S4.Idx → EReal) = fun i => (plain m c).rate (Ideal.ofBits FTy.f32 1056964608#32) ⟨8 + (i 0).val, by have h : (i 0).val < 4 := (i 0).isLt; omega⟩ := funext fun i => by
  idx_vars i
  rw [eq_v154, eq_call17_v4, eq_call17_v3, eq_call17_v2, eq_call17_v1, eq_call17_v0, eq_cst_52, eq_cst_51, eq_v153, eq_v152, eq_v145, eq_v144, eq_v143, eq_v142, content_form]
  pointwise
  rfl

end Cert.ReferenceIdeal.Line

end
-- ==== Proof.RefResult.lean ====
/- The reference's one-hot of the slot picked, and its result. -/
module

public import proofs.«01_k».proof.Proof.RefForms
public import proofs.«01_k».proof.Proof.Whole

@[expose] public section

set_option maxRecDepth 16384

noncomputable section

namespace Cert.ReferenceIdeal.Line

open Cert.ReferenceIdeal Cert.ReferenceIdeal.Gen Cert.First Cert.Plain
open Idealize.ShloMosaic Idealize.ShloMosaic.TcCoe Idealize.ShloMosaic.Tactic

variable (m : (ℓ : Loc nD τ sig) → Buf (Elt Ideal) ℓ) (c : Dev nD)

/-- The softmax is finite where the temperature is. -/
theorem soft_finite (hT : Finite (Ideal.exp (W m c main_arg4 ix0))) (k : Fin 8192) : Finite (W m c main_v32 (ix1 k)) := by
  rw [eq_v32, eq_v31, eq_v30, eq_v29, eq_cst_3, eq_v28, eq_v27, eq_v26, eq_v25, eq_v24, eq_cst_2, eq_v23, eq_cst_1, eq_v22, eq_v21, eq_v20, sims_form]
  pointwise
  rw [ofBits_negInf, max_bot_left]
  refine softmax_finite (fun x => (plain m c).sims x * Ideal.exp (W m c main_arg4 ix0)) (fun x => (Given.sims_finite _ x).mul hT) _ ?_ k
  obtain ⟨i, hi⟩ := (fold_max_spec fun x => (plain m c).sims x * Ideal.exp (W m c main_arg4 ix0)).2
  exact ⟨i, hi.symm⟩

/-- A comparison's word as a number. -/
theorem indicator (j k : Fin 8192) :
    (FloatOps.uitofp .f32 (IntOp.cmpi .eq (BitVec.ofNat 32 j.val) (BitVec.ofNat 32 k.val)) : Ideal .f32) = if k = j then 1 else 0 := by
  by_cases e : k = j
  · subst e
    rw [if_pos rfl]
    have h : IntOp.cmpi .eq (BitVec.ofNat 32 k.val) (BitVec.ofNat 32 k.val) = 1#1 := by simp [IntOp.cmpi]
    rw [h]
    show (((1#1 : BitVec 1).toNat : ℝ) : EReal) = 1
    norm_num
  · rw [if_neg e]
    have h : IntOp.cmpi .eq (BitVec.ofNat 32 j.val) (BitVec.ofNat 32 k.val) = 0#1 := by
      have hb : (BitVec.ofNat 32 j.val == BitVec.ofNat 32 k.val) = false := beq_eq_false_iff_ne.mpr fun h => e (Fin.ext (by
        have := congrArg BitVec.toNat h
        rw [BitVec.toNat_ofNat, BitVec.toNat_ofNat, Nat.mod_eq_of_lt (by omega), Nat.mod_eq_of_lt (by omega)] at this
        exact this.symm))
      simp [IntOp.cmpi, hb]
    rw [h]
    show (((0#1 : BitVec 1).toNat : ℝ) : EReal) = 0
    norm_num

/-- The one-hot of the slot picked: what is taken away is added back. -/
theorem pick_form (hT : Finite (Ideal.exp (W m c main_arg4 ix0))) (n : Fin 8192) : (W m c main_v36 (ix1 n) : EReal) = (plain m c).oneHot n := by
  rw [eq_v36, eq_v35, eq_v34, eq_call6_v3, eq_call6_v2, eq_call6_v1, eq_call6_v0]
  pointwise
  rw [sub_add_finite _ (soft_finite m c hT n), slot_word]
  exact indicator (plain m c).slot n

theorem second {a : ℕ} (h : ¬a < 4) (h' : a - 4 < 4) : a < 8 := by omega
theorem third {a : ℕ} (h : ¬a - 4 < 4) : ¬a < 8 := by omega

/-- The result. -/
theorem result_form (hT : Finite (Ideal.exp (W m c main_arg4 ix0))) (n : Fin 8237) : (W m c main_v156 (ix1 n) : EReal) = (plain m c).whole n := by
  rw [eq_v156, eq_v155, newPfc_form, alpha_form, rate0_form, rate1_form, rate2_form]
  pointwise
  unfold Given.whole
  split
  · rfl
  split
  · rfl
  split
  · exact pick_form m c hT _
  split
  · exact Given.rate_congr _ (Given.most_low (by omega)).symm rfl
  split
  · rename_i h4 h5
    refine Given.rate_congr _ (Given.most_low (second h4 h5)).symm ?_
    show 4 + (n.val - 32 - 1 - 8192 - 4) = n.val - 32 - 1 - 8192
    omega
  · rename_i h4 h5
    refine Given.rate_congr _ (Given.most_high (third h5)).symm ?_
    show 8 + (n.val - 32 - 1 - 8192 - 4 - 4) = n.val - 32 - 1 - 8192
    omega

end Cert.ReferenceIdeal.Line

end
-- ==== Proof.Equation.lean ====
/- Both programs' operands as one, and their results equal. -/
module

public import proofs.«01_k».proof.Proof.KernelResult
public import proofs.«01_k».proof.Proof.RefResult
public import Idealize.ShloMosaic.Lib.ValueLayout

@[expose] public section

set_option maxRecDepth 16384

noncomputable section

namespace Cert.Equation

open Cert.First Cert.Plain
open Idealize.ShloMosaic Idealize.ShloMosaic.TcCoe Idealize.ShloMosaic.Tactic

/-- The arguments, read without their layouts. -/
def given (a0 : (⟨1, ![256]⟩ : Shape).Idx → EReal)
    (a1 : (⟨2, ![1, 32]⟩ : Shape).Idx → EReal)
    (a2 : (⟨1, ![1]⟩ : Shape).Idx → EReal)
    (a3 : (⟨2, ![8192, 256]⟩ : Shape).Idx → EReal)
    (a5 : (⟨2, ![512, 288]⟩ : Shape).Idx → EReal)
    (a6 : (⟨1, ![512]⟩ : Shape).Idx → EReal)
    (a7 : (⟨2, ![256, 512]⟩ : Shape).Idx → EReal)
    (a8 : (⟨1, ![256]⟩ : Shape).Idx → EReal)
    (a9 : (⟨3, ![8192, 8, 44]⟩ : Shape).Idx → EReal)
    (a10 : (⟨2, ![8192, 8]⟩ : Shape).Idx → EReal)
    (a11 : (⟨2, ![8192, 8]⟩ : Shape).Idx → EReal)
    (a12 : (⟨2, ![8, 3]⟩ : Shape).Idx → EReal)
    (a13 : (⟨1, ![8]⟩ : Shape).Idx → EReal)
    (a14 : (⟨2, ![1, 8]⟩ : Shape).Idx → EReal)
    (a15 : (⟨1, ![1]⟩ : Shape).Idx → EReal)
    (a16 : (⟨2, ![16, 3]⟩ : Shape).Idx → EReal)
    (a17 : (⟨1, ![16]⟩ : Shape).Idx → EReal)
    (a18 : (⟨2, ![1, 16]⟩ : Shape).Idx → EReal)
    (a19 : (⟨1, ![1]⟩ : Shape).Idx → EReal)
    (a20 : (⟨2, ![32, 44]⟩ : Shape).Idx → EReal)
    (a21 : (⟨1, ![32]⟩ : Shape).Idx → EReal)
    (a22 : (⟨2, ![12, 44]⟩ : Shape).Idx → EReal)
    (a23 : (⟨1, ![12]⟩ : Shape).Idx → EReal) : Given where
  act k := a0 (ix1 k)
  pfc k := a1 (ix2 0 k)
  ctd := a2 (ix1 0)
  protos n d := a3 (ix2 n d)
  kW1 j k := a5 (ix2 j k)
  kB1 j := a6 (ix1 j)
  kW2 j k := a7 (ix2 j k)
  kB2 j := a8 (ix1 j)
  eps n e d := a9 (ix3 n e d)
  tds n e := a10 (ix2 n e)
  stamps n e := a11 (ix2 n e)
  sW1 k i := a12 (ix2 k i)
  sB1 k := a13 (ix1 k)
  sW2 k := a14 (ix2 0 k)
  sB2 := a15 (ix1 0)
  gW1 k i := a16 (ix2 k i)
  gB1 k := a17 (ix1 k)
  gW2 k := a18 (ix2 0 k)
  gB2 := a19 (ix1 0)
  rpW l d := a20 (ix2 l d)
  rpB l := a21 (ix1 l)
  rnW r d := a22 (ix2 r d)
  rnB r := a23 (ix1 r)

/-- The kernel program's operands are its arguments. -/
theorem kernel_given (m : (ℓ : Loc Cert.KernelIdeal.nD Cert.KernelIdeal.τ Cert.KernelIdeal.sig) → Buf (Elt Ideal) ℓ) (c : Dev Cert.KernelIdeal.nD) :
    Cert.KernelIdeal.Hand.plain (Cert.KernelIdeal.Hand.found m c) = given
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23)) := by
  unfold Cert.KernelIdeal.Hand.plain Cert.KernelIdeal.Hand.found given
  dsimp only
  open Cert.KernelIdeal Cert.KernelIdeal.Gen Cert.KernelIdeal.Hand in
  rw [found_v0, found_v1, found_v2, found_v3, found_v4, found_v5, found_v6, found_v7, found_v8, found_v9,
    V_main_arg1, V_main_arg3, V_main_arg5, V_main_arg7, V_main_arg9, V_main_arg10, V_main_arg11, V_main_arg12, V_main_arg14, V_main_arg16, V_main_arg18, V_main_arg20, V_main_arg22]
  rw [Given.mk.injEq]
  exact ⟨funext fun k => ValueIdx.shapeCast_a_1a_apply _ _ 0 k, rfl, ValueIdx.shapeCast_a_1a_apply _ _ 0 0, rfl, rfl, funext fun k => ValueIdx.shapeCast_a_1a_apply _ _ 0 k, rfl, funext fun k => ValueIdx.shapeCast_a_1a_apply _ _ 0 k, rfl, rfl, rfl, rfl, funext fun k => ValueIdx.shapeCast_a_1a_apply _ _ 0 k, rfl, ValueIdx.shapeCast_a_1a_apply _ _ 0 0, rfl, funext fun k => ValueIdx.shapeCast_a_1a_apply _ _ 0 k, rfl, ValueIdx.shapeCast_a_1a_apply _ _ 0 0, rfl, funext fun k => ValueIdx.shapeCast_a_1a_apply _ _ 0 k, rfl, funext fun k => ValueIdx.shapeCast_a_1a_apply _ _ 0 k⟩

/-- The reference's operands are its arguments. -/
theorem reference_given (m : (ℓ : Loc Cert.ReferenceIdeal.nD Cert.ReferenceIdeal.τ Cert.ReferenceIdeal.sig) → Buf (Elt Ideal) ℓ) (c : Dev Cert.ReferenceIdeal.nD) :
    Cert.ReferenceIdeal.Line.plain m c = given
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
      (m ((c.tc : Thread Cert.ReferenceIdeal.nD Cert.ReferenceIdeal.τ).loc Cert.ReferenceIdeal.main_arg13))
      (m ((c.tc : Thread Cert.ReferenceIdeal.nD Cert.ReferenceIdeal.τ).loc Cert.ReferenceIdeal.main_arg14))
      (m ((c.tc : Thread Cert.ReferenceIdeal.nD Cert.ReferenceIdeal.τ).loc Cert.ReferenceIdeal.main_arg15))
      (m ((c.tc : Thread Cert.ReferenceIdeal.nD Cert.ReferenceIdeal.τ).loc Cert.ReferenceIdeal.main_arg16))
      (m ((c.tc : Thread Cert.ReferenceIdeal.nD Cert.ReferenceIdeal.τ).loc Cert.ReferenceIdeal.main_arg17))
      (m ((c.tc : Thread Cert.ReferenceIdeal.nD Cert.ReferenceIdeal.τ).loc Cert.ReferenceIdeal.main_arg18))
      (m ((c.tc : Thread Cert.ReferenceIdeal.nD Cert.ReferenceIdeal.τ).loc Cert.ReferenceIdeal.main_arg19))
      (m ((c.tc : Thread Cert.ReferenceIdeal.nD Cert.ReferenceIdeal.τ).loc Cert.ReferenceIdeal.main_arg20))
      (m ((c.tc : Thread Cert.ReferenceIdeal.nD Cert.ReferenceIdeal.τ).loc Cert.ReferenceIdeal.main_arg21))
      (m ((c.tc : Thread Cert.ReferenceIdeal.nD Cert.ReferenceIdeal.τ).loc Cert.ReferenceIdeal.main_arg22))
      (m ((c.tc : Thread Cert.ReferenceIdeal.nD Cert.ReferenceIdeal.τ).loc Cert.ReferenceIdeal.main_arg23)) := by
  have h := Cert.ReferenceIdeal.Line.final_arg m c
  show given (Cert.ReferenceIdeal.Line.W m c Cert.ReferenceIdeal.main_arg0) (Cert.ReferenceIdeal.Line.W m c Cert.ReferenceIdeal.main_arg1) (Cert.ReferenceIdeal.Line.W m c Cert.ReferenceIdeal.main_arg2) (Cert.ReferenceIdeal.Line.W m c Cert.ReferenceIdeal.main_arg3) (Cert.ReferenceIdeal.Line.W m c Cert.ReferenceIdeal.main_arg5) (Cert.ReferenceIdeal.Line.W m c Cert.ReferenceIdeal.main_arg6) (Cert.ReferenceIdeal.Line.W m c Cert.ReferenceIdeal.main_arg7) (Cert.ReferenceIdeal.Line.W m c Cert.ReferenceIdeal.main_arg8) (Cert.ReferenceIdeal.Line.W m c Cert.ReferenceIdeal.main_arg9) (Cert.ReferenceIdeal.Line.W m c Cert.ReferenceIdeal.main_arg10) (Cert.ReferenceIdeal.Line.W m c Cert.ReferenceIdeal.main_arg11) (Cert.ReferenceIdeal.Line.W m c Cert.ReferenceIdeal.main_arg12) (Cert.ReferenceIdeal.Line.W m c Cert.ReferenceIdeal.main_arg13) (Cert.ReferenceIdeal.Line.W m c Cert.ReferenceIdeal.main_arg14) (Cert.ReferenceIdeal.Line.W m c Cert.ReferenceIdeal.main_arg15) (Cert.ReferenceIdeal.Line.W m c Cert.ReferenceIdeal.main_arg16) (Cert.ReferenceIdeal.Line.W m c Cert.ReferenceIdeal.main_arg17) (Cert.ReferenceIdeal.Line.W m c Cert.ReferenceIdeal.main_arg18) (Cert.ReferenceIdeal.Line.W m c Cert.ReferenceIdeal.main_arg19) (Cert.ReferenceIdeal.Line.W m c Cert.ReferenceIdeal.main_arg20) (Cert.ReferenceIdeal.Line.W m c Cert.ReferenceIdeal.main_arg21) (Cert.ReferenceIdeal.Line.W m c Cert.ReferenceIdeal.main_arg22) (Cert.ReferenceIdeal.Line.W m c Cert.ReferenceIdeal.main_arg23) = _
  unfold Cert.ReferenceIdeal.Line.W
  rw [h Cert.ReferenceIdeal.main_arg0 (by decide), h Cert.ReferenceIdeal.main_arg1 (by decide), h Cert.ReferenceIdeal.main_arg2 (by decide), h Cert.ReferenceIdeal.main_arg3 (by decide), h Cert.ReferenceIdeal.main_arg5 (by decide), h Cert.ReferenceIdeal.main_arg6 (by decide), h Cert.ReferenceIdeal.main_arg7 (by decide), h Cert.ReferenceIdeal.main_arg8 (by decide), h Cert.ReferenceIdeal.main_arg9 (by decide), h Cert.ReferenceIdeal.main_arg10 (by decide), h Cert.ReferenceIdeal.main_arg11 (by decide), h Cert.ReferenceIdeal.main_arg12 (by decide), h Cert.ReferenceIdeal.main_arg13 (by decide), h Cert.ReferenceIdeal.main_arg14 (by decide), h Cert.ReferenceIdeal.main_arg15 (by decide), h Cert.ReferenceIdeal.main_arg16 (by decide), h Cert.ReferenceIdeal.main_arg17 (by decide), h Cert.ReferenceIdeal.main_arg18 (by decide), h Cert.ReferenceIdeal.main_arg19 (by decide), h Cert.ReferenceIdeal.main_arg20 (by decide), h Cert.ReferenceIdeal.main_arg21 (by decide), h Cert.ReferenceIdeal.main_arg22 (by decide), h Cert.ReferenceIdeal.main_arg23 (by decide)]

end Cert.Equation

end
-- ==== Proof.Algebraic.lean ====
/- The value claim: from memories that agree on the arguments both programs end with the same result. -/
module

public import proofs.«01_k».proof.Defs
public import proofs.«01_k».proof.Proof.Equation
public import proofs.«01_k».proof.Proof.KernelFrame

@[expose] public section

set_option maxRecDepth 16384

noncomputable section

namespace Cert.Equation

open Cert.First Cert.Plain
open Idealize.ShloMosaic Idealize.ShloMosaic.TcCoe Idealize.ShloMosaic.Tactic Idealize.SL.Sem

instance : Cert.Pre_finite_temperature.Facts := {}

/-- The bits of infinity. -/
theorem ofBits_inf : Ideal.ofBits FTy.f32 2139095040#32 = (⊤ : EReal) := by simp [Ideal.ofBits, Ideal.ieee]

/-- The precondition bounds the temperature's logarithm. -/
theorem temperature (m : (ℓ : Loc Cert.KernelIdeal.nD Cert.KernelIdeal.τ Cert.KernelIdeal.sig) → Buf (Elt Ideal) ℓ)
    (h : Cert.Pre_KernelIdeal_finite_temperature m) (c : Dev Cert.KernelIdeal.nD) :
    Finite (Ideal.exp (m ((c.tc : Thread Cert.KernelIdeal.nD Cert.KernelIdeal.τ).loc Cert.KernelIdeal.main_arg4) ix0)) := by
  have e := congrFun (h c) ix0
  unfold Cert.Pre_finite_temperature.fn at e
  have e' : Ideal.cmp .olt (m ((c.tc : Thread Cert.KernelIdeal.nD Cert.KernelIdeal.τ).loc Cert.KernelIdeal.main_arg4) ix0 : EReal)
    (Ideal.ofBits FTy.f32 2139095040#32) = 1#1 := e
  rw [ofBits_inf] at e'
  refine exp_finite ?_
  by_contra hn
  simp [Ideal.cmp, hn] at e'

/-- What the kernel program's run says at its end. -/
theorem kernel_ends (m : (ℓ : Loc Cert.KernelIdeal.nD Cert.KernelIdeal.τ Cert.KernelIdeal.sig) → Buf (Elt Ideal) ℓ)
    {r : PUnit × MemSt Cert.KernelIdeal.nD Cert.KernelIdeal.τ Cert.KernelIdeal.sig (Elt Ideal)} (c : Dev Cert.KernelIdeal.nD)
    (h : Pipeline.FramePost Cert.KernelIdeal.cfgs (Cert.KernelIdeal.Hand.dats m Cert.KernelIdeal.Hand.slot_in_range) 0
      (Pipeline.afterTail₀ Cert.KernelIdeal.cfgs (Cert.KernelIdeal.Hand.dats m Cert.KernelIdeal.Hand.slot_in_range) 0
        (Cert.KernelIdeal.Gen.V0 m) [Cert.KernelIdeal.Gen.hostOps1]) r) :
    r.2.mem ((c.tc : Thread Cert.KernelIdeal.nD Cert.KernelIdeal.τ).loc Cert.KernelIdeal.main_v15)
      = Cert.KernelIdeal.Hand.joined (Cert.KernelIdeal.Hand.found m c) :=
  ((h c).2 Cert.KernelIdeal.main_v15 (Pipeline.mem_restRefs_of _ (by decide) (by decide))).trans (Cert.KernelIdeal.Hand.tail_value m c)

/-- The value claim. -/
theorem algebraic : Cert.algebraic_KernelIdeal_ReferenceIdeal_pre_finite_temperature := fun m g m' g' hpre hargs => by
  have value : ∀ c, Cert.ReferenceIdeal.Line.W m' c Cert.ReferenceIdeal.main_v156
      = Cert.KernelIdeal.Hand.joined (Cert.KernelIdeal.Hand.found m c) := fun c => by
    obtain ⟨a0, a1, a2, a3, a4, a5, a6, a7, a8, a9, a10, a11, a12, a13, a14, a15, a16, a17, a18, a19, a20, a21, a22, a23⟩ := hargs c
    have hg : Cert.ReferenceIdeal.Line.plain m' c = Cert.KernelIdeal.Hand.plain (Cert.KernelIdeal.Hand.found m c) := by
      rw [kernel_given, reference_given, a0, a1, a2, a3, a5, a6, a7, a8, a9, a10, a11, a12, a13, a14, a15, a16, a17, a18, a19, a20, a21, a22, a23]
    have hT : Finite (Ideal.exp (Cert.ReferenceIdeal.Line.W m' c Cert.ReferenceIdeal.main_arg4 ix0)) := by
      have e : Cert.ReferenceIdeal.Line.W m' c Cert.ReferenceIdeal.main_arg4 = _ :=
        (Cert.ReferenceIdeal.Line.final_arg m' c Cert.ReferenceIdeal.main_arg4 (by decide)).trans a4
      rw [e]
      exact temperature m hpre c
    funext i
    idx_vars i
    exact (Cert.ReferenceIdeal.Line.result_form m' c hT i0).trans (by rw [hg]; exact (Cert.KernelIdeal.Hand.joined_form _ i0).symm)
  refine ⟨fun c => Cert.KernelIdeal.Hand.joined (Cert.KernelIdeal.Hand.found m c),
    (θ_run _ _ _).mono (fun _ h c => ⟨kernel_ends m c h.1, (Cert.KernelIdeal.Hand.ends_as m c Cert.KernelIdeal.main_arg0 h.1 (by decide) (by decide) (by decide)).trans (Cert.KernelIdeal.Gen.V_main_arg0 m c),
      (Cert.KernelIdeal.Hand.ends_as m c Cert.KernelIdeal.main_arg1 h.1 (by decide) (by decide) (by decide)).trans (Cert.KernelIdeal.Gen.V_main_arg1 m c),
      (Cert.KernelIdeal.Hand.ends_as m c Cert.KernelIdeal.main_arg2 h.1 (by decide) (by decide) (by decide)).trans (Cert.KernelIdeal.Gen.V_main_arg2 m c),
      (Cert.KernelIdeal.Hand.ends_as m c Cert.KernelIdeal.main_arg3 h.1 (by decide) (by decide) (by decide)).trans (Cert.KernelIdeal.Gen.V_main_arg3 m c),
      (Cert.KernelIdeal.Hand.ends_as m c Cert.KernelIdeal.main_arg4 h.1 (by decide) (by decide) (by decide)).trans (Cert.KernelIdeal.Gen.V_main_arg4 m c),
      (Cert.KernelIdeal.Hand.ends_as m c Cert.KernelIdeal.main_arg5 h.1 (by decide) (by decide) (by decide)).trans (Cert.KernelIdeal.Gen.V_main_arg5 m c),
      (Cert.KernelIdeal.Hand.ends_as m c Cert.KernelIdeal.main_arg6 h.1 (by decide) (by decide) (by decide)).trans (Cert.KernelIdeal.Gen.V_main_arg6 m c),
      (Cert.KernelIdeal.Hand.ends_as m c Cert.KernelIdeal.main_arg7 h.1 (by decide) (by decide) (by decide)).trans (Cert.KernelIdeal.Gen.V_main_arg7 m c),
      (Cert.KernelIdeal.Hand.ends_as m c Cert.KernelIdeal.main_arg8 h.1 (by decide) (by decide) (by decide)).trans (Cert.KernelIdeal.Gen.V_main_arg8 m c),
      (Cert.KernelIdeal.Hand.ends_as m c Cert.KernelIdeal.main_arg9 h.1 (by decide) (by decide) (by decide)).trans (Cert.KernelIdeal.Gen.V_main_arg9 m c),
      (Cert.KernelIdeal.Hand.ends_as m c Cert.KernelIdeal.main_arg10 h.1 (by decide) (by decide) (by decide)).trans (Cert.KernelIdeal.Gen.V_main_arg10 m c),
      (Cert.KernelIdeal.Hand.ends_as m c Cert.KernelIdeal.main_arg11 h.1 (by decide) (by decide) (by decide)).trans (Cert.KernelIdeal.Gen.V_main_arg11 m c),
      (Cert.KernelIdeal.Hand.ends_as m c Cert.KernelIdeal.main_arg12 h.1 (by decide) (by decide) (by decide)).trans (Cert.KernelIdeal.Gen.V_main_arg12 m c),
      (Cert.KernelIdeal.Hand.ends_as m c Cert.KernelIdeal.main_arg13 h.1 (by decide) (by decide) (by decide)).trans (Cert.KernelIdeal.Gen.V_main_arg13 m c),
      (Cert.KernelIdeal.Hand.ends_as m c Cert.KernelIdeal.main_arg14 h.1 (by decide) (by decide) (by decide)).trans (Cert.KernelIdeal.Gen.V_main_arg14 m c),
      (Cert.KernelIdeal.Hand.ends_as m c Cert.KernelIdeal.main_arg15 h.1 (by decide) (by decide) (by decide)).trans (Cert.KernelIdeal.Gen.V_main_arg15 m c),
      (Cert.KernelIdeal.Hand.ends_as m c Cert.KernelIdeal.main_arg16 h.1 (by decide) (by decide) (by decide)).trans (Cert.KernelIdeal.Gen.V_main_arg16 m c),
      (Cert.KernelIdeal.Hand.ends_as m c Cert.KernelIdeal.main_arg17 h.1 (by decide) (by decide) (by decide)).trans (Cert.KernelIdeal.Gen.V_main_arg17 m c),
      (Cert.KernelIdeal.Hand.ends_as m c Cert.KernelIdeal.main_arg18 h.1 (by decide) (by decide) (by decide)).trans (Cert.KernelIdeal.Gen.V_main_arg18 m c),
      (Cert.KernelIdeal.Hand.ends_as m c Cert.KernelIdeal.main_arg19 h.1 (by decide) (by decide) (by decide)).trans (Cert.KernelIdeal.Gen.V_main_arg19 m c),
      (Cert.KernelIdeal.Hand.ends_as m c Cert.KernelIdeal.main_arg20 h.1 (by decide) (by decide) (by decide)).trans (Cert.KernelIdeal.Gen.V_main_arg20 m c),
      (Cert.KernelIdeal.Hand.ends_as m c Cert.KernelIdeal.main_arg21 h.1 (by decide) (by decide) (by decide)).trans (Cert.KernelIdeal.Gen.V_main_arg21 m c),
      (Cert.KernelIdeal.Hand.ends_as m c Cert.KernelIdeal.main_arg22 h.1 (by decide) (by decide) (by decide)).trans (Cert.KernelIdeal.Gen.V_main_arg22 m c),
      (Cert.KernelIdeal.Hand.ends_as m c Cert.KernelIdeal.main_arg23 h.1 (by decide) (by decide) (by decide)).trans (Cert.KernelIdeal.Gen.V_main_arg23 m c)⟩) (Cert.KernelIdeal.Hand.run_main_quiescent m g Cert.KernelIdeal.Hand.slot_in_range),
    (θ_run _ _ _).mono (fun _ h c => ⟨(h c Cert.ReferenceIdeal.main_v156).trans (value c), (h c Cert.ReferenceIdeal.main_arg0).trans (Cert.ReferenceIdeal.Line.final_arg m' c Cert.ReferenceIdeal.main_arg0 (by decide)),
      (h c Cert.ReferenceIdeal.main_arg1).trans (Cert.ReferenceIdeal.Line.final_arg m' c Cert.ReferenceIdeal.main_arg1 (by decide)),
      (h c Cert.ReferenceIdeal.main_arg2).trans (Cert.ReferenceIdeal.Line.final_arg m' c Cert.ReferenceIdeal.main_arg2 (by decide)),
      (h c Cert.ReferenceIdeal.main_arg3).trans (Cert.ReferenceIdeal.Line.final_arg m' c Cert.ReferenceIdeal.main_arg3 (by decide)),
      (h c Cert.ReferenceIdeal.main_arg4).trans (Cert.ReferenceIdeal.Line.final_arg m' c Cert.ReferenceIdeal.main_arg4 (by decide)),
      (h c Cert.ReferenceIdeal.main_arg5).trans (Cert.ReferenceIdeal.Line.final_arg m' c Cert.ReferenceIdeal.main_arg5 (by decide)),
      (h c Cert.ReferenceIdeal.main_arg6).trans (Cert.ReferenceIdeal.Line.final_arg m' c Cert.ReferenceIdeal.main_arg6 (by decide)),
      (h c Cert.ReferenceIdeal.main_arg7).trans (Cert.ReferenceIdeal.Line.final_arg m' c Cert.ReferenceIdeal.main_arg7 (by decide)),
      (h c Cert.ReferenceIdeal.main_arg8).trans (Cert.ReferenceIdeal.Line.final_arg m' c Cert.ReferenceIdeal.main_arg8 (by decide)),
      (h c Cert.ReferenceIdeal.main_arg9).trans (Cert.ReferenceIdeal.Line.final_arg m' c Cert.ReferenceIdeal.main_arg9 (by decide)),
      (h c Cert.ReferenceIdeal.main_arg10).trans (Cert.ReferenceIdeal.Line.final_arg m' c Cert.ReferenceIdeal.main_arg10 (by decide)),
      (h c Cert.ReferenceIdeal.main_arg11).trans (Cert.ReferenceIdeal.Line.final_arg m' c Cert.ReferenceIdeal.main_arg11 (by decide)),
      (h c Cert.ReferenceIdeal.main_arg12).trans (Cert.ReferenceIdeal.Line.final_arg m' c Cert.ReferenceIdeal.main_arg12 (by decide)),
      (h c Cert.ReferenceIdeal.main_arg13).trans (Cert.ReferenceIdeal.Line.final_arg m' c Cert.ReferenceIdeal.main_arg13 (by decide)),
      (h c Cert.ReferenceIdeal.main_arg14).trans (Cert.ReferenceIdeal.Line.final_arg m' c Cert.ReferenceIdeal.main_arg14 (by decide)),
      (h c Cert.ReferenceIdeal.main_arg15).trans (Cert.ReferenceIdeal.Line.final_arg m' c Cert.ReferenceIdeal.main_arg15 (by decide)),
      (h c Cert.ReferenceIdeal.main_arg16).trans (Cert.ReferenceIdeal.Line.final_arg m' c Cert.ReferenceIdeal.main_arg16 (by decide)),
      (h c Cert.ReferenceIdeal.main_arg17).trans (Cert.ReferenceIdeal.Line.final_arg m' c Cert.ReferenceIdeal.main_arg17 (by decide)),
      (h c Cert.ReferenceIdeal.main_arg18).trans (Cert.ReferenceIdeal.Line.final_arg m' c Cert.ReferenceIdeal.main_arg18 (by decide)),
      (h c Cert.ReferenceIdeal.main_arg19).trans (Cert.ReferenceIdeal.Line.final_arg m' c Cert.ReferenceIdeal.main_arg19 (by decide)),
      (h c Cert.ReferenceIdeal.main_arg20).trans (Cert.ReferenceIdeal.Line.final_arg m' c Cert.ReferenceIdeal.main_arg20 (by decide)),
      (h c Cert.ReferenceIdeal.main_arg21).trans (Cert.ReferenceIdeal.Line.final_arg m' c Cert.ReferenceIdeal.main_arg21 (by decide)),
      (h c Cert.ReferenceIdeal.main_arg22).trans (Cert.ReferenceIdeal.Line.final_arg m' c Cert.ReferenceIdeal.main_arg22 (by decide)),
      (h c Cert.ReferenceIdeal.main_arg23).trans (Cert.ReferenceIdeal.Line.final_arg m' c Cert.ReferenceIdeal.main_arg23 (by decide))⟩) (Cert.ReferenceIdeal.Line.run m' g')⟩

end Cert.Equation

end
-- ==== Proof.lean ====
/- The claim, assembled from the modules under Proof/. -/
module

public import proofs.«01_k».proof.Defs
public import proofs.«01_k».proof.Proof.Gen.KernelIdeal
public import proofs.«01_k».proof.Proof.Gen.ReferenceIdeal
public import proofs.«01_k».proof.Proof.KernelFrame
public import proofs.«01_k».proof.Proof.RefRun
public import proofs.«01_k».proof.Proof.Algebraic

@[expose] public section

noncomputable section

namespace Cert.Proof

/-- Both programs run to their ends, leave their arguments and the semaphores as they were, and, where the temperature is
    finite, return the same. -/
theorem claim : Cert.Claim := ⟨Cert.KernelIdeal.Gen.facts, Cert.ReferenceIdeal.Gen.facts, {},
  Cert.KernelIdeal.Hand.quiescent, fun m g _ => Cert.KernelIdeal.Hand.quiescent m g trivial,
  Cert.ReferenceIdeal.Line.quiescent, fun m g _ => Cert.ReferenceIdeal.Line.quiescent m g trivial,
  Cert.Equation.algebraic⟩

end Cert.Proof

end
